-- ==== Defs.lean ====
def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_finite [hPre_finite : Cert.Pre_finite.Facts] (m : (ℓ : Loc Cert.PromptIdeal.nD Cert.PromptIdeal.τ Cert.PromptIdeal.sig) → Buf (Elt Ideal) ℓ) : Prop :=
  ∀ c : Dev Cert.PromptIdeal.nD,
    (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6))).1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6))).2.1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6))).2.2 = (fun _ => 1#1)

def Pre_PromptRefIdeal (m : (ℓ : Loc Cert.PromptRefIdeal.nD Cert.PromptRefIdeal.τ Cert.PromptRefIdeal.sig) → Buf (Elt Ideal) ℓ) : Prop :=
  True

def Pre_PromptRefIdeal_finite [hPre_finite : Cert.Pre_finite.Facts] (m : (ℓ : Loc Cert.PromptRefIdeal.nD Cert.PromptRefIdeal.τ Cert.PromptRefIdeal.sig) → Buf (Elt Ideal) ℓ) : Prop :=
  ∀ c : Dev Cert.PromptRefIdeal.nD,
    (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6))).1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6))).2.1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Fs (m : (ℓ : Loc Cert.Fs.nD Cert.Fs.τ Cert.Fs.sig) → Buf (Elt Bits) ℓ) : Prop :=
  True

def Pre_FsIdeal (m : (ℓ : Loc Cert.FsIdeal.nD Cert.FsIdeal.τ Cert.FsIdeal.sig) → Buf (Elt Ideal) ℓ) : Prop :=
  True

def Pre_FsRefIdeal (m : (ℓ : Loc Cert.FsRefIdeal.nD Cert.FsRefIdeal.τ Cert.FsRefIdeal.sig) → Buf (Elt Ideal) ℓ) : Prop :=
  True

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_PromptIdeal_pre_finite [hPromptIdeal : Cert.PromptIdeal.Facts] [hPre_finite : Cert.Pre_finite.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_finite m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6))
      ∧ r.2.sem = fun _ => 0)

def quiescent_PromptRefIdeal_pre_finite [hPromptRefIdeal : Cert.PromptRefIdeal.Facts] [hPre_finite : Cert.Pre_finite.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal_finite m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Fs [hFs : Cert.Fs.Facts] : Prop :=
  ∀ (m : (ℓ : Loc Cert.Fs.nD Cert.Fs.τ Cert.Fs.sig) → Buf (Elt Bits) ℓ) (g : Dev Cert.Fs.nD → PrngReg), Pre_Fs m →
    θ_run (Cert.Fs.defs (F := Bits)) (onTc (τ := Cert.Fs.τ) (Cert.Fs.main (F := Bits))) ⟨m, fun _ => 0, g⟩ (fun r => (∀ c : Dev Cert.Fs.nD,
      r.2.mem ((c.tc : Thread Cert.Fs.nD Cert.Fs.τ).loc Cert.Fs.main_arg0) = m ((c.tc : Thread Cert.Fs.nD Cert.Fs.τ).loc Cert.Fs.main_arg0)
      ∧ r.2.mem ((c.tc : Thread Cert.Fs.nD Cert.Fs.τ).loc Cert.Fs.main_arg1) = m ((c.tc : Thread Cert.Fs.nD Cert.Fs.τ).loc Cert.Fs.main_arg1)
      ∧ r.2.mem ((c.tc : Thread Cert.Fs.nD Cert.Fs.τ).loc Cert.Fs.main_arg2) = m ((c.tc : Thread Cert.Fs.nD Cert.Fs.τ).loc Cert.Fs.main_arg2)
      ∧ r.2.mem ((c.tc : Thread Cert.Fs.nD Cert.Fs.τ).loc Cert.Fs.main_arg3) = m ((c.tc : Thread Cert.Fs.nD Cert.Fs.τ).loc Cert.Fs.main_arg3)
      ∧ r.2.mem ((c.tc : Thread Cert.Fs.nD Cert.Fs.τ).loc Cert.Fs.main_arg4) = m ((c.tc : Thread Cert.Fs.nD Cert.Fs.τ).loc Cert.Fs.main_arg4))
      ∧ r.2.sem = fun _ => 0)

def quiescent_FsIdeal [hFsIdeal : Cert.FsIdeal.Facts] : Prop :=
  ∀ (m : (ℓ : Loc Cert.FsIdeal.nD Cert.FsIdeal.τ Cert.FsIdeal.sig) → Buf (Elt Ideal) ℓ) (g : Dev Cert.FsIdeal.nD → PrngReg), Pre_FsIdeal m →
    θ_run (Cert.FsIdeal.defs (F := Ideal)) (onTc (τ := Cert.FsIdeal.τ) (Cert.FsIdeal.main (F := Ideal))) ⟨m, fun _ => 0, g⟩ (fun r => (∀ c : Dev Cert.FsIdeal.nD,
      r.2.mem ((c.tc : Thread Cert.FsIdeal.nD Cert.FsIdeal.τ).loc Cert.FsIdeal.main_arg0) = m ((c.tc : Thread Cert.FsIdeal.nD Cert.FsIdeal.τ).loc Cert.FsIdeal.main_arg0)
      ∧ r.2.mem ((c.tc : Thread Cert.FsIdeal.nD Cert.FsIdeal.τ).loc Cert.FsIdeal.main_arg1) = m ((c.tc : Thread Cert.FsIdeal.nD Cert.FsIdeal.τ).loc Cert.FsIdeal.main_arg1)
      ∧ r.2.mem ((c.tc : Thread Cert.FsIdeal.nD Cert.FsIdeal.τ).loc Cert.FsIdeal.main_arg2) = m ((c.tc : Thread Cert.FsIdeal.nD Cert.FsIdeal.τ).loc Cert.FsIdeal.main_arg2)
      ∧ r.2.mem ((c.tc : Thread Cert.FsIdeal.nD Cert.FsIdeal.τ).loc Cert.FsIdeal.main_arg3) = m ((c.tc : Thread Cert.FsIdeal.nD Cert.FsIdeal.τ).loc Cert.FsIdeal.main_arg3)
      ∧ r.2.mem ((c.tc : Thread Cert.FsIdeal.nD Cert.FsIdeal.τ).loc Cert.FsIdeal.main_arg4) = m ((c.tc : Thread Cert.FsIdeal.nD Cert.FsIdeal.τ).loc Cert.FsIdeal.main_arg4))
      ∧ r.2.sem = fun _ => 0)

def quiescent_FsRefIdeal [hFsRefIdeal : Cert.FsRefIdeal.Facts] : Prop :=
  ∀ (m : (ℓ : Loc Cert.FsRefIdeal.nD Cert.FsRefIdeal.τ Cert.FsRefIdeal.sig) → Buf (Elt Ideal) ℓ) (g : Dev Cert.FsRefIdeal.nD → PrngReg), Pre_FsRefIdeal m →
    θ_run (Cert.FsRefIdeal.defs (F := Ideal)) (onTc (τ := Cert.FsRefIdeal.τ) (Cert.FsRefIdeal.main (F := Ideal))) ⟨m, fun _ => 0, g⟩ (fun r => (∀ c : Dev Cert.FsRefIdeal.nD,
      r.2.mem ((c.tc : Thread Cert.FsRefIdeal.nD Cert.FsRefIdeal.τ).loc Cert.FsRefIdeal.main_arg0) = m ((c.tc : Thread Cert.FsRefIdeal.nD Cert.FsRefIdeal.τ).loc Cert.FsRefIdeal.main_arg0)
      ∧ r.2.mem ((c.tc : Thread Cert.FsRefIdeal.nD Cert.FsRefIdeal.τ).loc Cert.FsRefIdeal.main_arg1) = m ((c.tc : Thread Cert.FsRefIdeal.nD Cert.FsRefIdeal.τ).loc Cert.FsRefIdeal.main_arg1)
      ∧ r.2.mem ((c.tc : Thread Cert.FsRefIdeal.nD Cert.FsRefIdeal.τ).loc Cert.FsRefIdeal.main_arg2) = m ((c.tc : Thread Cert.FsRefIdeal.nD Cert.FsRefIdeal.τ).loc Cert.FsRefIdeal.main_arg2)
      ∧ r.2.mem ((c.tc : Thread Cert.FsRefIdeal.nD Cert.FsRefIdeal.τ).loc Cert.FsRefIdeal.main_arg3) = m ((c.tc : Thread Cert.FsRefIdeal.nD Cert.FsRefIdeal.τ).loc Cert.FsRefIdeal.main_arg3)
      ∧ r.2.mem ((c.tc : Thread Cert.FsRefIdeal.nD Cert.FsRefIdeal.τ).loc Cert.FsRefIdeal.main_arg4) = m ((c.tc : Thread Cert.FsRefIdeal.nD Cert.FsRefIdeal.τ).loc Cert.FsRefIdeal.main_arg4))
      ∧ r.2.sem = fun _ => 0)

def preserves_Prompt_PromptIdeal : Prop :=
  IdealRules.named_const.Statement Cert.PromptIdeal.κ "log_gamma_0" .f32 0xBD020AEC#32 ((Real.log (31 / 32) : ℝ) : EReal)
  ∧ IdealRules.named_const.Statement Cert.PromptIdeal.κ "gamma256_0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.PromptIdeal.κ "log_gamma_1" .f32 0xBC8102B3#32 ((Real.log (63 / 64) : ℝ) : EReal)
  ∧ IdealRules.named_const.Statement Cert.PromptIdeal.κ "gamma256_1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.PromptIdeal.κ "log_gamma_2" .f32 0xBC0080AC#32 ((Real.log (127 / 128) : ℝ) : EReal)
  ∧ IdealRules.named_const.Statement Cert.PromptIdeal.κ "gamma256_2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.PromptIdeal.κ "log_gamma_3" .f32 0xBB80402B#32 ((Real.log (255 / 256) : ℝ) : EReal)
  ∧ IdealRules.named_const.Statement Cert.PromptIdeal.κ "gamma256_3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_PromptIdeal_PromptRefIdeal_pre_finite [hPromptIdeal : Cert.PromptIdeal.Facts] [hPromptRefIdeal : Cert.PromptRefIdeal.Facts] [hPre_finite : Cert.Pre_finite.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal_finite m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)) →
    ∃ (v0 : (c : Dev Cert.PromptIdeal.nD) → Buf (Elt Ideal) ((c.tc : Thread Cert.PromptIdeal.nD Cert.PromptIdeal.τ).loc Cert.PromptIdeal.main_v28_0)) (v1 : (c : Dev Cert.PromptIdeal.nD) → Buf (Elt Ideal) ((c.tc : Thread Cert.PromptIdeal.nD Cert.PromptIdeal.τ).loc Cert.PromptIdeal.main_v28_1)) (v2 : (c : Dev Cert.PromptIdeal.nD) → Buf (Elt Ideal) ((c.tc : Thread Cert.PromptIdeal.nD Cert.PromptIdeal.τ).loc Cert.PromptIdeal.main_v28_2)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v28_0) = v0 c
          ∧ r.2.mem ((c.tc : Thread Cert.PromptIdeal.nD Cert.PromptIdeal.τ).loc Cert.PromptIdeal.main_v28_1) = v1 c
          ∧ r.2.mem ((c.tc : Thread Cert.PromptIdeal.nD Cert.PromptIdeal.τ).loc Cert.PromptIdeal.main_v28_2) = v2 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v21) = v0 c
          ∧ r.2.mem ((c.tc : Thread Cert.PromptRefIdeal.nD Cert.PromptRefIdeal.τ).loc Cert.PromptRefIdeal.main_v20_9) = v1 c
          ∧ r.2.mem ((c.tc : Thread Cert.PromptRefIdeal.nD Cert.PromptRefIdeal.τ).loc Cert.PromptRefIdeal.main_v20_10) = v2 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Fs_FsIdeal : Prop :=
  True

def algebraic_FsIdeal_FsRefIdeal [hFsIdeal : Cert.FsIdeal.Facts] [hFsRefIdeal : Cert.FsRefIdeal.Facts] : Prop :=
  ∀ (m : (ℓ : Loc Cert.FsIdeal.nD Cert.FsIdeal.τ Cert.FsIdeal.sig) → Buf (Elt Ideal) ℓ) (g : Dev Cert.FsIdeal.nD → PrngReg)
    (m' : (ℓ : Loc Cert.FsRefIdeal.nD Cert.FsRefIdeal.τ Cert.FsRefIdeal.sig) → Buf (Elt Ideal) ℓ) (g' : Dev Cert.FsRefIdeal.nD → PrngReg), Pre_FsIdeal m →
    (∀ c : Dev Cert.FsIdeal.nD,
      m' ((c.tc : Thread Cert.FsRefIdeal.nD Cert.FsRefIdeal.τ).loc Cert.FsRefIdeal.main_arg0) = m ((c.tc : Thread Cert.FsIdeal.nD Cert.FsIdeal.τ).loc Cert.FsIdeal.main_arg0)
      ∧ m' ((c.tc : Thread Cert.FsRefIdeal.nD Cert.FsRefIdeal.τ).loc Cert.FsRefIdeal.main_arg1) = m ((c.tc : Thread Cert.FsIdeal.nD Cert.FsIdeal.τ).loc Cert.FsIdeal.main_arg1)
      ∧ m' ((c.tc : Thread Cert.FsRefIdeal.nD Cert.FsRefIdeal.τ).loc Cert.FsRefIdeal.main_arg2) = m ((c.tc : Thread Cert.FsIdeal.nD Cert.FsIdeal.τ).loc Cert.FsIdeal.main_arg2)
      ∧ m' ((c.tc : Thread Cert.FsRefIdeal.nD Cert.FsRefIdeal.τ).loc Cert.FsRefIdeal.main_arg3) = m ((c.tc : Thread Cert.FsIdeal.nD Cert.FsIdeal.τ).loc Cert.FsIdeal.main_arg3)
      ∧ m' ((c.tc : Thread Cert.FsRefIdeal.nD Cert.FsRefIdeal.τ).loc Cert.FsRefIdeal.main_arg4) = m ((c.tc : Thread Cert.FsIdeal.nD Cert.FsIdeal.τ).loc Cert.FsIdeal.main_arg4)) →
    ∃ (v0 : (c : Dev Cert.FsIdeal.nD) → Buf (Elt Ideal) ((c.tc : Thread Cert.FsIdeal.nD Cert.FsIdeal.τ).loc Cert.FsIdeal.main_v8)),
      θ_run (Cert.FsIdeal.defs (F := Ideal)) (onTc (τ := Cert.FsIdeal.τ) (Cert.FsIdeal.main (F := Ideal))) ⟨m, fun _ => 0, g⟩ (fun r => ∀ c : Dev Cert.FsIdeal.nD,
          r.2.mem ((c.tc : Thread Cert.FsIdeal.nD Cert.FsIdeal.τ).loc Cert.FsIdeal.main_v8) = v0 c
          ∧ r.2.mem ((c.tc : Thread Cert.FsIdeal.nD Cert.FsIdeal.τ).loc Cert.FsIdeal.main_arg0) = m ((c.tc : Thread Cert.FsIdeal.nD Cert.FsIdeal.τ).loc Cert.FsIdeal.main_arg0)
          ∧ r.2.mem ((c.tc : Thread Cert.FsIdeal.nD Cert.FsIdeal.τ).loc Cert.FsIdeal.main_arg1) = m ((c.tc : Thread Cert.FsIdeal.nD Cert.FsIdeal.τ).loc Cert.FsIdeal.main_arg1)
          ∧ r.2.mem ((c.tc : Thread Cert.FsIdeal.nD Cert.FsIdeal.τ).loc Cert.FsIdeal.main_arg2) = m ((c.tc : Thread Cert.FsIdeal.nD Cert.FsIdeal.τ).loc Cert.FsIdeal.main_arg2)
          ∧ r.2.mem ((c.tc : Thread Cert.FsIdeal.nD Cert.FsIdeal.τ).loc Cert.FsIdeal.main_arg3) = m ((c.tc : Thread Cert.FsIdeal.nD Cert.FsIdeal.τ).loc Cert.FsIdeal.main_arg3)
          ∧ r.2.mem ((c.tc : Thread Cert.FsIdeal.nD Cert.FsIdeal.τ).loc Cert.FsIdeal.main_arg4) = m ((c.tc : Thread Cert.FsIdeal.nD Cert.FsIdeal.τ).loc Cert.FsIdeal.main_arg4))
      ∧ θ_run (Cert.FsRefIdeal.defs (F := Ideal)) (onTc (τ := Cert.FsRefIdeal.τ) (Cert.FsRefIdeal.main (F := Ideal))) ⟨m', fun _ => 0, g'⟩ (fun r => ∀ c : Dev Cert.FsRefIdeal.nD,
          r.2.mem ((c.tc : Thread Cert.FsRefIdeal.nD Cert.FsRefIdeal.τ).loc Cert.FsRefIdeal.main_v34) = v0 c
          ∧ r.2.mem ((c.tc : Thread Cert.FsRefIdeal.nD Cert.FsRefIdeal.τ).loc Cert.FsRefIdeal.main_arg0) = m' ((c.tc : Thread Cert.FsRefIdeal.nD Cert.FsRefIdeal.τ).loc Cert.FsRefIdeal.main_arg0)
          ∧ r.2.mem ((c.tc : Thread Cert.FsRefIdeal.nD Cert.FsRefIdeal.τ).loc Cert.FsRefIdeal.main_arg1) = m' ((c.tc : Thread Cert.FsRefIdeal.nD Cert.FsRefIdeal.τ).loc Cert.FsRefIdeal.main_arg1)
          ∧ r.2.mem ((c.tc : Thread Cert.FsRefIdeal.nD Cert.FsRefIdeal.τ).loc Cert.FsRefIdeal.main_arg2) = m' ((c.tc : Thread Cert.FsRefIdeal.nD Cert.FsRefIdeal.τ).loc Cert.FsRefIdeal.main_arg2)
          ∧ r.2.mem ((c.tc : Thread Cert.FsRefIdeal.nD Cert.FsRefIdeal.τ).loc Cert.FsRefIdeal.main_arg3) = m' ((c.tc : Thread Cert.FsRefIdeal.nD Cert.FsRefIdeal.τ).loc Cert.FsRefIdeal.main_arg3)
          ∧ r.2.mem ((c.tc : Thread Cert.FsRefIdeal.nD Cert.FsRefIdeal.τ).loc Cert.FsRefIdeal.main_arg4) = m' ((c.tc : Thread Cert.FsRefIdeal.nD Cert.FsRefIdeal.τ).loc Cert.FsRefIdeal.main_arg4))

def Claim : Prop :=
  ∃ (hPrompt : Cert.Prompt.Facts) (hPromptIdeal : Cert.PromptIdeal.Facts) (hPromptRefIdeal : Cert.PromptRefIdeal.Facts) (hFfn : Cert.Ffn.Facts) (hFfnIdeal : Cert.FfnIdeal.Facts) (hFfnRefIdeal : Cert.FfnRefIdeal.Facts) (hFs : Cert.Fs.Facts) (hFsIdeal : Cert.FsIdeal.Facts) (hFsRefIdeal : Cert.FsRefIdeal.Facts) (hPre_finite : Cert.Pre_finite.Facts),
    quiescent_Prompt (hPrompt := hPrompt)
    ∧ quiescent_PromptIdeal (hPromptIdeal := hPromptIdeal)
    ∧ quiescent_PromptIdeal_pre_finite (hPromptIdeal := hPromptIdeal) (hPre_finite := hPre_finite)
    ∧ quiescent_PromptRefIdeal (hPromptRefIdeal := hPromptRefIdeal)
    ∧ quiescent_PromptRefIdeal_pre_finite (hPromptRefIdeal := hPromptRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Fs (hFs := hFs)
    ∧ quiescent_FsIdeal (hFsIdeal := hFsIdeal)
    ∧ quiescent_FsRefIdeal (hFsRefIdeal := hFsRefIdeal)
    ∧ preserves_Prompt_PromptIdeal
    ∧ algebraic_PromptIdeal_PromptRefIdeal_pre_finite (hPromptIdeal := hPromptIdeal) (hPromptRefIdeal := hPromptRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Fs_FsIdeal
    ∧ algebraic_FsIdeal_FsRefIdeal (hFsIdeal := hFsIdeal) (hFsRefIdeal := hFsRefIdeal)
-- ==== Pre_finite.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x128 : Shape := ⟨2, ![1, 128]⟩
abbrev S2x512 : Shape := ⟨2, ![2, 512]⟩
abbrev S1x1024x1024 : Shape := ⟨3, ![1, 1024, 1024]⟩
abbrev S_ : Shape := ⟨0, ![]⟩

class Facts : Prop where
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S2x512 : S_.BroadcastsInDim S2x512 (![] : Fin 0 → Fin S2x512.rank)

variable [Facts]

def fn {F : FTy → Type} [FloatOps F] (main_arg0 : FVec F S8x2048x1024 .f32) (main_arg1 : FVec F S1x1024 .f32) (main_arg2 : FVec F S1x1024x4096 .f32) (main_arg3 : FVec F S1x128 .f32) (main_arg4 : FVec F S1x128 .f32) (main_arg5 : FVec F S2x512 .f32) (main_arg6 : FVec F S1x1024x1024 .f32) : IVec S1x1024 1 × IVec S1x1024x4096 1 × IVec S2x512 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x4096 .f32 := Host.absf main_arg2
  let main_cst_0 : FVec F S_ .f32 := constant S_ .f32 0x7F800000#32
  let main_v4 : FVec F S1x1024x4096 .f32 := broadcastInDim S1x1024x4096 ![] bcast_S_S1x1024x4096 main_cst_0
  let main_v5 : IVec S1x1024x4096 1 := cmpf .olt main_v3 main_v4
  let main_v6 : FVec F S2x512 .f32 := Host.absf main_arg5
  let main_cst_1 : FVec F S_ .f32 := constant S_ .f32 0x7F800000#32
  let main_v7 : FVec F S2x512 .f32 := broadcastInDim S2x512 ![] bcast_S_S2x512 main_cst_1
  let main_v8 : IVec S2x512 1 := cmpf .olt main_v6 main_v7
  (main_v2, main_v5, main_v8)
-- ==== Prompt.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x128 : Shape := ⟨2, ![1, 128]⟩
abbrev S2x512 : Shape := ⟨2, ![2, 512]⟩
abbrev S1x1024x1024 : Shape := ⟨3, ![1, 1024, 1024]⟩
abbrev S1024 : Shape := ⟨1, ![1024]⟩
abbrev S1024x4096 : Shape := ⟨2, ![1024, 4096]⟩
abbrev S1024x1024 : Shape := ⟨2, ![1024, 1024]⟩
abbrev S128 : Shape := ⟨1, ![128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8x4x128x128 : Shape := ⟨4, ![8, 4, 128, 128]⟩
abbrev S1x256x1024 : Shape := ⟨3, ![1, 256, 1024]⟩
abbrev S256x128 : Shape := ⟨2, ![256, 128]⟩
abbrev S1x4x128x128 : Shape := ⟨4, ![1, 4, 128, 128]⟩
abbrev S256x4096 : Shape := ⟨2, ![256, 4096]⟩
abbrev S256x1024 : Shape := ⟨2, ![256, 1024]⟩
abbrev S4x128x128 : Shape := ⟨3, ![4, 128, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x256 : Shape := ⟨2, ![256, 256]⟩
abbrev S512 : Shape := ⟨1, ![512]⟩
abbrev S1x512 : Shape := ⟨2, ![1, 512]⟩
abbrev S1x128x128 : Shape := ⟨3, ![1, 128, 128]⟩
abbrev S128x128 : Shape := ⟨2, ![128, 128]⟩
abbrev S32x8x128 : Shape := ⟨3, ![32, 8, 128]⟩
abbrev S32x1x128 : Shape := ⟨3, ![32, 1, 128]⟩
abbrev S16x16x128 : Shape := ⟨3, ![16, 16, 128]⟩
abbrev S16x1x128 : Shape := ⟨3, ![16, 1, 128]⟩
abbrev S8x32x128 : Shape := ⟨3, ![8, 32, 128]⟩
abbrev S8x1x128 : Shape := ⟨3, ![8, 1, 128]⟩
abbrev S4x64x128 : Shape := ⟨3, ![4, 64, 128]⟩
abbrev S4x1x128 : Shape := ⟨3, ![4, 1, 128]⟩
abbrev S2x128x128 : Shape := ⟨3, ![2, 128, 128]⟩
abbrev S2x1x128 : Shape := ⟨3, ![2, 1, 128]⟩
abbrev S1x256x128 : Shape := ⟨3, ![1, 256, 128]⟩
abbrev S1x1x128 : Shape := ⟨3, ![1, 1, 128]⟩
abbrev S1x1x128x128 : Shape := ⟨4, ![1, 1, 128, 128]⟩

abbrev nBuf : Space → Nat
  | .hbm => 40
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x4096, .f32⟩
  | .hbm, ⟨3, _⟩ => ⟨S1x128, .f32⟩
  | .hbm, ⟨4, _⟩ => ⟨S1x128, .f32⟩
  | .hbm, ⟨5, _⟩ => ⟨S2x512, .f32⟩
  | .hbm, ⟨6, _⟩ => ⟨S1x1024x1024, .f32⟩
  | .hbm, ⟨7, _⟩ => ⟨S1024, .f32⟩
  | .hbm, ⟨8, _⟩ => ⟨S1x1024, .f32⟩
  | .hbm, ⟨9, _⟩ => ⟨S1024x4096, .f32⟩
  | .hbm, ⟨10, _⟩ => ⟨S1024x4096, .bf16⟩
  | .hbm, ⟨11, _⟩ => ⟨S1024x1024, .f32⟩
  | .hbm, ⟨12, _⟩ => ⟨S1024x1024, .bf16⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S2048, .i32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S2048, .f32⟩
  | .hbm, ⟨27, _⟩ => ⟨S2048x1, .f32⟩
  | .hbm, ⟨28, _⟩ => ⟨S1x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x128, .f32⟩
  | .hbm, ⟨35, _⟩ => ⟨S2048x64, .f32⟩
  | .hbm, ⟨36, _⟩ => ⟨S2048x128, .f32⟩
  | .hbm, ⟨37, _⟩ => ⟨S8x2048x1024, .f32⟩
  | .hbm, ⟨38, _⟩ => ⟨S8x4x128x128, .f32⟩
  | .hbm, ⟨39, _⟩ => ⟨S8x4x128x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x4096, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S2x512, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x4x128x128, .f32⟩
  | .local _ .vmem, ⟨15, _⟩ => ⟨S1x4x128x128, .f32⟩
  | .local _ .vmem, ⟨16, _⟩ => ⟨S1x4x128x128, .f32⟩
  | .local _ .vmem, ⟨17, _⟩ => ⟨S1x4x128x128, .f32⟩
  | .local _ .vmem, ⟨18, _⟩ => ⟨S256x4096, .f32⟩
  | .local _ .vmem, ⟨19, _⟩ => ⟨S256x1024, .bf16⟩
  | .local _ .vmem, ⟨20, _⟩ => ⟨S4x128x128, .f32⟩
  | .local _ .vmem, ⟨21, _⟩ => ⟨S4x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32_607 : BitVec 32 := 7#32
  let v1773 : BitVec 1 := Scalar.cmpi .eq arg1 c7_i32_607
  let v1774 : BitVec 32 := Scalar.extui v1773
  let c0_i32_608 : BitVec 32 := 0#32
  let v1775 : BitVec 1 := Scalar.cmpi .ne v1774 c0_i32_608
  v1775

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PromptIdeal.lean ====
variable {F : FTy → Type} [FloatOps F] [Named F]
def κ : String → Option EReal := fun
  | "gamma256_0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma256_1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma256_2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma256_3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== PromptRefIdeal.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x128 : Shape := ⟨2, ![1, 128]⟩
abbrev S2x512 : Shape := ⟨2, ![2, 512]⟩
abbrev S1x1024x1024 : Shape := ⟨3, ![1, 1024, 1024]⟩
abbrev S_ : Shape := ⟨0, ![]⟩
abbrev S8x4x128x128 : Shape := ⟨4, ![8, 4, 128, 128]⟩
abbrev S512 : Shape := ⟨1, ![512]⟩
abbrev S1x512 : Shape := ⟨2, ![1, 512]⟩
abbrev S2048 : Shape := ⟨1, ![2048]⟩
abbrev S2048x8x1024 : Shape := ⟨3, ![2048, 8, 1024]⟩
abbrev S1x8x1024 : Shape := ⟨3, ![1, 8, 1024]⟩
abbrev S8x1024 : Shape := ⟨2, ![8, 1024]⟩
abbrev S1 : Shape := ⟨1, ![1]⟩
abbrev S1024 : Shape := ⟨1, ![1024]⟩
abbrev S8 : Shape := ⟨1, ![8]⟩
abbrev S8x1 : Shape := ⟨2, ![8, 1]⟩
abbrev S1024x4096 : Shape := ⟨2, ![1024, 4096]⟩
abbrev S128 : Shape := ⟨1, ![128]⟩
abbrev S1024x1024 : Shape := ⟨2, ![1024, 1024]⟩
abbrev S8x4096 : Shape := ⟨2, ![8, 4096]⟩
abbrev S8x512 : Shape := ⟨2, ![8, 512]⟩
abbrev S8x4x128 : Shape := ⟨3, ![8, 4, 128]⟩
abbrev S64 : Shape := ⟨1, ![64]⟩
abbrev S1x1x64 : Shape := ⟨3, ![1, 1, 64]⟩
abbrev S8x4x64 : Shape := ⟨3, ![8, 4, 64]⟩
abbrev S4 : Shape := ⟨1, ![4]⟩
abbrev S1x4x1 : Shape := ⟨3, ![1, 4, 1]⟩
abbrev S4x128 : Shape := ⟨2, ![4, 128]⟩
abbrev S1x4x128 : Shape := ⟨3, ![1, 4, 128]⟩
abbrev S8x4x128x1 : Shape := ⟨4, ![8, 4, 128, 1]⟩
abbrev S8x4x1x128 : Shape := ⟨4, ![8, 4, 1, 128]⟩
abbrev S8x4 : Shape := ⟨2, ![8, 4]⟩
abbrev S8x4x1 : Shape := ⟨3, ![8, 4, 1]⟩
abbrev S1x1x128 : Shape := ⟨3, ![1, 1, 128]⟩

abbrev nBuf : Space → Nat
  | .hbm => 282
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x4096, .f32⟩
  | 3 => ⟨S1x128, .f32⟩
  | 4 => ⟨S1x128, .f32⟩
  | 5 => ⟨S2x512, .f32⟩
  | 6 => ⟨S1x1024x1024, .f32⟩
  | 7 => ⟨S_, .f32⟩
  | 8 => ⟨S8x4x128x128, .f32⟩
  | 9 => ⟨S_, .f32⟩
  | 10 => ⟨S512, .f32⟩
  | 11 => ⟨S_, .f32⟩
  | 12 => ⟨S512, .f32⟩
  | 13 => ⟨S512, .f32⟩
  | 14 => ⟨S1x512, .f32⟩
  | 15 => ⟨S2x512, .f32⟩
  | 16 => ⟨S2x512, .f32⟩
  | 17 => ⟨S2x512, .f32⟩
  | 18 => ⟨S_, .f32⟩
  | 19 => ⟨S512, .f32⟩
  | 20 => ⟨S1x512, .f32⟩
  | 21 => ⟨S2x512, .f32⟩
  | 22 => ⟨S2x512, .f32⟩
  | 23 => ⟨S_, .f32⟩
  | 24 => ⟨S_, .f32⟩
  | 25 => ⟨S2x512, .f32⟩
  | 26 => ⟨S1x512, .f32⟩
  | 27 => ⟨S512, .f32⟩
  | 28 => ⟨S2048, .i32⟩
  | 29 => ⟨S_, .i32⟩
  | 30 => ⟨S2048, .i32⟩
  | 31 => ⟨S2048, .i32⟩
  | 32 => ⟨S2048x8x1024, .f32⟩
  | 33 => ⟨S_, .f32⟩
  | 34 => ⟨S2048x8x1024, .f32⟩
  | 35 => ⟨S_, .i32⟩
  | 36 => ⟨S2048x8x1024, .f32⟩
  | 37 => ⟨S2048, .i32⟩
  | 38 => ⟨S1x1024, .f32⟩
  | 39 => ⟨S1x1024x4096, .f32⟩
  | 40 => ⟨S1x128, .f32⟩
  | 41 => ⟨S1x128, .f32⟩
  | 42 => ⟨S1x1024x1024, .f32⟩
  | 43 => ⟨S512, .f32⟩
  | 44 => ⟨S_, .i32⟩
  | 45 => ⟨S8x4x128x128, .f32⟩
  | 46 => ⟨S8x4x128x128, .f32⟩
  | 47 => ⟨S2048x8x1024, .f32⟩
  | 48 => ⟨S_, .i32⟩
  | 49 => ⟨S_, .i1⟩
  | 50 => ⟨S_, .i32⟩
  | 51 => ⟨S_, .i32⟩
  | 52 => ⟨S1x8x1024, .f32⟩
  | 53 => ⟨S8x1024, .f32⟩
  | 54 => ⟨S1, .i32⟩
  | 55 => ⟨S_, .i32⟩
  | 56 => ⟨S1024, .f32⟩
  | 57 => ⟨S8x1024, .f32⟩
  | 58 => ⟨S_, .f32⟩
  | 59 => ⟨S8, .f32⟩
  | 60 => ⟨S8x1, .f32⟩
  | 61 => ⟨S_, .f32⟩
  | 62 => ⟨S8x1, .f32⟩
  | 63 => ⟨S8x1, .f32⟩
  | 64 => ⟨S_, .f32⟩
  | 65 => ⟨S8x1, .f32⟩
  | 66 => ⟨S8x1, .f32⟩
  | 67 => ⟨S8x1, .f32⟩
  | 68 => ⟨S8x1024, .f32⟩
  | 69 => ⟨S8x1024, .f32⟩
  | 70 => ⟨S1x1024, .f32⟩
  | 71 => ⟨S8x1024, .f32⟩
  | 72 => ⟨S8x1024, .f32⟩
  | 73 => ⟨S1024x4096, .f32⟩
  | 74 => ⟨S128, .f32⟩
  | 75 => ⟨S128, .f32⟩
  | 76 => ⟨S1024x1024, .f32⟩
  | 77 => ⟨S8x4096, .f32⟩
  | 78 => ⟨S8x512, .f32⟩
  | 79 => ⟨S8x512, .f32⟩
  | 80 => ⟨S8x512, .f32⟩
  | 81 => ⟨S8x512, .f32⟩
  | 82 => ⟨S8x512, .f32⟩
  | 83 => ⟨S8x512, .f32⟩
  | 84 => ⟨S8x512, .f32⟩
  | 85 => ⟨S8x512, .f32⟩
  | 86 => ⟨S8x4x128, .f32⟩
  | 87 => ⟨S64, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S1x1x64, .f32⟩
  | 100 => ⟨S64, .f32⟩
  | 101 => ⟨S1x1x64, .f32⟩
  | 102 => ⟨S8x4x64, .f32⟩
  | 103 => ⟨S8x4x64, .f32⟩
  | 104 => ⟨S8x4x64, .f32⟩
  | 105 => ⟨S8x4x64, .f32⟩
  | 106 => ⟨S8x4x64, .f32⟩
  | 107 => ⟨S8x4x64, .f32⟩
  | 108 => ⟨S8x4x64, .f32⟩
  | 109 => ⟨S8x4x64, .f32⟩
  | 110 => ⟨S8x4x64, .f32⟩
  | 111 => ⟨S8x4x64, .f32⟩
  | 112 => ⟨S8x4x64, .f32⟩
  | 113 => ⟨S8x4x64, .f32⟩
  | 114 => ⟨S8x4x128, .f32⟩
  | 115 => ⟨S8x4x128, .f32⟩
  | 116 => ⟨S64, .f32⟩
  | 117 => ⟨S64, .f32⟩
  | 118 => ⟨S_, .f32⟩
  | 119 => ⟨S64, .f32⟩
  | 120 => ⟨S64, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S8x2048x1024, .f32⟩

abbrev hbmTy0_1 (i : Nat) : BufTy := match i % 128 with
  | 0 => ⟨S1x1x64, .f32⟩
  | 1 => ⟨S64, .f32⟩
  | 2 => ⟨S1x1x64, .f32⟩
  | 3 => ⟨S8x4x64, .f32⟩
  | 4 => ⟨S8x4x64, .f32⟩
  | 5 => ⟨S8x4x64, .f32⟩
  | 6 => ⟨S8x4x64, .f32⟩
  | 7 => ⟨S8x4x64, .f32⟩
  | 8 => ⟨S8x4x64, .f32⟩
  | 9 => ⟨S8x4x64, .f32⟩
  | 10 => ⟨S8x4x64, .f32⟩
  | 11 => ⟨S8x4x64, .f32⟩
  | 12 => ⟨S8x4x64, .f32⟩
  | 13 => ⟨S8x4x64, .f32⟩
  | 14 => ⟨S8x4x64, .f32⟩
  | 15 => ⟨S8x4x128, .f32⟩
  | 16 => ⟨S_, .f32⟩
  | 17 => ⟨S8x4x128, .f32⟩
  | 18 => ⟨S8x4x128, .f32⟩
  | 19 => ⟨S8x4x128, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S_, .f32⟩
  | 28 => ⟨S4, .f32⟩
  | 29 => ⟨S4, .f32⟩
  | 30 => ⟨S1x4x1, .f32⟩
  | 31 => ⟨S8x4x128, .f32⟩
  | 32 => ⟨S8x512, .f32⟩
  | 33 => ⟨S8x512, .f32⟩
  | 34 => ⟨S_, .f32⟩
  | 35 => ⟨S8x512, .f32⟩
  | 36 => ⟨S8x512, .f32⟩
  | 37 => ⟨S_, .f32⟩
  | 38 => ⟨S8x512, .f32⟩
  | 39 => ⟨S8x512, .f32⟩
  | 40 => ⟨S8x512, .f32⟩
  | 41 => ⟨S8x4x128, .f32⟩
  | 42 => ⟨S_, .f32⟩
  | 43 => ⟨S8x4x128, .f32⟩
  | 44 => ⟨S8x4x128, .f32⟩
  | 45 => ⟨S4x128, .f32⟩
  | 46 => ⟨S_, .f32⟩
  | 47 => ⟨S4x128, .f32⟩
  | 48 => ⟨S4x128, .f32⟩
  | 49 => ⟨S8x4x128, .f32⟩
  | 50 => ⟨S8x4x128, .f32⟩
  | 51 => ⟨S8x4x128, .f32⟩
  | 52 => ⟨S_, .f32⟩
  | 53 => ⟨S8x4x128, .f32⟩
  | 54 => ⟨S8x4x128, .f32⟩
  | 55 => ⟨S_, .f32⟩
  | 56 => ⟨S8x4x128, .f32⟩
  | 57 => ⟨S8x4x128, .f32⟩
  | 58 => ⟨S1x4x128, .f32⟩
  | 59 => ⟨S8x4x128, .f32⟩
  | 60 => ⟨S8x4x128, .f32⟩
  | 61 => ⟨S1x4x128, .f32⟩
  | 62 => ⟨S8x4x128, .f32⟩
  | 63 => ⟨S8x4x128, .f32⟩
  | 64 => ⟨S8x4x128, .f32⟩
  | 65 => ⟨S8x4x128x1, .f32⟩
  | 66 => ⟨S8x4x128x128, .f32⟩
  | 67 => ⟨S8x4x128x128, .f32⟩
  | 68 => ⟨S8x4x128x1, .f32⟩
  | 69 => ⟨S8x4x1x128, .f32⟩
  | 70 => ⟨S8x4x128x128, .f32⟩
  | 71 => ⟨S8x4x128x128, .f32⟩
  | 72 => ⟨S8x4x128x128, .f32⟩
  | 73 => ⟨S8x4x128x128, .f32⟩
  | 74 => ⟨S8x4x128, .f32⟩
  | 75 => ⟨S_, .f32⟩
  | 76 => ⟨S8x4x128, .f32⟩
  | 77 => ⟨S8x4x128, .f32⟩
  | 78 => ⟨S8x4x128x1, .f32⟩
  | 79 => ⟨S8x4x128x128, .f32⟩
  | 80 => ⟨S8x4x128x128, .f32⟩
  | 81 => ⟨S8x4x128x1, .f32⟩
  | 82 => ⟨S8x4x1x128, .f32⟩
  | 83 => ⟨S8x4x128x128, .f32⟩
  | 84 => ⟨S8x4x128x128, .f32⟩
  | 85 => ⟨S8x4x128x128, .f32⟩
  | 86 => ⟨S8x4x128x128, .f32⟩
  | 87 => ⟨S8x4x128, .f32⟩
  | 88 => ⟨S8x512, .f32⟩
  | 89 => ⟨S8x512, .f32⟩
  | 90 => ⟨S_, .f32⟩
  | 91 => ⟨S8x512, .f32⟩
  | 92 => ⟨S8x512, .f32⟩
  | 93 => ⟨S_, .f32⟩
  | 94 => ⟨S8x512, .f32⟩
  | 95 => ⟨S8x512, .f32⟩
  | 96 => ⟨S8x512, .f32⟩
  | 97 => ⟨S8x4x128, .f32⟩
  | 98 => ⟨S8x4x128, .f32⟩
  | 99 => ⟨S_, .f32⟩
  | 100 => ⟨S8x4, .f32⟩
  | 101 => ⟨S8x4x1, .f32⟩
  | 102 => ⟨S_, .f32⟩
  | 103 => ⟨S8x4x1, .f32⟩
  | 104 => ⟨S8x4x1, .f32⟩
  | 105 => ⟨S_, .f32⟩
  | 106 => ⟨S8x4x1, .f32⟩
  | 107 => ⟨S8x4x1, .f32⟩
  | 108 => ⟨S8x4x1, .f32⟩
  | 109 => ⟨S8x4x128, .f32⟩
  | 110 => ⟨S8x4x128, .f32⟩
  | 111 => ⟨S1x1x128, .f32⟩
  | 112 => ⟨S8x4x128, .f32⟩
  | 113 => ⟨S8x4x128, .f32⟩
  | 114 => ⟨S8x4x128, .f32⟩
  | 115 => ⟨S8x512, .f32⟩
  | 116 => ⟨S8x512, .f32⟩
  | 117 => ⟨S8x512, .f32⟩
  | 118 => ⟨S_, .f32⟩
  | 119 => ⟨S8x512, .f32⟩
  | 120 => ⟨S8x512, .f32⟩
  | 121 => ⟨S_, .f32⟩
  | 122 => ⟨S8x512, .f32⟩
  | 123 => ⟨S8x512, .f32⟩
  | 124 => ⟨S8x512, .f32⟩
  | 125 => ⟨S8x4x128, .f32⟩
  | 126 => ⟨S8x4x128, .f32⟩
  | 127 => ⟨S_, .f32⟩
  | _ => ⟨S8x2048x1024, .f32⟩

abbrev hbmTy0_2 (i : Nat) : BufTy := match i % 128 with
  | 0 => ⟨S8x4, .f32⟩
  | 1 => ⟨S8x4x1, .f32⟩
  | 2 => ⟨S_, .f32⟩
  | 3 => ⟨S8x4x1, .f32⟩
  | 4 => ⟨S8x4x1, .f32⟩
  | 5 => ⟨S_, .f32⟩
  | 6 => ⟨S8x4x1, .f32⟩
  | 7 => ⟨S8x4x1, .f32⟩
  | 8 => ⟨S8x4x1, .f32⟩
  | 9 => ⟨S8x4x128, .f32⟩
  | 10 => ⟨S8x4x128, .f32⟩
  | 11 => ⟨S1x1x128, .f32⟩
  | 12 => ⟨S8x4x128, .f32⟩
  | 13 => ⟨S8x4x128, .f32⟩
  | 14 => ⟨S8x4x128, .f32⟩
  | 15 => ⟨S8x512, .f32⟩
  | 16 => ⟨S8x1024, .f32⟩
  | 17 => ⟨S8x1024, .f32⟩
  | 18 => ⟨S8x1024, .f32⟩
  | 19 => ⟨S1x8x1024, .f32⟩
  | 20 => ⟨S_, .i32⟩
  | 21 => ⟨S_, .i32⟩
  | 22 => ⟨S2048x8x1024, .f32⟩
  | 23 => ⟨S_, .i32⟩
  | 24 => ⟨S_, .i32⟩
  | 25 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_call0_cst : Ref sig .tc := ⟨.hbm, 23, rfl⟩
abbrev main_call0_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_c_4 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev main_v20_4 : Ref sig .tc := ⟨.hbm, 40, rfl⟩
abbrev main_v20_5 : Ref sig .tc := ⟨.hbm, 41, rfl⟩
abbrev main_v20_6 : Ref sig .tc := ⟨.hbm, 42, rfl⟩
abbrev main_v20_7 : Ref sig .tc := ⟨.hbm, 43, rfl⟩
abbrev main_v20_8 : Ref sig .tc := ⟨.hbm, 44, rfl⟩
abbrev main_v20_9 : Ref sig .tc := ⟨.hbm, 45, rfl⟩
abbrev main_v20_10 : Ref sig .tc := ⟨.hbm, 46, rfl⟩
abbrev main_v20_11 : Ref sig .tc := ⟨.hbm, 47, rfl⟩
abbrev main_while0c_c_16 : Ref sig .tc := ⟨.hbm, 48, rfl⟩
abbrev main_while0c_v22 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_v0 : Ref sig .tc := ⟨.hbm, 52, rfl⟩
abbrev main_while0b_v22 : Ref sig .tc := ⟨.hbm, 53, rfl⟩
abbrev main_while0b_call2_v0 : Ref sig .tc := ⟨.hbm, 54, rfl⟩
abbrev main_while0b_v23 : Ref sig .tc := ⟨.hbm, 55, rfl⟩
abbrev main_while0b_v24 : Ref sig .tc := ⟨.hbm, 56, rfl⟩
abbrev main_while0b_v25 : Ref sig .tc := ⟨.hbm, 57, rfl⟩
abbrev main_while0b_cst_16 : Ref sig .tc := ⟨.hbm, 58, rfl⟩
abbrev main_while0b_v26 : Ref sig .tc := ⟨.hbm, 59, rfl⟩
abbrev main_while0b_v27 : Ref sig .tc := ⟨.hbm, 60, rfl⟩
abbrev main_while0b_cst_17 : Ref sig .tc := ⟨.hbm, 61, rfl⟩
abbrev main_while0b_v28 : Ref sig .tc := ⟨.hbm, 62, rfl⟩
abbrev main_while0b_v29 : Ref sig .tc := ⟨.hbm, 63, rfl⟩
abbrev main_while0b_cst_18 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_v47 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_cst_19 : Ref sig .tc := ⟨.hbm, 89, rfl⟩
abbrev main_while0b_v54 : Ref sig .tc := ⟨.hbm, 90, rfl⟩
abbrev main_while0b_v55 : Ref sig .tc := ⟨.hbm, 91, rfl⟩
abbrev main_while0b_cst_20 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_v65 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_cst_21 : Ref sig .tc := ⟨.hbm, 118, rfl⟩
abbrev main_while0b_v81 : Ref sig .tc := ⟨.hbm, 119, rfl⟩
abbrev main_while0b_v82 : Ref sig .tc := ⟨.hbm, 120, rfl⟩
abbrev main_while0b_cst_22 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_v101 : Ref sig .tc := ⟨.hbm, 140, rfl⟩
abbrev main_while0b_v102 : Ref sig .tc := ⟨.hbm, 141, rfl⟩
abbrev main_while0b_v103 : Ref sig .tc := ⟨.hbm, 142, rfl⟩
abbrev main_while0b_v104 : Ref sig .tc := ⟨.hbm, 143, rfl⟩
abbrev main_while0b_cst_23 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_cst_24 : Ref sig .tc := ⟨.hbm, 149, rfl⟩
abbrev main_while0b_v109 : Ref sig .tc := ⟨.hbm, 150, rfl⟩
abbrev main_while0b_v110 : Ref sig .tc := ⟨.hbm, 151, rfl⟩
abbrev main_while0b_cst_25 : Ref sig .tc := ⟨.hbm, 152, rfl⟩
abbrev main_while0b_v111 : Ref sig .tc := ⟨.hbm, 153, rfl⟩
abbrev main_while0b_v112 : Ref sig .tc := ⟨.hbm, 154, rfl⟩
abbrev main_while0b_cst_26 : Ref sig .tc := ⟨.hbm, 155, rfl⟩
abbrev main_while0b_v113 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_call3_v0 : Ref sig .tc := ⟨.hbm, 160, rfl⟩
abbrev main_while0b_call3_v1 : Ref sig .tc := ⟨.hbm, 161, rfl⟩
abbrev main_while0b_call3_cst : Ref sig .tc := ⟨.hbm, 162, rfl⟩
abbrev main_while0b_call3_v2 : Ref sig .tc := ⟨.hbm, 163, rfl⟩
abbrev main_while0b_call3_v3 : Ref sig .tc := ⟨.hbm, 164, rfl⟩
abbrev main_while0b_call3_cst_0 : Ref sig .tc := ⟨.hbm, 165, rfl⟩
abbrev main_while0b_call3_v4 : Ref sig .tc := ⟨.hbm, 166, rfl⟩
abbrev main_while0b_call3_v5 : Ref sig .tc := ⟨.hbm, 167, rfl⟩
abbrev main_while0b_v117 : Ref sig .tc := ⟨.hbm, 168, rfl⟩
abbrev main_while0b_v118 : Ref sig .tc := ⟨.hbm, 169, rfl⟩
abbrev main_while0b_cst_27 : Ref sig .tc := ⟨.hbm, 170, rfl⟩
abbrev main_while0b_v119 : Ref sig .tc := ⟨.hbm, 171, rfl⟩
abbrev main_while0b_v120 : Ref sig .tc := ⟨.hbm, 172, rfl⟩
abbrev main_while0b_v121 : Ref sig .tc := ⟨.hbm, 173, rfl⟩
abbrev main_while0b_cst_28 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_v125 : Ref sig .tc := ⟨.hbm, 178, rfl⟩
abbrev main_while0b_v126 : Ref sig .tc := ⟨.hbm, 179, rfl⟩
abbrev main_while0b_cst_29 : Ref sig .tc := ⟨.hbm, 180, rfl⟩
abbrev main_while0b_v127 : Ref sig .tc := ⟨.hbm, 181, rfl⟩
abbrev main_while0b_v128 : Ref sig .tc := ⟨.hbm, 182, rfl⟩
abbrev main_while0b_cst_30 : Ref sig .tc := ⟨.hbm, 183, rfl⟩
abbrev main_while0b_v129 : Ref sig .tc := ⟨.hbm, 184, rfl⟩
abbrev main_while0b_v130 : Ref sig .tc := ⟨.hbm, 185, rfl⟩
abbrev main_while0b_v131 : Ref sig .tc := ⟨.hbm, 186, rfl⟩
abbrev main_while0b_v132 : Ref sig .tc := ⟨.hbm, 187, rfl⟩
abbrev main_while0b_v133 : Ref sig .tc := ⟨.hbm, 188, rfl⟩
abbrev main_while0b_v134 : Ref sig .tc := ⟨.hbm, 189, rfl⟩
abbrev main_while0b_v135 : Ref sig .tc := ⟨.hbm, 190, rfl⟩
abbrev main_while0b_v136 : Ref sig .tc := ⟨.hbm, 191, rfl⟩
abbrev main_while0b_v137 : Ref sig .tc := ⟨.hbm, 192, rfl⟩
abbrev main_while0b_v138 : Ref sig .tc := ⟨.hbm, 193, rfl⟩
abbrev main_while0b_v139 : Ref sig .tc := ⟨.hbm, 194, rfl⟩
abbrev main_while0b_v140 : Ref sig .tc := ⟨.hbm, 195, rfl⟩
abbrev main_while0b_v141 : Ref sig .tc := ⟨.hbm, 196, rfl⟩
abbrev main_while0b_v142 : Ref sig .tc := ⟨.hbm, 197, rfl⟩
abbrev main_while0b_v143 : Ref sig .tc := ⟨.hbm, 198, rfl⟩
abbrev main_while0b_v144 : Ref sig .tc := ⟨.hbm, 199, rfl⟩
abbrev main_while0b_v145 : Ref sig .tc := ⟨.hbm, 200, rfl⟩
abbrev main_while0b_v146 : Ref sig .tc := ⟨.hbm, 201, rfl⟩
abbrev main_while0b_v147 : Ref sig .tc := ⟨.hbm, 202, rfl⟩
abbrev main_while0b_cst_31 : Ref sig .tc := ⟨.hbm, 203, rfl⟩
abbrev main_while0b_v148 : Ref sig .tc := ⟨.hbm, 204, rfl⟩
abbrev main_while0b_v149 : Ref sig .tc := ⟨.hbm, 205, rfl⟩
abbrev main_while0b_v150 : Ref sig .tc := ⟨.hbm, 206, rfl⟩
abbrev main_while0b_v151 : Ref sig .tc := ⟨.hbm, 207, rfl⟩
abbrev main_while0b_v152 : Ref sig .tc := ⟨.hbm, 208, rfl⟩
abbrev main_while0b_v153 : Ref sig .tc := ⟨.hbm, 209, rfl⟩
abbrev main_while0b_v154 : Ref sig .tc := ⟨.hbm, 210, rfl⟩
abbrev main_while0b_v155 : Ref sig .tc := ⟨.hbm, 211, rfl⟩
abbrev main_while0b_v156 : Ref sig .tc := ⟨.hbm, 212, rfl⟩
abbrev main_while0b_v157 : Ref sig .tc := ⟨.hbm, 213, rfl⟩
abbrev main_while0b_v158 : Ref sig .tc := ⟨.hbm, 214, rfl⟩
abbrev main_while0b_v159 : Ref sig .tc := ⟨.hbm, 215, rfl⟩
abbrev main_while0b_call4_v0 : Ref sig .tc := ⟨.hbm, 216, rfl⟩
abbrev main_while0b_call4_v1 : Ref sig .tc := ⟨.hbm, 217, rfl⟩
abbrev main_while0b_call4_cst : Ref sig .tc := ⟨.hbm, 218, rfl⟩
abbrev main_while0b_call4_v2 : Ref sig .tc := ⟨.hbm, 219, rfl⟩
abbrev main_while0b_call4_v3 : Ref sig .tc := ⟨.hbm, 220, rfl⟩
abbrev main_while0b_call4_cst_0 : Ref sig .tc := ⟨.hbm, 221, rfl⟩
abbrev main_while0b_call4_v4 : Ref sig .tc := ⟨.hbm, 222, rfl⟩
abbrev main_while0b_call4_v5 : Ref sig .tc := ⟨.hbm, 223, rfl⟩
abbrev main_while0b_v160 : Ref sig .tc := ⟨.hbm, 224, rfl⟩
abbrev main_while0b_v161 : Ref sig .tc := ⟨.hbm, 225, rfl⟩
abbrev main_while0b_v162 : Ref sig .tc := ⟨.hbm, 226, rfl⟩
abbrev main_while0b_cst_32 : Ref sig .tc := ⟨.hbm, 227, rfl⟩
abbrev main_while0b_v163 : Ref sig .tc := ⟨.hbm, 228, rfl⟩
abbrev main_while0b_v164 : Ref sig .tc := ⟨.hbm, 229, rfl⟩
abbrev main_while0b_cst_33 : Ref sig .tc := ⟨.hbm, 230, rfl⟩
abbrev main_while0b_v165 : Ref sig .tc := ⟨.hbm, 231, rfl⟩
abbrev main_while0b_v166 : Ref sig .tc := ⟨.hbm, 232, rfl⟩
abbrev main_while0b_cst_34 : Ref sig .tc := ⟨.hbm, 233, rfl⟩
abbrev main_while0b_v167 : Ref sig .tc := ⟨.hbm, 234, rfl⟩
abbrev main_while0b_v168 : Ref sig .tc := ⟨.hbm, 235, rfl⟩
abbrev main_while0b_v169 : Ref sig .tc := ⟨.hbm, 236, rfl⟩
abbrev main_while0b_v170 : Ref sig .tc := ⟨.hbm, 237, rfl⟩
abbrev main_while0b_v171 : Ref sig .tc := ⟨.hbm, 238, rfl⟩
abbrev main_while0b_v172 : Ref sig .tc := ⟨.hbm, 239, rfl⟩
abbrev main_while0b_v173 : Ref sig .tc := ⟨.hbm, 240, rfl⟩
abbrev main_while0b_v174 : Ref sig .tc := ⟨.hbm, 241, rfl⟩
abbrev main_while0b_v175 : Ref sig .tc := ⟨.hbm, 242, rfl⟩
abbrev main_while0b_v176 : Ref sig .tc := ⟨.hbm, 243, rfl⟩
abbrev main_while0b_call5_v0 : Ref sig .tc := ⟨.hbm, 244, rfl⟩
abbrev main_while0b_call5_v1 : Ref sig .tc := ⟨.hbm, 245, rfl⟩
abbrev main_while0b_call5_cst : Ref sig .tc := ⟨.hbm, 246, rfl⟩
abbrev main_while0b_call5_v2 : Ref sig .tc := ⟨.hbm, 247, rfl⟩
abbrev main_while0b_call5_v3 : Ref sig .tc := ⟨.hbm, 248, rfl⟩
abbrev main_while0b_call5_cst_0 : Ref sig .tc := ⟨.hbm, 249, rfl⟩
abbrev main_while0b_call5_v4 : Ref sig .tc := ⟨.hbm, 250, rfl⟩
abbrev main_while0b_call5_v5 : Ref sig .tc := ⟨.hbm, 251, rfl⟩
abbrev main_while0b_v177 : Ref sig .tc := ⟨.hbm, 252, rfl⟩
abbrev main_while0b_v178 : Ref sig .tc := ⟨.hbm, 253, rfl⟩
abbrev main_while0b_v179 : Ref sig .tc := ⟨.hbm, 254, rfl⟩
abbrev main_while0b_cst_35 : Ref sig .tc := ⟨.hbm, 255, rfl⟩
abbrev main_while0b_v180 : Ref sig .tc := ⟨.hbm, 256, rfl⟩
abbrev main_while0b_v181 : Ref sig .tc := ⟨.hbm, 257, rfl⟩
abbrev main_while0b_cst_36 : Ref sig .tc := ⟨.hbm, 258, rfl⟩
abbrev main_while0b_v182 : Ref sig .tc := ⟨.hbm, 259, rfl⟩
abbrev main_while0b_v183 : Ref sig .tc := ⟨.hbm, 260, rfl⟩
abbrev main_while0b_cst_37 : Ref sig .tc := ⟨.hbm, 261, rfl⟩
abbrev main_while0b_v184 : Ref sig .tc := ⟨.hbm, 262, rfl⟩
abbrev main_while0b_v185 : Ref sig .tc := ⟨.hbm, 263, rfl⟩
abbrev main_while0b_v186 : Ref sig .tc := ⟨.hbm, 264, rfl⟩
abbrev main_while0b_v187 : Ref sig .tc := ⟨.hbm, 265, rfl⟩
abbrev main_while0b_v188 : Ref sig .tc := ⟨.hbm, 266, rfl⟩
abbrev main_while0b_v189 : Ref sig .tc := ⟨.hbm, 267, rfl⟩
abbrev main_while0b_v190 : Ref sig .tc := ⟨.hbm, 268, rfl⟩
abbrev main_while0b_v191 : Ref sig .tc := ⟨.hbm, 269, rfl⟩
abbrev main_while0b_v192 : Ref sig .tc := ⟨.hbm, 270, rfl⟩
abbrev main_while0b_v193 : Ref sig .tc := ⟨.hbm, 271, rfl⟩
abbrev main_while0b_v194 : Ref sig .tc := ⟨.hbm, 272, rfl⟩
abbrev main_while0b_v195 : Ref sig .tc := ⟨.hbm, 273, rfl⟩
abbrev main_while0b_v196 : Ref sig .tc := ⟨.hbm, 274, rfl⟩
abbrev main_while0b_call6_v0 : Ref sig .tc := ⟨.hbm, 275, rfl⟩
abbrev main_while0b_call6_c : Ref sig .tc := ⟨.hbm, 276, rfl⟩
abbrev main_while0b_call6_c_0 : Ref sig .tc := ⟨.hbm, 277, rfl⟩
abbrev main_while0b_v197 : Ref sig .tc := ⟨.hbm, 278, rfl⟩
abbrev main_while0b_c_38 : Ref sig .tc := ⟨.hbm, 279, rfl⟩
abbrev main_while0b_v198 : Ref sig .tc := ⟨.hbm, 280, rfl⟩
abbrev main_v21 : Ref sig .tc := ⟨.hbm, 281, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S16384x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S16384x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x2048x1024 : Shape := ⟨3, ![8, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S4096x1024 : Shape := ⟨2, ![4096, 1024]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x4096, .f32⟩
  | .hbm, ⟨23, _⟩ => ⟨S8x2048x4096, .f32⟩
  | .hbm, ⟨24, _⟩ => ⟨S_, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S4096x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | .hbm, ⟨47, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Fs.lean ====
abbrev S128x8x1024 : Shape := ⟨3, ![128, 8, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1024x1024, .f32⟩
  | .hbm, ⟨13, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FsRefIdeal.lean ====
abbrev S128x8x1024 : Shape := ⟨3, ![128, 8, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x4096 : Shape := ⟨2, ![1024, 4096]⟩
abbrev S128x8x4096 : Shape := ⟨3, ![128, 8, 4096]⟩
abbrev S4096x1024 : Shape := ⟨2, ![4096, 1024]⟩
abbrev S1024x1024 : Shape := ⟨2, ![1024, 1024]⟩

abbrev nBuf : Space → Nat
  | .hbm => 48
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S128x8x1024, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S128x8x1, .f32⟩
  | .hbm, ⟨17, _⟩ => ⟨S128x8x1024, .f32⟩
  | .hbm, ⟨18, _⟩ => ⟨S128x8x1024, .f32⟩
  | .hbm, ⟨19, _⟩ => ⟨S1x1x1024, .f32⟩
  | .hbm, ⟨20, _⟩ => ⟨S128x8x1024, .f32⟩
  | .hbm, ⟨21, _⟩ => ⟨S128x8x1024, .f32⟩
  | .hbm, ⟨22, _⟩ => ⟨S1024x4096, .f32⟩
  | .hbm, ⟨23, _⟩ => ⟨S128x8x4096, .f32⟩
  | .hbm, ⟨24, _⟩ => ⟨S_, .f32⟩
  | .hbm, ⟨25, _⟩ => ⟨S128x8x4096, .f32⟩
  | .hbm, ⟨26, _⟩ => ⟨S128x8x4096, .f32⟩
  | .hbm, ⟨27, _⟩ => ⟨S128x8x4096, .f32⟩
  | .hbm, ⟨28, _⟩ => ⟨S4096x1024, .f32⟩
  | .hbm, ⟨29, _⟩ => ⟨S128x8x1024, .f32⟩
  | .hbm, ⟨30, _⟩ => ⟨S128x8x1024, .f32⟩
  | .hbm, ⟨31, _⟩ => ⟨S128x8x1024, .f32⟩
  | .hbm, ⟨32, _⟩ => ⟨S_, .f32⟩
  | .hbm, ⟨33, _⟩ => ⟨S128x8, .f32⟩
  | .hbm, ⟨34, _⟩ => ⟨S128x8x1, .f32⟩
  | .hbm, ⟨35, _⟩ => ⟨S_, .f32⟩
  | .hbm, ⟨36, _⟩ => ⟨S128x8x1, .f32⟩
  | .hbm, ⟨37, _⟩ => ⟨S128x8x1, .f32⟩
  | .hbm, ⟨38, _⟩ => ⟨S_, .f32⟩
  | .hbm, ⟨39, _⟩ => ⟨S128x8x1, .f32⟩
  | .hbm, ⟨40, _⟩ => ⟨S128x8x1, .f32⟩
  | .hbm, ⟨41, _⟩ => ⟨S128x8x1, .f32⟩
  | .hbm, ⟨42, _⟩ => ⟨S128x8x1024, .f32⟩
  | .hbm, ⟨43, _⟩ => ⟨S128x8x1024, .f32⟩
  | .hbm, ⟨44, _⟩ => ⟨S1x1x1024, .f32⟩
  | .hbm, ⟨45, _⟩ => ⟨S128x8x1024, .f32⟩
  | .hbm, ⟨46, _⟩ => ⟨S128x8x1024, .f32⟩
  | .hbm, ⟨47, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Frames.lean ====
/-
  The frame claims and the named literals: every program runs, leaves its arguments and ends with every semaphore at zero.
-/
module

public import proofs.«01_k».proof.Defs
public import proofs.«01_k».proof.Proof.Gen.Prompt.Frame
public import proofs.«01_k».proof.Proof.Gen.PromptIdeal.Frame
public import proofs.«01_k».proof.Proof.Gen.Ffn.Frame
public import proofs.«01_k».proof.Proof.Gen.Fs.Frame
public import proofs.«01_k».proof.Proof.Gen.FfnIdeal.Frame
public import proofs.«01_k».proof.Proof.Gen.FsIdeal.Frame
public import proofs.«01_k».proof.Proof.Gen.PromptRefIdeal.Run
public import proofs.«01_k».proof.Proof.Gen.FfnRefIdeal.Run
public import proofs.«01_k».proof.Proof.Gen.FsRefIdeal.Run
public import Idealize.ShloMosaic.Lib.Quiescent

@[expose] public section

noncomputable section

namespace Cert.Proof

open Idealize.ShloMosaic Idealize.SL.Sem

/-- `Prompt` runs and leaves its arguments. -/
theorem quiescent_Prompt : Cert.quiescent_Prompt := fun m ρ _ => Cert.Prompt.Gen.frame m ρ

/-- `PromptIdeal` runs and leaves its arguments. -/
theorem quiescent_PromptIdeal : Cert.quiescent_PromptIdeal := fun m ρ _ => Cert.PromptIdeal.Gen.frame m ρ

/-- The precondition's shapes fit. -/
instance preFacts : Cert.Pre_finite.Facts where
  bcast_S_S1x1024 := by decide
  bcast_S_S1x1024x4096 := by decide
  bcast_S_S2x512 := by decide

/-- `PromptIdeal` runs and leaves its arguments where its weights are finite. -/
theorem quiescent_PromptIdeal_pre_finite : Cert.quiescent_PromptIdeal_pre_finite := fun m ρ _ => Cert.PromptIdeal.Gen.frame m ρ

/-- `Ffn` runs and leaves its arguments. -/
theorem quiescent_Ffn : Cert.quiescent_Ffn := fun m ρ _ => Cert.Ffn.Gen.frame m ρ

/-- `FfnIdeal` runs and leaves its arguments. -/
theorem quiescent_FfnIdeal : Cert.quiescent_FfnIdeal := fun m ρ _ => Cert.FfnIdeal.Gen.frame m ρ

/-- `Fs` runs and leaves its arguments. -/
theorem quiescent_Fs : Cert.quiescent_Fs := fun m ρ _ => Cert.Fs.Gen.frame m ρ

/-- `FsIdeal` runs and leaves its arguments. -/
theorem quiescent_FsIdeal : Cert.quiescent_FsIdeal := fun m ρ _ => Cert.FsIdeal.Gen.frame m ρ

/-- `PromptRefIdeal` runs and leaves its arguments. -/
theorem quiescent_PromptRefIdeal : Cert.quiescent_PromptRefIdeal := fun m ρ _ =>
  (θ_run Cert.PromptRefIdeal.defs _ _).mono (fun r h => ⟨fun c => (h c).2.2.2, Idealize.ShloMosaic.sem_eq_zero_of_no_sems (by decide) r.2⟩) (Cert.PromptRefIdeal.Value.run (F := Ideal) m ρ)

/-- `PromptRefIdeal` runs and leaves its arguments where its weights are finite. -/
theorem quiescent_PromptRefIdeal_pre_finite : Cert.quiescent_PromptRefIdeal_pre_finite := fun m ρ _ => quiescent_PromptRefIdeal m ρ trivial

/-- `FfnRefIdeal` runs and leaves its arguments. -/
theorem quiescent_FfnRefIdeal : Cert.quiescent_FfnRefIdeal := fun m ρ _ =>
  (θ_run Cert.FfnRefIdeal.defs _ _).mono (fun r h => ⟨fun c => (h c).2, Idealize.ShloMosaic.sem_eq_zero_of_no_sems (by decide) r.2⟩) (Cert.FfnRefIdeal.Value.run (F := Ideal) m ρ)

/-- `FsRefIdeal` runs and leaves its arguments. -/
theorem quiescent_FsRefIdeal : Cert.quiescent_FsRefIdeal := fun m ρ _ =>
  (θ_run Cert.FsRefIdeal.defs _ _).mono (fun r h => ⟨fun c => (h c).2, Idealize.ShloMosaic.sem_eq_zero_of_no_sems (by decide) r.2⟩) (Cert.FsRefIdeal.Value.run (F := Ideal) m ρ)

/-- The literals named between the two programs stand for the reals their names say. -/
theorem preserves_Prompt_PromptIdeal : Cert.preserves_Prompt_PromptIdeal :=
  ⟨IdealRules.named_const.statement Cert.PromptIdeal.κ "log_gamma_0" .f32 0xBD020AEC#32 ((Real.log (31 / 32) : ℝ) : EReal) rfl,
    IdealRules.named_const.statement Cert.PromptIdeal.κ "gamma256_0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal) rfl,
    IdealRules.named_const.statement Cert.PromptIdeal.κ "log_gamma_1" .f32 0xBC8102B3#32 ((Real.log (63 / 64) : ℝ) : EReal) rfl,
    IdealRules.named_const.statement Cert.PromptIdeal.κ "gamma256_1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal) rfl,
    IdealRules.named_const.statement Cert.PromptIdeal.κ "log_gamma_2" .f32 0xBC0080AC#32 ((Real.log (127 / 128) : ℝ) : EReal) rfl,
    IdealRules.named_const.statement Cert.PromptIdeal.κ "gamma256_2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal) rfl,
    IdealRules.named_const.statement Cert.PromptIdeal.κ "log_gamma_3" .f32 0xBB80402B#32 ((Real.log (255 / 256) : ℝ) : EReal) rfl,
    IdealRules.named_const.statement Cert.PromptIdeal.κ "gamma256_3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal) rfl⟩

/-- The literals named between the two programs stand for the reals their names say. -/
theorem preserves_Ffn_FfnIdeal : Cert.preserves_Ffn_FfnIdeal :=
  trivial

/-- The literals named between the two programs stand for the reals their names say. -/
theorem preserves_Fs_FsIdeal : Cert.preserves_Fs_FsIdeal :=
  trivial

end Cert.Proof

end
-- ==== Proof.Base.lean ====
/-
  What every call of the layer shares, read at an index over the extended reals: the row norm, the one-axis sums and
  the plain products as a kernel block computes them, at extents that stay variables.
-/
module

public import Idealize.ShloMosaic.Lib.Pipeline.Value
public import Idealize.ShloMosaic.Lib.ValueIdx
public import Idealize.ShloMosaic.Lib.MatmulPlain
public import Idealize.ShloMosaic.PureOps.Ideal.Laws

@[expose] public section

noncomputable section

open Idealize.ShloMosaic Idealize.ShloMosaic.ValueIdx
open scoped BigOperators

namespace Cert.Proof.Base

/-- An f32 literal as an extended real. -/
abbrev lit (b : BitVec 32) : EReal := FloatOps.ofBits (F := Ideal) .f32 b

/-- The factor a root-mean-square norm multiplies a row by: the inverse root of its mean square (`n` the row length as a
    literal) plus the literal `e`. -/
def rmsFac {N : ℕ} (n e : BitVec 32) (x : Fin N → EReal) : EReal :=
  Ideal.rsqrt (Ideal.div (∑ k, x k * x k) (lit n) + lit e)

/-- A row under the root-mean-square norm with weights `w`. -/
def rms {N : ℕ} (n e : BitVec 32) (x w : Fin N → EReal) (c : Fin N) : EReal :=
  x c * rmsFac n e x * w c

/-- A block's sum along its second axis, read at a row. -/
theorem rowSum_apply {M N : ℕ} (x : FVec Ideal ⟨2, ![M, N]⟩ .f32) (a : BitVec 32)
    (h : (⟨2, ![M, N]⟩ : Shape).Reduces [1] ⟨1, ![M]⟩) (hφ : FKind.Formats .f32) (ha : a = FKind.add.neutral .f32 hφ) (r : Fin M) :
    multiReduction .add [1] ⟨1, ![M]⟩ x a h hφ ha (ix1 r) = ∑ k : Fin N, x (ix2 r k) := by
  rw [Ideal.multiReduction_add_single]
  refine Finset.sum_congr rfl fun k _ => congrArg x (funext fun b => Fin.ext ?_)
  match b with
  | ⟨0, _⟩ => rfl
  | ⟨1, _⟩ => rfl

/-- A column vector re-laid from a vector, read at a row. -/
theorem col_apply {M : ℕ} {α : Type} (x : (⟨1, ![M]⟩ : Shape).Idx → α) (h : (⟨1, ![M]⟩ : Shape).ShapeCasts ⟨2, ![M, 1]⟩) (r : Fin M) (c : Fin 1) :
    shapeCast ⟨2, ![M, 1]⟩ x h (ix2 r c) = x (ix1 r) := by
  refine shapeCast_apply x h _ _ ?_
  rw [Shape.rowMajor_val_two, Shape.rowMajor_val_one]
  have := c.isLt
  show r.val = r.val * 1 + c.val
  omega

/-- A column spread along the rows. -/
theorem spreadCol_apply {M N : ℕ} {α : Type} (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r 0) := by
  refine broadcastTo_apply x h _ _ fun a => ?_
  match a with
  | ⟨0, _⟩ =>
    show r.val = if M = 1 then 0 else r.val
    split
    · have := r.isLt; omega
    · rfl
  | ⟨1, _⟩ => rfl

/-- A row spread down the columns. -/
theorem spreadRow_apply {M N : ℕ} {α : Type} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 0 c) := by
  refine broadcastTo_apply x h _ _ fun a => ?_
  match a with
  | ⟨0, _⟩ => rfl
  | ⟨1, _⟩ =>
    show c.val = if N = 1 then 0 else c.val
    split
    · have := c.isLt; omega
    · rfl

/-- The norm as a kernel block computes it, read at an entry: the row's norm. -/
theorem rms_block {M N : ℕ} (n e : BitVec 32) (x : FVec Ideal ⟨2, ![M, N]⟩ .f32) (w : FVec Ideal ⟨2, ![1, N]⟩ .f32) (a : BitVec 32)
    (h : (⟨2, ![M, N]⟩ : Shape).Reduces [1] ⟨1, ![M]⟩) (hφ : FKind.Formats .f32) (ha : a = FKind.add.neutral .f32 hφ)
    (hc : (⟨1, ![M]⟩ : Shape).ShapeCasts ⟨2, ![M, 1]⟩) (hb : (⟨2, ![M, 1]⟩ : Shape).Broadcasts ⟨2, ![M, N]⟩)
    (hw : (⟨2, ![1, N]⟩ : Shape).Broadcasts ⟨2, ![M, N]⟩) (r : Fin M) (c : Fin N) :
    mulf (mulf x (broadcastTo ⟨2, ![M, N]⟩ (rsqrt (addf (divf (shapeCast ⟨2, ![M, 1]⟩ (multiReduction .add [1] ⟨1, ![M]⟩ (mulf x x) a h hφ ha) hc)
      (broadcast ⟨2, ![M, 1]⟩ (Scalar.ofBits .f32 n))) (broadcast ⟨2, ![M, 1]⟩ (Scalar.ofBits .f32 e)))) hb)) (broadcastTo ⟨2, ![M, N]⟩ w hw) (ix2 r c)
      = rms n e (fun k => x (ix2 r k)) (fun k => w (ix2 0 k)) c := by
  have e1 := col_apply (multiReduction .add [1] ⟨1, ![M]⟩ (mulf x x) a h hφ ha) hc r 0
  rw [rowSum_apply] at e1
  show x (ix2 r c) * broadcastTo ⟨2, ![M, N]⟩ _ hb (ix2 r c) * broadcastTo ⟨2, ![M, N]⟩ w hw (ix2 r c) = _
  rw [spreadCol_apply, spreadRow_apply]
  show x (ix2 r c) * Ideal.rsqrt (Ideal.div (shapeCast ⟨2, ![M, 1]⟩ (multiReduction .add [1] ⟨1, ![M]⟩ (mulf x x) a h hφ ha) hc (ix2 r 0)) _ + _) * _ = _
  rw [e1]
  rfl

/-- A plain product onto a zero accumulator, read at an entry. -/
theorem dot_apply {M K N : ℕ} {φ₁ φ₂ : FTy} (prec : Option ContractPrecision) (x : FVec Ideal ⟨2, ![M, K]⟩ φ₁) (y : FVec Ideal ⟨2, ![K, N]⟩ φ₂) (r : Fin M) (c : Fin N) :
    matmul (DotDims.plain M K N) prec x y (constant ⟨2, ![M, N]⟩ .f32 0x00000000#32) (ix2 r c) = ∑ k : Fin K, x (ix2 r k) * y (ix2 k c) := by
  refine (Ideal.matmul_plain_apply prec x y _ r c).trans ?_
  have : (constant ⟨2, ![M, N]⟩ .f32 0x00000000#32 : FVec Ideal ⟨2, ![M, N]⟩ .f32) (ix2 r c) = (0 : EReal) := by
    rw [constant_apply]; exact Ideal.ofBits_zero_f32
  rw [this, zero_add]

end Cert.Proof.Base

end
-- ==== Proof.FfnBlock.lean ====
/-
  The feed-forward call, one row at a time: what a grid point stores, as a function of the row of the activations and
  of the weight arrays. The kernel adds the hidden units in four groups of 1024; the row function adds all 4096 at once.
-/
module

public import proofs.«01_k».proof.Proof.Base
public import proofs.«01_k».proof.Proof.Gen.FfnIdeal.Value

@[expose] public section

noncomputable section

open Idealize.ShloMosaic Idealize.ShloMosaic.TcCoe Idealize.SL.Sem Idealize.ShloMosaic.ValueIdx
open scoped BigOperators

namespace Cert.Proof.Ffn

open Cert.Proof.Base

/-- A hidden unit: the square of the positive part of the row's product with the unit's column. -/
def unit (h w : Fin 1024 → EReal) : EReal :=
  max (∑ k, h k * w k) (lit 0x00000000#32) * max (∑ k, h k * w k) (lit 0x00000000#32)

/-- The row after the residual feed-forward layer, before the final norm. -/
def mid (x nw : Fin 1024 → EReal) (up : Fin 1024 → Fin 4096 → EReal) (dn : Fin 4096 → Fin 1024 → EReal) (c : Fin 1024) : EReal :=
  x c + ∑ n : Fin 4096, unit (rms 0x44800000#32 0x358637BD#32 x nw) (fun k => up k n) * dn n c

/-- The row the call returns. -/
def row (x nw : Fin 1024 → EReal) (up : Fin 1024 → Fin 4096 → EReal) (dn : Fin 4096 → Fin 1024 → EReal) (fw : Fin 1024 → EReal) : Fin 1024 → EReal :=
  rms 0x44800000#32 0x358637BD#32 (mid x nw up dn) fw

/-- A sum over 4096 as four sums over 1024, added first to last. -/
theorem sum_four (f : Fin 4096 → EReal) :
    ∑ n, f n = (∑ n : Fin 1024, f ⟨n.val, by omega⟩) + (∑ n : Fin 1024, f ⟨1024 + n.val, by omega⟩)
      + (∑ n : Fin 1024, f ⟨2048 + n.val, by omega⟩) + ∑ n : Fin 1024, f ⟨3072 + n.val, by omega⟩ := by
  rw [show (∑ n, f n) = ∑ n : Fin (1024 + 1024 + 1024 + 1024), f ⟨n.val, n.isLt⟩ from rfl, Fin.sum_univ_add, Fin.sum_univ_add, Fin.sum_univ_add]
  rfl

open Cert.FfnIdeal Cert.FfnIdeal.Gen

variable (v0 : Vec Ideal S512x1024 .f32) (v2 : Vec Ideal S1x1024 .f32)

/-- The normed block at an entry. -/
theorem pay2_apply (r : Fin 512) (c : Fin 1024) :
    k0_pay2 v0 v2 (ix2 r c) = rms 0x44800000#32 0x358637BD#32 (fun k => v0 (ix2 r k)) (fun k => v2 (ix2 0 k)) c := by
  unfold k0_pay2 k0_pay1
  simp only [shapeCast_self]
  exact rms_block _ _ v0 v2 _ _ _ _ _ _ _ r c

/-- One group of hidden units' contribution, from the normed block `h`, at an entry. -/
theorem group_apply (h : FVec Ideal S512x1024 .bf16) (u d : FVec Ideal S1024x1024 .bf16) (r : Fin 512) (c : Fin 1024) :
    matmul dot_S512x1024_S1024x1024_S512x1024_1_0_0_1_n_n none
      (truncf .bf16 (mulf (maximumf (matmul dot_S512x1024_S1024x1024_S512x1024_1_0_0_1_n_n none h u (constant S512x1024 .f32 0x00000000#32)) (broadcast S512x1024 (Scalar.ofBits .f32 0x00000000#32)))
        (maximumf (matmul dot_S512x1024_S1024x1024_S512x1024_1_0_0_1_n_n none h u (constant S512x1024 .f32 0x00000000#32)) (broadcast S512x1024 (Scalar.ofBits .f32 0x00000000#32)))) bitsLt_bf16_f32 : FVec Ideal S512x1024 .bf16)
      d (constant S512x1024 .f32 0x00000000#32) (ix2 r c)
      = ∑ n : Fin 1024, unit (fun k => h (ix2 r k)) (fun k => u (ix2 k n)) * d (ix2 n c) := by
  refine (dot_apply none _ d r c).trans (Finset.sum_congr rfl fun n _ => congrArg (· * d (ix2 n c)) ?_)
  have e := dot_apply none h u r n
  show max (matmul (DotDims.plain 512 1024 1024) none h u (constant S512x1024 .f32 0x00000000#32) (ix2 r n)) _ * max (matmul (DotDims.plain 512 1024 1024) none h u (constant S512x1024 .f32 0x00000000#32) (ix2 r n)) _ = _
  rw [e]
  rfl

/-- The block after the first group. -/
theorem pay3_apply (u d : Vec Ideal S1024x1024 .bf16) (r : Fin 512) (c : Fin 1024) :
    k0_pay3 v0 v2 u d (ix2 r c) = v0 (ix2 r c) + ∑ n : Fin 1024, unit (fun k => k0_pay2 v0 v2 (ix2 r k)) (fun k => u (ix2 k n)) * d (ix2 n c) := by
  unfold k0_pay3 k0_pay1
  simp only [shapeCast_self]
  exact congrArg (v0 (ix2 r c) + ·) (group_apply (k0_pay2 v0 v2) u d r c)

/-- The second group's contribution. -/
theorem pay4_apply (u d : Vec Ideal S1024x1024 .bf16) (r : Fin 512) (c : Fin 1024) :
    k0_pay4 v0 v2 u d (ix2 r c) = ∑ n : Fin 1024, unit (fun k => k0_pay2 v0 v2 (ix2 r k)) (fun k => u (ix2 k n)) * d (ix2 n c) := by
  unfold k0_pay4
  simp only [shapeCast_self]
  exact group_apply (k0_pay2 v0 v2) u d r c

/-- The stored block: the groups' sum under the final norm. -/
theorem pay5_apply (h : FVec Ideal S512x1024 .bf16) (a b : FVec Ideal S512x1024 .f32) (u₂ d₂ u₃ d₃ : Vec Ideal S1024x1024 .bf16) (fw : Vec Ideal S1x1024 .f32) (r : Fin 512) (c : Fin 1024) :
    k0_pay5 h a b u₂ d₂ u₃ d₃ fw (ix2 r c) = rms 0x44800000#32 0x358637BD#32
      (fun c => a (ix2 r c) + b (ix2 r c) + (∑ n : Fin 1024, unit (fun k => h (ix2 r k)) (fun k => u₂ (ix2 k n)) * d₂ (ix2 n c))
        + ∑ n : Fin 1024, unit (fun k => h (ix2 r k)) (fun k => u₃ (ix2 k n)) * d₃ (ix2 n c)) (fun k => fw (ix2 0 k)) c := by
  unfold k0_pay5
  simp only [shapeCast_self]
  refine (rms_block _ _ _ fw _ _ _ _ _ _ _ r c).trans ?_
  refine congrArg (fun f => rms _ _ f _ c) (funext fun c => ?_)
  exact congrArg₂ (· + ·) (congrArg (a (ix2 r c) + b (ix2 r c) + ·) (group_apply h u₂ d₂ r c)) (group_apply h u₃ d₃ r c)

/-- What a grid point leaves in the output block: each row is `row` of the activations' row. -/
theorem out_apply (x0 : Vec Ideal S512x1024 .f32) (x1 : Vec Ideal S1x1024 .f32) (x2 : Vec Ideal S1024x4096 .bf16) (x3 : Vec Ideal S4096x1024 .bf16) (x4 : Vec Ideal S1x1024 .f32)
    (r : Fin 512) (c : Fin 1024) :
    out0_5 x0 x1 x2 x3 x4 (ix2 r c) = row (fun k => x0 (ix2 r k)) (fun k => x1 (ix2 0 k)) (fun k n => x2 (ix2 k n)) (fun n c => x3 (ix2 n c)) (fun k => x4 (ix2 0 k)) c := by
  unfold out0_5
  have zz : (![0, 0] : Fin 2 → ℕ) = fun _ => 0 := by funext a; fin_cases a <;> rfl
  rw [View.canon_unit_zero zz]
  have l0 : View.ld x0 r0_0 = x0 := View.ld_unit_zero (S := S512x1024) zz inb_S512x1024_S512x1024_0_0 x0
  have l1 : View.ld x1 r0_1 = x1 := View.ld_unit_zero (S := S1x1024) zz inb_S1x1024_S1x1024_0_0 x1
  have l4 : View.ld x4 r0_1 = x4 := View.ld_unit_zero (S := S1x1024) zz inb_S1x1024_S1x1024_0_0 x4
  rw [pay5_apply, l0, l1, l4]
  unfold row
  refine congrArg (fun f => rms _ _ f _ c) (funext fun c => ?_)
  rw [pay3_apply, pay4_apply]
  unfold mid
  rw [sum_four]
  have hh : (fun k => k0_pay2 x0 x1 (ix2 r k)) = rms 0x44800000#32 0x358637BD#32 (fun k => x0 (ix2 r k)) (fun k => x1 (ix2 0 k)) := funext fun k => pay2_apply x0 x1 r k
  rw [hh]
  have u0 : ∀ (k n : Fin 1024), View.ld x2 r0_2 (ix2 k n) = x2 (ix2 k ⟨n.val, by omega⟩) := fun k n => congrArg x2 (funext fun a => Fin.ext (by match a with | ⟨0, _⟩ => show 0 + 1 * k.val = k.val; omega | ⟨1, _⟩ => show 0 + 1 * n.val = n.val; omega))
  have u1 : ∀ (k n : Fin 1024), View.ld x2 r0_4 (ix2 k n) = x2 (ix2 k ⟨1024 + n.val, by omega⟩) := fun k n => congrArg x2 (funext fun a => Fin.ext (by match a with | ⟨0, _⟩ => show 0 + 1 * k.val = k.val; omega | ⟨1, _⟩ => show 1024 + 1 * n.val = 1024 + n.val; omega))
  have u2 : ∀ (k n : Fin 1024), View.ld x2 r0_6 (ix2 k n) = x2 (ix2 k ⟨2048 + n.val, by omega⟩) := fun k n => congrArg x2 (funext fun a => Fin.ext (by match a with | ⟨0, _⟩ => show 0 + 1 * k.val = k.val; omega | ⟨1, _⟩ => show 2048 + 1 * n.val = 2048 + n.val; omega))
  have u3 : ∀ (k n : Fin 1024), View.ld x2 r0_8 (ix2 k n) = x2 (ix2 k ⟨3072 + n.val, by omega⟩) := fun k n => congrArg x2 (funext fun a => Fin.ext (by match a with | ⟨0, _⟩ => show 0 + 1 * k.val = k.val; omega | ⟨1, _⟩ => show 3072 + 1 * n.val = 3072 + n.val; omega))
  have d0 : ∀ (n k : Fin 1024), View.ld x3 r0_3 (ix2 n k) = x3 (ix2 ⟨n.val, by omega⟩ k) := fun n k => congrArg x3 (funext fun a => Fin.ext (by match a with | ⟨0, _⟩ => show 0 + 1 * n.val = n.val; omega | ⟨1, _⟩ => show 0 + 1 * k.val = k.val; omega))
  have d1 : ∀ (n k : Fin 1024), View.ld x3 r0_5 (ix2 n k) = x3 (ix2 ⟨1024 + n.val, by omega⟩ k) := fun n k => congrArg x3 (funext fun a => Fin.ext (by match a with | ⟨0, _⟩ => show 1024 + 1 * n.val = 1024 + n.val; omega | ⟨1, _⟩ => show 0 + 1 * k.val = k.val; omega))
  have d2 : ∀ (n k : Fin 1024), View.ld x3 r0_7 (ix2 n k) = x3 (ix2 ⟨2048 + n.val, by omega⟩ k) := fun n k => congrArg x3 (funext fun a => Fin.ext (by match a with | ⟨0, _⟩ => show 2048 + 1 * n.val = 2048 + n.val; omega | ⟨1, _⟩ => show 0 + 1 * k.val = k.val; omega))
  have d3 : ∀ (n k : Fin 1024), View.ld x3 r0_9 (ix2 n k) = x3 (ix2 ⟨3072 + n.val, by omega⟩ k) := fun n k => congrArg x3 (funext fun a => Fin.ext (by match a with | ⟨0, _⟩ => show 3072 + 1 * n.val = 3072 + n.val; omega | ⟨1, _⟩ => show 0 + 1 * k.val = k.val; omega))
  simp only [u0, u1, u2, u3, d0, d1, d2, d3]
  simp only [add_assoc]

end Cert.Proof.Ffn

end
-- ==== Proof.FfnArray.lean ====
/-
  The array the feed-forward call returns, entry by entry: row `r` is the row function of row `r` of the activations.
-/
module

public import proofs.«01_k».proof.Proof.FfnBlock

@[expose] public section

noncomputable section

open Idealize.ShloMosaic Idealize.ShloMosaic.TcCoe Idealize.SL.Sem Idealize.ShloMosaic.ValueIdx Idealize.ShloMosaic.StableHlo
open scoped BigOperators

namespace Cert.Proof.Ffn

open Cert.Proof.Base

/-- The result of the feed-forward layer at row `r` (sequence `r / 2048`, token `r % 2048`) and column `c`. -/
def spec (x : (⟨3, ![8, 2048, 1024]⟩ : Shape).Idx → EReal) (nw : (⟨2, ![1, 1024]⟩ : Shape).Idx → EReal) (up : (⟨3, ![1, 1024, 4096]⟩ : Shape).Idx → EReal)
    (dn : (⟨3, ![1, 4096, 1024]⟩ : Shape).Idx → EReal) (fw : (⟨1, ![1024]⟩ : Shape).Idx → EReal) (r : Fin 16384) (c : Fin 1024) : EReal :=
  row (fun k => x (ix3 ⟨r.val / 2048, by omega⟩ ⟨r.val % 2048, Nat.mod_lt _ (by decide)⟩ k)) (fun k => nw (ix2 0 k)) (fun k n => up (ix3 0 k n)) (fun n c => dn (ix3 0 n c)) (fun k => fw (ix1 k)) c

open Cert.FfnIdeal Cert.FfnIdeal.Gen

variable (m : (ℓ : Loc nD τ sig) → Buf (Elt Ideal) ℓ) (c : Dev nD)

/-- The activations as the call finds them. -/
theorem arr_x (r : Fin 16384) (k : Fin 1024) : V m c main_v7 (ix2 r k) = m ((c.tc : Thread nD τ).loc main_arg0) (ix3 ⟨r.val / 2048, by omega⟩ ⟨r.val % 2048, Nat.mod_lt _ (by decide)⟩ k) := by
  have e : V m c main_v7 = shapeCast S16384x1024 (m ((c.tc : Thread nD τ).loc main_arg0)) shapeCasts_S8x2048x1024_S16384x1024 := by
    unfold V; after_results_simp <;> rfl
  rw [e]
  refine shapeCast_apply (s := S8x2048x1024) _ _ _ _ ?_
  rw [Shape.rowMajor_val_three, Shape.rowMajor_val_two]
  show (r.val / 2048 * 2048 + r.val % 2048) * 1024 + k.val = r.val * 1024 + k.val
  omega

/-- The norm's weights as the call finds them. -/
theorem arr_nw (k : Fin 1024) : V m c main_v1 (ix2 0 k) = m ((c.tc : Thread nD τ).loc main_arg1) (ix2 0 k) := by
  have e : V m c main_v1 = shapeCast S1x1024 (shapeCast S1024 (m ((c.tc : Thread nD τ).loc main_arg1)) shapeCasts_S1x1024_S1024) shapeCasts_S1024_S1x1024 := by
    unfold V; after_results_simp <;> rfl
  rw [e]
  refine (shapeCast_apply _ _ _ (ix1 k) ?_).trans (shapeCast_apply _ _ _ (ix2 0 k) ?_)
  · rw [Shape.rowMajor_val_two, Shape.rowMajor_val_one]; show k.val = 0 * 1024 + k.val; omega
  · rw [Shape.rowMajor_val_two, Shape.rowMajor_val_one]; show 0 * 1024 + k.val = k.val; omega

/-- The first weight matrix as the call finds it. -/
theorem arr_up (k : Fin 1024) (n : Fin 4096) : V m c main_v3 (ix2 k n) = m ((c.tc : Thread nD τ).loc main_arg2) (ix3 0 k n) := by
  have e : V m c main_v3 = shapeCast S1024x4096 (m ((c.tc : Thread nD τ).loc main_arg2)) shapeCasts_S1x1024x4096_S1024x4096 := by
    unfold V; after_results_simp <;> rfl
  rw [e]
  refine shapeCast_apply (s := S1x1024x4096) _ _ _ _ ?_
  rw [Shape.rowMajor_val_three, Shape.rowMajor_val_two]
  show (0 * 1024 + k.val) * 4096 + n.val = k.val * 4096 + n.val
  omega

/-- The second weight matrix as the call finds it. -/
theorem arr_dn (n : Fin 4096) (k : Fin 1024) : V m c main_v5 (ix2 n k) = m ((c.tc : Thread nD τ).loc main_arg3) (ix3 0 n k) := by
  have e : V m c main_v5 = shapeCast S4096x1024 (m ((c.tc : Thread nD τ).loc main_arg3)) shapeCasts_S1x4096x1024_S4096x1024 := by
    unfold V; after_results_simp <;> rfl
  rw [e]
  refine shapeCast_apply (s := S1x4096x1024) _ _ _ _ ?_
  rw [Shape.rowMajor_val_three, Shape.rowMajor_val_two]
  show (0 * 4096 + n.val) * 1024 + k.val = n.val * 1024 + k.val
  omega

/-- The final norm's weights as the call finds them. -/
theorem arr_fw (k : Fin 1024) : V m c main_v6 (ix2 0 k) = m ((c.tc : Thread nD τ).loc main_arg4) (ix1 k) := by
  have e : V m c main_v6 = shapeCast S1x1024 (m ((c.tc : Thread nD τ).loc main_arg4)) shapeCasts_S1024_S1x1024 := by
    unfold V; after_results_simp <;> rfl
  rw [e]
  refine shapeCast_apply (s := S1024) _ _ _ _ ?_
  rw [Shape.rowMajor_val_two, Shape.rowMajor_val_one]; show k.val = 0 * 1024 + k.val; omega

/-- Which block each window reads at a point: the activations' and the result's `t`-th, the weights' only one. -/
theorem index_facts : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ (cfg0.win 5).flush t = true :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_5.flush t = true)

/-- The activations' block at a point. -/
theorem block0 (t : Fin 32) (i : Fin 512) (j : Fin 1024) : iblk m c 0 t (ix2 i j) = V m c main_v7 (ix2 (⟨t.val * 512 + i.val, by have := i.isLt; have := t.isLt; omega⟩ : Fin 16384) j) := by
  refine congrArg (V m c main_v7) (funext fun a => Fin.ext ?_)
  refine (Pipeline.Window.rect_emb_val (cfg0.win 0) t _ a).trans ?_
  have e : win0_0.index t = ![t.val, 0] := (index_facts t).1
  show win0_0.index t a * _ + _ = _
  rw [e]
  match a with
  | ⟨0, _⟩ => show t.val * 512 + i.val = t.val * 512 + i.val; rfl
  | ⟨1, _⟩ => show 0 * 1024 + j.val = j.val; omega

/-- The norm's weights at a point. -/
theorem block1 (t : Fin 32) (i : Fin 1) (j : Fin 1024) : iblk m c 1 t (ix2 i j) = V m c main_v1 (ix2 i j) := by
  refine congrArg (V m c main_v1) (funext fun a => Fin.ext ?_)
  refine (Pipeline.Window.rect_emb_val (cfg0.win 1) t _ a).trans ?_
  have e : win0_1.index t = ![0, 0] := (index_facts t).2.1
  show win0_1.index t a * _ + _ = _
  rw [e]
  match a with
  | ⟨0, _⟩ => show 0 * 1 + i.val = i.val; omega
  | ⟨1, _⟩ => show 0 * 1024 + j.val = j.val; omega

/-- The first weight matrix at a point. -/
theorem block2 (t : Fin 32) (i : Fin 1024) (j : Fin 4096) : iblk m c 2 t (ix2 i j) = V m c main_v3 (ix2 i j) := by
  refine congrArg (V m c main_v3) (funext fun a => Fin.ext ?_)
  refine (Pipeline.Window.rect_emb_val (cfg0.win 2) t _ a).trans ?_
  have e : win0_2.index t = ![0, 0] := (index_facts t).2.2.1
  show win0_2.index t a * _ + _ = _
  rw [e]
  match a with
  | ⟨0, _⟩ => show 0 * 1024 + i.val = i.val; omega
  | ⟨1, _⟩ => show 0 * 4096 + j.val = j.val; omega

/-- The second weight matrix at a point. -/
theorem block3 (t : Fin 32) (i : Fin 4096) (j : Fin 1024) : iblk m c 3 t (ix2 i j) = V m c main_v5 (ix2 i j) := by
  refine congrArg (V m c main_v5) (funext fun a => Fin.ext ?_)
  refine (Pipeline.Window.rect_emb_val (cfg0.win 3) t _ a).trans ?_
  have e : win0_3.index t = ![0, 0] := (index_facts t).2.2.2.1
  show win0_3.index t a * _ + _ = _
  rw [e]
  match a with
  | ⟨0, _⟩ => show 0 * 4096 + i.val = i.val; omega
  | ⟨1, _⟩ => show 0 * 1024 + j.val = j.val; omega

/-- The final norm's weights at a point. -/
theorem block4 (t : Fin 32) (i : Fin 1) (j : Fin 1024) : iblk m c 4 t (ix2 i j) = V m c main_v6 (ix2 i j) := by
  refine congrArg (V m c main_v6) (funext fun a => Fin.ext ?_)
  refine (Pipeline.Window.rect_emb_val (cfg0.win 4) t _ a).trans ?_
  have e : win0_4.index t = ![0, 0] := (index_facts t).2.2.2.2.1
  show win0_4.index t a * _ + _ = _
  rw [e]
  match a with
  | ⟨0, _⟩ => show 0 * 1 + i.val = i.val; omega
  | ⟨1, _⟩ => show 0 * 1024 + j.val = j.val; omega

/-- What a point writes back, entry by entry. -/
theorem flushed_apply (t : Fin 32) (i : Fin 512) (j : Fin 1024) :
    (dats m 0 c).flushed 5 t (ix2 i j) = row (fun k => V m c main_v7 (ix2 (⟨t.val * 512 + i.val, by have := i.isLt; have := t.isLt; omega⟩ : Fin 16384) k)) (fun k => V m c main_v1 (ix2 0 k))
      (fun k n => V m c main_v3 (ix2 k n)) (fun n k => V m c main_v5 (ix2 n k)) (fun k => V m c main_v6 (ix2 0 k)) j := by
  refine (congrFun (Value.flushed5 m c t) (ix2 i j)).trans ?_
  have hc : ∀ z : S512x1024.Idx → EReal, (cfg0.win 5).cut (grid0.coords t) z (ix2 i j) = z (ix2 i j) := fun z => rfl
  refine (hc _).trans ?_
  refine (out_apply _ _ _ _ _ i j).trans ?_
  rw [show (fun k => iblk m c 0 t (ix2 i k)) = _ from funext fun k => block0 m c t i k,
    show (fun k => iblk m c 1 t (ix2 0 k)) = _ from funext fun k => block1 m c t 0 k,
    show (fun k n => iblk m c 2 t (ix2 k n)) = _ from funext fun k => funext fun n => block2 m c t k n,
    show (fun n k => iblk m c 3 t (ix2 n k)) = _ from funext fun n => funext fun k => block3 m c t n k,
    show (fun k => iblk m c 4 t (ix2 0 k)) = _ from funext fun k => block4 m c t 0 k]

/-- Each entry of the array after the run. -/
theorem arr_apply (r : Fin 16384) (k : Fin 1024) :
    (dats m 0 c).arrAt 5 cfg0.N (ix2 r k) = spec (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r k := by
  have hr := r.isLt
  obtain ⟨t, ht⟩ : ∃ t : Fin 32, t.val = r.val / 512 := ⟨⟨r.val / 512, by omega⟩, rfl⟩
  obtain ⟨i, hi⟩ : ∃ i : Fin 512, i.val = r.val % 512 := ⟨⟨r.val % 512, by omega⟩, rfl⟩
  have i5 : win0_5.index t = ![t.val, 0] := (index_facts t).2.2.2.2.2.1
  have hf : (cfg0.win 5).flush t = true := (index_facts t).2.2.2.2.2.2
  have e5 : ((cfg0.win 5).blk t).view.emb (ix2 i k) = ix2 r k := by
    funext a
    refine Fin.ext ?_
    refine (Pipeline.Window.rect_emb_val (cfg0.win 5) t _ a).trans ?_
    show win0_5.index t a * _ + _ = _
    rw [i5]
    match a with
    | ⟨0, _⟩ => show t.val * 512 + i.val = r.val; omega
    | ⟨1, _⟩ => show 0 * 1024 + k.val = k.val; omega
  have er : (⟨t.val * 512 + i.val, by have := i.isLt; have := t.isLt; omega⟩ : Fin 16384) = r := Fin.ext (by show t.val * 512 + i.val = r.val; omega)
  have key := ((dats m 0 c).arrAt_emb_eq_flushed 5 Value.disjoint5 t hf (ix2 i k)).trans (flushed_apply m c t i k)
  rw [er] at key
  refine (congrArg ((dats m 0 c).arrAt 5 cfg0.N) e5.symm).trans (key.trans ?_)
  rw [show (fun k => V m c main_v7 (ix2 r k)) = _ from funext fun k => arr_x m c r k, show (fun k => V m c main_v1 (ix2 0 k)) = _ from funext fun k => arr_nw m c k,
    show (fun k n => V m c main_v3 (ix2 k n)) = _ from funext fun k => funext fun n => arr_up m c k n,
    show (fun n k => V m c main_v5 (ix2 n k)) = _ from funext fun n => funext fun k => arr_dn m c n k, show (fun k => V m c main_v6 (ix2 0 k)) = _ from funext fun k => arr_fw m c k]
  rfl

end Cert.Proof.Ffn

end
-- ==== Proof.FfnReference.lean ====
/-
  The reference of the feed-forward layer, read entry by entry, and the equality of the two results.
-/
module

public import proofs.«01_k».proof.Defs
public import proofs.«01_k».proof.Proof.FfnArray
public import proofs.«01_k».proof.Proof.Gen.FfnRefIdeal.Read

@[expose] public section

noncomputable section

open Idealize.ShloMosaic Idealize.ShloMosaic.TcCoe Idealize.SL.Sem Idealize.ShloMosaic.ValueIdx
open scoped BigOperators

namespace Cert.Proof.Ffn

open Cert.Proof.Base Cert.FfnRefIdeal Cert.FfnRefIdeal.Gen Cert.FfnRefIdeal.Read

variable (x0 : (⟨S8x2048x1024, .f32⟩ : BufTy).Contents (Elt Ideal)) (x1 : (⟨S1x1024, .f32⟩ : BufTy).Contents (Elt Ideal)) (x2 : (⟨S1x1024x4096, .f32⟩ : BufTy).Contents (Elt Ideal))
  (x3 : (⟨S1x4096x1024, .f32⟩ : BufTy).Contents (Elt Ideal)) (x4 : (⟨S1024, .f32⟩ : BufTy).Contents (Elt Ideal))

/-- The normed activations. -/
theorem ref_norm (a : Fin 8) (t : Fin 2048) (k : Fin 1024) :
    val_main_v13 (F := Ideal) x0 x1 (ix3 a t k) = rms 0x44800000#32 0x358637BD#32 (fun k => x0 (ix3 a t k)) (fun k => x1 (ix2 0 k)) k := by
  rw [val_main_v13_apply, val_main_v10_apply, val_main_v9_apply, val_main_v8_apply, val_main_v7_apply, val_main_v5_apply, val_main_v3_apply, val_main_v2_apply,
    val_main_v12_apply, val_main_v11_apply, val_main_v0_apply, val_main_v4_apply, val_main_v6_apply, val_main_cst_apply, val_main_cst_0_apply, val_main_cst_1_apply]
  have ez : FloatOps.ofBits (F := Ideal) .f32 0x00000000#32 = (0 : EReal) := Ideal.ofBits_zero_f32
  have es : (∑ j : Fin 1024, val_main_v1 (F := Ideal) x0 (idx_main_v2 (idx_main_v3 (idx_main_v9 (ix3 a t k))) j)) = ∑ j : Fin 1024, x0 (ix3 a t j) * x0 (ix3 a t j) :=
    Finset.sum_congr rfl fun j _ => by
      rw [val_main_v1_apply]
      have : idx_main_v2 (idx_main_v3 (idx_main_v9 (ix3 a t k))) j = ix3 a t j := funext fun b => by match b with | ⟨0, _⟩ => rfl | ⟨1, _⟩ => rfl | ⟨2, _⟩ => rfl
      rw [this]; rfl
  rw [es]
  have ew : idx_main_v0 (idx_main_v11 (idx_main_v12 (ix3 a t k))) = ix2 0 k := funext fun b => Fin.ext (by
    match b with
    | ⟨0, _⟩ => rfl
    | ⟨1, _⟩ => exact Nat.mod_eq_of_lt k.isLt)
  rw [ew, ez, zero_add]
  rfl

/-- The hidden units. -/
theorem ref_unit (a : Fin 8) (t : Fin 2048) (n : Fin 4096) :
    val_main_v17 (F := Ideal) x0 x1 x2 (ix3 a t n) = unit (rms 0x44800000#32 0x358637BD#32 (fun k => x0 (ix3 a t k)) (fun k => x1 (ix2 0 k))) (fun k => x2 (ix3 0 k n)) := by
  have e : val_main_v15 (F := Ideal) x0 x1 x2 (ix3 a t n) = ∑ k : Fin 1024, rms 0x44800000#32 0x358637BD#32 (fun k => x0 (ix3 a t k)) (fun k => x1 (ix2 0 k)) k * x2 (ix3 0 k n) := by
    rw [val_main_v15_apply]
    refine Finset.sum_congr rfl fun k _ => ?_
    have el : lidx_main_v15 (ix3 a t n) k = ix3 a t k := funext fun b => by match b with | ⟨0, _⟩ => rfl | ⟨1, _⟩ => rfl | ⟨2, _⟩ => rfl
    rw [el, ref_norm, val_main_v14_apply]
    refine congrArg (_ * x2 ·) (funext fun b => Fin.ext ?_)
    have := k.isLt; have := n.isLt
    match b with
    | ⟨0, _⟩ => rfl
    | ⟨1, _⟩ => show (k.val * 4096 + n.val) / 4096 % 1024 = k.val; omega
    | ⟨2, _⟩ => show (k.val * 4096 + n.val) % 4096 = n.val; omega
  rw [val_main_v17_apply, val_main_v16_apply, e]
  rfl

/-- The row before the final norm. -/
theorem ref_mid (a : Fin 8) (t : Fin 2048) (k : Fin 1024) :
    val_main_v20 (F := Ideal) x0 x1 x2 x3 (ix3 a t k) = mid (fun k => x0 (ix3 a t k)) (fun k => x1 (ix2 0 k)) (fun k n => x2 (ix3 0 k n)) (fun n c => x3 (ix3 0 n c)) k := by
  rw [val_main_v20_apply, val_main_v19_apply]
  refine congrArg (x0 (ix3 a t k) + ·) (Finset.sum_congr rfl fun n _ => ?_)
  have el : lidx_main_v19 (ix3 a t k) n = ix3 a t n := funext fun b => by match b with | ⟨0, _⟩ => rfl | ⟨1, _⟩ => rfl | ⟨2, _⟩ => rfl
  rw [el, ref_unit, val_main_v18_apply]
  refine congrArg (_ * x3 ·) (funext fun b => Fin.ext ?_)
  have := k.isLt; have := n.isLt
  match b with
  | ⟨0, _⟩ => rfl
  | ⟨1, _⟩ => show (n.val * 1024 + k.val) / 1024 % 4096 = n.val; omega
  | ⟨2, _⟩ => show (n.val * 1024 + k.val) % 1024 = k.val; omega

/-- The normed result before its last reshape. -/
theorem ref_row (a : Fin 8) (t : Fin 2048) (k : Fin 1024) :
    val_main_v33 (F := Ideal) x0 x1 x2 x3 x4 (ix3 a t k) = row (fun k => x0 (ix3 a t k)) (fun k => x1 (ix2 0 k)) (fun k n => x2 (ix3 0 k n)) (fun n c => x3 (ix3 0 n c)) (fun k => x4 (ix1 k)) k := by
  rw [val_main_v33_apply, val_main_v30_apply, val_main_v29_apply, val_main_v28_apply, val_main_v27_apply, val_main_v25_apply, val_main_v23_apply, val_main_v22_apply,
    val_main_v32_apply, val_main_v31_apply, val_main_v24_apply, val_main_v26_apply, val_main_cst_2_apply, val_main_cst_3_apply, val_main_cst_4_apply]
  have ez : FloatOps.ofBits (F := Ideal) .f32 0x00000000#32 = (0 : EReal) := Ideal.ofBits_zero_f32
  have es : (∑ j : Fin 1024, val_main_v21 (F := Ideal) x0 x1 x2 x3 (idx_main_v22 (idx_main_v23 (idx_main_v29 (ix3 a t k))) j))
      = ∑ j : Fin 1024, mid (fun k => x0 (ix3 a t k)) (fun k => x1 (ix2 0 k)) (fun k n => x2 (ix3 0 k n)) (fun n c => x3 (ix3 0 n c)) j
        * mid (fun k => x0 (ix3 a t k)) (fun k => x1 (ix2 0 k)) (fun k n => x2 (ix3 0 k n)) (fun n c => x3 (ix3 0 n c)) j :=
    Finset.sum_congr rfl fun j _ => by
      rw [val_main_v21_apply]
      have : idx_main_v22 (idx_main_v23 (idx_main_v29 (ix3 a t k))) j = ix3 a t j := funext fun b => by match b with | ⟨0, _⟩ => rfl | ⟨1, _⟩ => rfl | ⟨2, _⟩ => rfl
      rw [this, ref_mid]; rfl
  rw [es, ref_mid]
  have ew : idx_main_v31 (idx_main_v32 (ix3 a t k)) = ix1 k := funext fun b => by match b with | ⟨0, _⟩ => rfl
  rw [ew, ez, zero_add]
  rfl

/-- The reference's result, entry by entry. -/
theorem ref_apply (r : Fin 16384) (k : Fin 1024) : val_main_v34 (F := Ideal) x0 x1 x2 x3 x4 (ix2 r k) = spec x0 x1 x2 x3 x4 r k := by
  rw [val_main_v34_apply]
  have e : idx_main_v34 (ix2 r k) = ix3 (⟨r.val / 2048, by omega⟩ : Fin 8) (⟨r.val % 2048, Nat.mod_lt _ (by decide)⟩ : Fin 2048) k := funext fun b => Fin.ext (by
    have := k.isLt; have := r.isLt
    match b with
    | ⟨0, _⟩ => show (r.val * 1024 + k.val) / 2097152 = r.val / 2048; omega
    | ⟨1, _⟩ => show (r.val * 1024 + k.val) / 1024 % 2048 = r.val % 2048; omega
    | ⟨2, _⟩ => show (r.val * 1024 + k.val) % 1024 = k.val; omega)
  rw [e, ref_row]
  rfl

/-- The feed-forward call and its reference agree on every entry, for all inputs. -/
theorem algebraic : Cert.algebraic_FfnIdeal_FfnRefIdeal := by
  intro m ρ m' ρ' _ hagree
  refine ⟨fun c => (Cert.FfnIdeal.Gen.dats m 0 c).arrAt 5 Cert.FfnIdeal.cfg0.N, Cert.FfnIdeal.Value.run_blocks (F := Ideal) m ρ, ?_⟩
  refine (θ_run _ _ _).mono (fun _ h c => ⟨(h c).1.trans ?_, (h c).2⟩) (Cert.FfnRefIdeal.Value.run (F := Ideal) m' ρ')
  rw [val_main_v34_eq]
  obtain ⟨h0, h1, h2, h3, h4⟩ := hagree c
  rw [h0, h1, h2, h3, h4]
  funext i
  rw [eq_ix2 i]
  exact (ref_apply _ _ _ _ _ _ _).trans (arr_apply m c _ _).symm

end Cert.Proof.Ffn

end
-- ==== Proof.FsArray.lean ====
/-
  The array the feed-forward call on the sample batch returns, entry by entry: row `r` is the row function of row `r` of the activations.
-/
module

public import proofs.«01_k».proof.Proof.FfnBlock
public import proofs.«01_k».proof.Proof.Gen.FsIdeal.Value

@[expose] public section

noncomputable section

open Idealize.ShloMosaic Idealize.ShloMosaic.TcCoe Idealize.SL.Sem Idealize.ShloMosaic.ValueIdx Idealize.ShloMosaic.StableHlo
open scoped BigOperators

namespace Cert.Proof.Fs

open Cert.Proof.Base Cert.Proof.Ffn

/-- The result of the feed-forward layer at row `r` (sequence `r / 8`, token `r % 8`) and column `c`. -/
def spec (x : (⟨3, ![128, 8, 1024]⟩ : Shape).Idx → EReal) (nw : (⟨2, ![1, 1024]⟩ : Shape).Idx → EReal) (up : (⟨3, ![1, 1024, 4096]⟩ : Shape).Idx → EReal)
    (dn : (⟨3, ![1, 4096, 1024]⟩ : Shape).Idx → EReal) (fw : (⟨1, ![1024]⟩ : Shape).Idx → EReal) (r : Fin 1024) (c : Fin 1024) : EReal :=
  row (fun k => x (ix3 ⟨r.val / 8, by omega⟩ ⟨r.val % 8, Nat.mod_lt _ (by decide)⟩ k)) (fun k => nw (ix2 0 k)) (fun k n => up (ix3 0 k n)) (fun n c => dn (ix3 0 n c)) (fun k => fw (ix1 k)) c

open Cert.FsIdeal Cert.FsIdeal.Gen

/-- The block a grid point leaves is computed as on the prompt batch. -/
theorem out_eq (x0 : Vec Ideal S512x1024 .f32) (x1 : Vec Ideal S1x1024 .f32) (x2 : Vec Ideal S1024x4096 .bf16) (x3 : Vec Ideal S4096x1024 .bf16) (x4 : Vec Ideal S1x1024 .f32) :
    out0_5 x0 x1 x2 x3 x4 = Cert.FfnIdeal.Gen.out0_5 x0 x1 x2 x3 x4 := rfl

variable (m : (ℓ : Loc nD τ sig) → Buf (Elt Ideal) ℓ) (c : Dev nD)

/-- The activations as the call finds them. -/
theorem arr_x (r : Fin 1024) (k : Fin 1024) : V m c main_v7 (ix2 r k) = m ((c.tc : Thread nD τ).loc main_arg0) (ix3 ⟨r.val / 8, by omega⟩ ⟨r.val % 8, Nat.mod_lt _ (by decide)⟩ k) := by
  have e : V m c main_v7 = shapeCast S1024x1024 (m ((c.tc : Thread nD τ).loc main_arg0)) shapeCasts_S128x8x1024_S1024x1024 := by
    unfold V; after_results_simp <;> rfl
  rw [e]
  refine shapeCast_apply (s := S128x8x1024) _ _ _ _ ?_
  rw [Shape.rowMajor_val_three, Shape.rowMajor_val_two]
  show (r.val / 8 * 8 + r.val % 8) * 1024 + k.val = r.val * 1024 + k.val
  omega

/-- The norm's weights as the call finds them. -/
theorem arr_nw (k : Fin 1024) : V m c main_v1 (ix2 0 k) = m ((c.tc : Thread nD τ).loc main_arg1) (ix2 0 k) := by
  have e : V m c main_v1 = shapeCast S1x1024 (shapeCast S1024 (m ((c.tc : Thread nD τ).loc main_arg1)) shapeCasts_S1x1024_S1024) shapeCasts_S1024_S1x1024 := by
    unfold V; after_results_simp <;> rfl
  rw [e]
  refine (shapeCast_apply _ _ _ (ix1 k) ?_).trans (shapeCast_apply _ _ _ (ix2 0 k) ?_)
  · rw [Shape.rowMajor_val_two, Shape.rowMajor_val_one]; show k.val = 0 * 1024 + k.val; omega
  · rw [Shape.rowMajor_val_two, Shape.rowMajor_val_one]; show 0 * 1024 + k.val = k.val; omega

/-- The first weight matrix as the call finds it. -/
theorem arr_up (k : Fin 1024) (n : Fin 4096) : V m c main_v3 (ix2 k n) = m ((c.tc : Thread nD τ).loc main_arg2) (ix3 0 k n) := by
  have e : V m c main_v3 = shapeCast S1024x4096 (m ((c.tc : Thread nD τ).loc main_arg2)) shapeCasts_S1x1024x4096_S1024x4096 := by
    unfold V; after_results_simp <;> rfl
  rw [e]
  refine shapeCast_apply (s := S1x1024x4096) _ _ _ _ ?_
  rw [Shape.rowMajor_val_three, Shape.rowMajor_val_two]
  show (0 * 1024 + k.val) * 4096 + n.val = k.val * 4096 + n.val
  omega

/-- The second weight matrix as the call finds it. -/
theorem arr_dn (n : Fin 4096) (k : Fin 1024) : V m c main_v5 (ix2 n k) = m ((c.tc : Thread nD τ).loc main_arg3) (ix3 0 n k) := by
  have e : V m c main_v5 = shapeCast S4096x1024 (m ((c.tc : Thread nD τ).loc main_arg3)) shapeCasts_S1x4096x1024_S4096x1024 := by
    unfold V; after_results_simp <;> rfl
  rw [e]
  refine shapeCast_apply (s := S1x4096x1024) _ _ _ _ ?_
  rw [Shape.rowMajor_val_three, Shape.rowMajor_val_two]
  show (0 * 4096 + n.val) * 1024 + k.val = n.val * 1024 + k.val
  omega

/-- The final norm's weights as the call finds them. -/
theorem arr_fw (k : Fin 1024) : V m c main_v6 (ix2 0 k) = m ((c.tc : Thread nD τ).loc main_arg4) (ix1 k) := by
  have e : V m c main_v6 = shapeCast S1x1024 (m ((c.tc : Thread nD τ).loc main_arg4)) shapeCasts_S1024_S1x1024 := by
    unfold V; after_results_simp <;> rfl
  rw [e]
  refine shapeCast_apply (s := S1024) _ _ _ _ ?_
  rw [Shape.rowMajor_val_two, Shape.rowMajor_val_one]; show k.val = 0 * 1024 + k.val; omega

/-- Which block each window reads at a point: the activations' and the result's `t`-th, the weights' only one. -/
theorem index_facts : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ (cfg0.win 5).flush t = true :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_5.flush t = true)

/-- The activations' block at a point. -/
theorem block0 (t : Fin 2) (i : Fin 512) (j : Fin 1024) : iblk m c 0 t (ix2 i j) = V m c main_v7 (ix2 (⟨t.val * 512 + i.val, by have := i.isLt; have := t.isLt; omega⟩ : Fin 1024) j) := by
  refine congrArg (V m c main_v7) (funext fun a => Fin.ext ?_)
  refine (Pipeline.Window.rect_emb_val (cfg0.win 0) t _ a).trans ?_
  have e : win0_0.index t = ![t.val, 0] := (index_facts t).1
  show win0_0.index t a * _ + _ = _
  rw [e]
  match a with
  | ⟨0, _⟩ => show t.val * 512 + i.val = t.val * 512 + i.val; rfl
  | ⟨1, _⟩ => show 0 * 1024 + j.val = j.val; omega

/-- The norm's weights at a point. -/
theorem block1 (t : Fin 2) (i : Fin 1) (j : Fin 1024) : iblk m c 1 t (ix2 i j) = V m c main_v1 (ix2 i j) := by
  refine congrArg (V m c main_v1) (funext fun a => Fin.ext ?_)
  refine (Pipeline.Window.rect_emb_val (cfg0.win 1) t _ a).trans ?_
  have e : win0_1.index t = ![0, 0] := (index_facts t).2.1
  show win0_1.index t a * _ + _ = _
  rw [e]
  match a with
  | ⟨0, _⟩ => show 0 * 1 + i.val = i.val; omega
  | ⟨1, _⟩ => show 0 * 1024 + j.val = j.val; omega

/-- The first weight matrix at a point. -/
theorem block2 (t : Fin 2) (i : Fin 1024) (j : Fin 4096) : iblk m c 2 t (ix2 i j) = V m c main_v3 (ix2 i j) := by
  refine congrArg (V m c main_v3) (funext fun a => Fin.ext ?_)
  refine (Pipeline.Window.rect_emb_val (cfg0.win 2) t _ a).trans ?_
  have e : win0_2.index t = ![0, 0] := (index_facts t).2.2.1
  show win0_2.index t a * _ + _ = _
  rw [e]
  match a with
  | ⟨0, _⟩ => show 0 * 1024 + i.val = i.val; omega
  | ⟨1, _⟩ => show 0 * 4096 + j.val = j.val; omega

/-- The second weight matrix at a point. -/
theorem block3 (t : Fin 2) (i : Fin 4096) (j : Fin 1024) : iblk m c 3 t (ix2 i j) = V m c main_v5 (ix2 i j) := by
  refine congrArg (V m c main_v5) (funext fun a => Fin.ext ?_)
  refine (Pipeline.Window.rect_emb_val (cfg0.win 3) t _ a).trans ?_
  have e : win0_3.index t = ![0, 0] := (index_facts t).2.2.2.1
  show win0_3.index t a * _ + _ = _
  rw [e]
  match a with
  | ⟨0, _⟩ => show 0 * 4096 + i.val = i.val; omega
  | ⟨1, _⟩ => show 0 * 1024 + j.val = j.val; omega

/-- The final norm's weights at a point. -/
theorem block4 (t : Fin 2) (i : Fin 1) (j : Fin 1024) : iblk m c 4 t (ix2 i j) = V m c main_v6 (ix2 i j) := by
  refine congrArg (V m c main_v6) (funext fun a => Fin.ext ?_)
  refine (Pipeline.Window.rect_emb_val (cfg0.win 4) t _ a).trans ?_
  have e : win0_4.index t = ![0, 0] := (index_facts t).2.2.2.2.1
  show win0_4.index t a * _ + _ = _
  rw [e]
  match a with
  | ⟨0, _⟩ => show 0 * 1 + i.val = i.val; omega
  | ⟨1, _⟩ => show 0 * 1024 + j.val = j.val; omega

/-- What a point writes back, entry by entry. -/
theorem flushed_apply (t : Fin 2) (i : Fin 512) (j : Fin 1024) :
    (dats m 0 c).flushed 5 t (ix2 i j) = row (fun k => V m c main_v7 (ix2 (⟨t.val * 512 + i.val, by have := i.isLt; have := t.isLt; omega⟩ : Fin 1024) k)) (fun k => V m c main_v1 (ix2 0 k))
      (fun k n => V m c main_v3 (ix2 k n)) (fun n k => V m c main_v5 (ix2 n k)) (fun k => V m c main_v6 (ix2 0 k)) j := by
  refine (congrFun (Value.flushed5 m c t) (ix2 i j)).trans ?_
  have hc : ∀ z : S512x1024.Idx → EReal, (cfg0.win 5).cut (grid0.coords t) z (ix2 i j) = z (ix2 i j) := fun z => rfl
  refine (hc _).trans ?_
  refine ((congrFun (out_eq _ _ _ _ _) _).trans (out_apply _ _ _ _ _ i j)).trans ?_
  rw [show (fun k => iblk m c 0 t (ix2 i k)) = _ from funext fun k => block0 m c t i k,
    show (fun k => iblk m c 1 t (ix2 0 k)) = _ from funext fun k => block1 m c t 0 k,
    show (fun k n => iblk m c 2 t (ix2 k n)) = _ from funext fun k => funext fun n => block2 m c t k n,
    show (fun n k => iblk m c 3 t (ix2 n k)) = _ from funext fun n => funext fun k => block3 m c t n k,
    show (fun k => iblk m c 4 t (ix2 0 k)) = _ from funext fun k => block4 m c t 0 k]

/-- Each entry of the array after the run. -/
theorem arr_apply (r : Fin 1024) (k : Fin 1024) :
    (dats m 0 c).arrAt 5 cfg0.N (ix2 r k) = spec (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r k := by
  have hr := r.isLt
  obtain ⟨t, ht⟩ : ∃ t : Fin 2, t.val = r.val / 512 := ⟨⟨r.val / 512, by omega⟩, rfl⟩
  obtain ⟨i, hi⟩ : ∃ i : Fin 512, i.val = r.val % 512 := ⟨⟨r.val % 512, by omega⟩, rfl⟩
  have i5 : win0_5.index t = ![t.val, 0] := (index_facts t).2.2.2.2.2.1
  have hf : (cfg0.win 5).flush t = true := (index_facts t).2.2.2.2.2.2
  have e5 : ((cfg0.win 5).blk t).view.emb (ix2 i k) = ix2 r k := by
    funext a
    refine Fin.ext ?_
    refine (Pipeline.Window.rect_emb_val (cfg0.win 5) t _ a).trans ?_
    show win0_5.index t a * _ + _ = _
    rw [i5]
    match a with
    | ⟨0, _⟩ => show t.val * 512 + i.val = r.val; omega
    | ⟨1, _⟩ => show 0 * 1024 + k.val = k.val; omega
  have er : (⟨t.val * 512 + i.val, by have := i.isLt; have := t.isLt; omega⟩ : Fin 1024) = r := Fin.ext (by show t.val * 512 + i.val = r.val; omega)
  have key := ((dats m 0 c).arrAt_emb_eq_flushed 5 Value.disjoint5 t hf (ix2 i k)).trans (flushed_apply m c t i k)
  rw [er] at key
  refine (congrArg ((dats m 0 c).arrAt 5 cfg0.N) e5.symm).trans (key.trans ?_)
  rw [show (fun k => V m c main_v7 (ix2 r k)) = _ from funext fun k => arr_x m c r k, show (fun k => V m c main_v1 (ix2 0 k)) = _ from funext fun k => arr_nw m c k,
    show (fun k n => V m c main_v3 (ix2 k n)) = _ from funext fun k => funext fun n => arr_up m c k n,
    show (fun n k => V m c main_v5 (ix2 n k)) = _ from funext fun n => funext fun k => arr_dn m c n k, show (fun k => V m c main_v6 (ix2 0 k)) = _ from funext fun k => arr_fw m c k]
  rfl

end Cert.Proof.Fs

end
-- ==== Proof.FsReference.lean ====
/-
  The reference of the feed-forward layer on the sample batch, read entry by entry, and the equality of the two results.
-/
module

public import proofs.«01_k».proof.Defs
public import proofs.«01_k».proof.Proof.FsArray
public import proofs.«01_k».proof.Proof.Gen.FsRefIdeal.Read

@[expose] public section

noncomputable section

open Idealize.ShloMosaic Idealize.ShloMosaic.TcCoe Idealize.SL.Sem Idealize.ShloMosaic.ValueIdx
open scoped BigOperators

namespace Cert.Proof.Fs

open Cert.Proof.Base Cert.Proof.Ffn Cert.FsRefIdeal Cert.FsRefIdeal.Gen Cert.FsRefIdeal.Read

variable (x0 : (⟨S128x8x1024, .f32⟩ : BufTy).Contents (Elt Ideal)) (x1 : (⟨S1x1024, .f32⟩ : BufTy).Contents (Elt Ideal)) (x2 : (⟨S1x1024x4096, .f32⟩ : BufTy).Contents (Elt Ideal))
  (x3 : (⟨S1x4096x1024, .f32⟩ : BufTy).Contents (Elt Ideal)) (x4 : (⟨S1024, .f32⟩ : BufTy).Contents (Elt Ideal))

/-- The normed activations. -/
theorem ref_norm (a : Fin 128) (t : Fin 8) (k : Fin 1024) :
    val_main_v13 (F := Ideal) x0 x1 (ix3 a t k) = rms 0x44800000#32 0x358637BD#32 (fun k => x0 (ix3 a t k)) (fun k => x1 (ix2 0 k)) k := by
  rw [val_main_v13_apply, val_main_v10_apply, val_main_v9_apply, val_main_v8_apply, val_main_v7_apply, val_main_v5_apply, val_main_v3_apply, val_main_v2_apply,
    val_main_v12_apply, val_main_v11_apply, val_main_v0_apply, val_main_v4_apply, val_main_v6_apply, val_main_cst_apply, val_main_cst_0_apply, val_main_cst_1_apply]
  have ez : FloatOps.ofBits (F := Ideal) .f32 0x00000000#32 = (0 : EReal) := Ideal.ofBits_zero_f32
  have es : (∑ j : Fin 1024, val_main_v1 (F := Ideal) x0 (idx_main_v2 (idx_main_v3 (idx_main_v9 (ix3 a t k))) j)) = ∑ j : Fin 1024, x0 (ix3 a t j) * x0 (ix3 a t j) :=
    Finset.sum_congr rfl fun j _ => by
      rw [val_main_v1_apply]
      have : idx_main_v2 (idx_main_v3 (idx_main_v9 (ix3 a t k))) j = ix3 a t j := funext fun b => by match b with | ⟨0, _⟩ => rfl | ⟨1, _⟩ => rfl | ⟨2, _⟩ => rfl
      rw [this]; rfl
  rw [es]
  have ew : idx_main_v0 (idx_main_v11 (idx_main_v12 (ix3 a t k))) = ix2 0 k := funext fun b => Fin.ext (by
    match b with
    | ⟨0, _⟩ => rfl
    | ⟨1, _⟩ => exact Nat.mod_eq_of_lt k.isLt)
  rw [ew, ez, zero_add]
  rfl

/-- The hidden units. -/
theorem ref_unit (a : Fin 128) (t : Fin 8) (n : Fin 4096) :
    val_main_v17 (F := Ideal) x0 x1 x2 (ix3 a t n) = unit (rms 0x44800000#32 0x358637BD#32 (fun k => x0 (ix3 a t k)) (fun k => x1 (ix2 0 k))) (fun k => x2 (ix3 0 k n)) := by
  have e : val_main_v15 (F := Ideal) x0 x1 x2 (ix3 a t n) = ∑ k : Fin 1024, rms 0x44800000#32 0x358637BD#32 (fun k => x0 (ix3 a t k)) (fun k => x1 (ix2 0 k)) k * x2 (ix3 0 k n) := by
    rw [val_main_v15_apply]
    refine Finset.sum_congr rfl fun k _ => ?_
    have el : lidx_main_v15 (ix3 a t n) k = ix3 a t k := funext fun b => by match b with | ⟨0, _⟩ => rfl | ⟨1, _⟩ => rfl | ⟨2, _⟩ => rfl
    rw [el, ref_norm, val_main_v14_apply]
    refine congrArg (_ * x2 ·) (funext fun b => Fin.ext ?_)
    have := k.isLt; have := n.isLt
    match b with
    | ⟨0, _⟩ => rfl
    | ⟨1, _⟩ => show (k.val * 4096 + n.val) / 4096 % 1024 = k.val; omega
    | ⟨2, _⟩ => show (k.val * 4096 + n.val) % 4096 = n.val; omega
  rw [val_main_v17_apply, val_main_v16_apply, e]
  rfl

/-- The row before the final norm. -/
theorem ref_mid (a : Fin 128) (t : Fin 8) (k : Fin 1024) :
    val_main_v20 (F := Ideal) x0 x1 x2 x3 (ix3 a t k) = mid (fun k => x0 (ix3 a t k)) (fun k => x1 (ix2 0 k)) (fun k n => x2 (ix3 0 k n)) (fun n c => x3 (ix3 0 n c)) k := by
  rw [val_main_v20_apply, val_main_v19_apply]
  refine congrArg (x0 (ix3 a t k) + ·) (Finset.sum_congr rfl fun n _ => ?_)
  have el : lidx_main_v19 (ix3 a t k) n = ix3 a t n := funext fun b => by match b with | ⟨0, _⟩ => rfl | ⟨1, _⟩ => rfl | ⟨2, _⟩ => rfl
  rw [el, ref_unit, val_main_v18_apply]
  refine congrArg (_ * x3 ·) (funext fun b => Fin.ext ?_)
  have := k.isLt; have := n.isLt
  match b with
  | ⟨0, _⟩ => rfl
  | ⟨1, _⟩ => show (n.val * 1024 + k.val) / 1024 % 4096 = n.val; omega
  | ⟨2, _⟩ => show (n.val * 1024 + k.val) % 1024 = k.val; omega

/-- The normed result before its last reshape. -/
theorem ref_row (a : Fin 128) (t : Fin 8) (k : Fin 1024) :
    val_main_v33 (F := Ideal) x0 x1 x2 x3 x4 (ix3 a t k) = row (fun k => x0 (ix3 a t k)) (fun k => x1 (ix2 0 k)) (fun k n => x2 (ix3 0 k n)) (fun n c => x3 (ix3 0 n c)) (fun k => x4 (ix1 k)) k := by
  rw [val_main_v33_apply, val_main_v30_apply, val_main_v29_apply, val_main_v28_apply, val_main_v27_apply, val_main_v25_apply, val_main_v23_apply, val_main_v22_apply,
    val_main_v32_apply, val_main_v31_apply, val_main_v24_apply, val_main_v26_apply, val_main_cst_2_apply, val_main_cst_3_apply, val_main_cst_4_apply]
  have ez : FloatOps.ofBits (F := Ideal) .f32 0x00000000#32 = (0 : EReal) := Ideal.ofBits_zero_f32
  have es : (∑ j : Fin 1024, val_main_v21 (F := Ideal) x0 x1 x2 x3 (idx_main_v22 (idx_main_v23 (idx_main_v29 (ix3 a t k))) j))
      = ∑ j : Fin 1024, mid (fun k => x0 (ix3 a t k)) (fun k => x1 (ix2 0 k)) (fun k n => x2 (ix3 0 k n)) (fun n c => x3 (ix3 0 n c)) j
        * mid (fun k => x0 (ix3 a t k)) (fun k => x1 (ix2 0 k)) (fun k n => x2 (ix3 0 k n)) (fun n c => x3 (ix3 0 n c)) j :=
    Finset.sum_congr rfl fun j _ => by
      rw [val_main_v21_apply]
      have : idx_main_v22 (idx_main_v23 (idx_main_v29 (ix3 a t k))) j = ix3 a t j := funext fun b => by match b with | ⟨0, _⟩ => rfl | ⟨1, _⟩ => rfl | ⟨2, _⟩ => rfl
      rw [this, ref_mid]; rfl
  rw [es, ref_mid]
  have ew : idx_main_v31 (idx_main_v32 (ix3 a t k)) = ix1 k := funext fun b => by match b with | ⟨0, _⟩ => rfl
  rw [ew, ez, zero_add]
  rfl

/-- The reference's result, entry by entry. -/
theorem ref_apply (r : Fin 1024) (k : Fin 1024) : val_main_v34 (F := Ideal) x0 x1 x2 x3 x4 (ix2 r k) = spec x0 x1 x2 x3 x4 r k := by
  rw [val_main_v34_apply]
  have e : idx_main_v34 (ix2 r k) = ix3 (⟨r.val / 8, by omega⟩ : Fin 128) (⟨r.val % 8, Nat.mod_lt _ (by decide)⟩ : Fin 8) k := funext fun b => Fin.ext (by
    have := k.isLt; have := r.isLt
    match b with
    | ⟨0, _⟩ => show (r.val * 1024 + k.val) / 8192 = r.val / 8; omega
    | ⟨1, _⟩ => show (r.val * 1024 + k.val) / 1024 % 8 = r.val % 8; omega
    | ⟨2, _⟩ => show (r.val * 1024 + k.val) % 1024 = k.val; omega)
  rw [e, ref_row]
  rfl

/-- The feed-forward call and its reference agree on every entry, for all inputs. -/
theorem algebraic : Cert.algebraic_FsIdeal_FsRefIdeal := by
  intro m ρ m' ρ' _ hagree
  refine ⟨fun c => (Cert.FsIdeal.Gen.dats m 0 c).arrAt 5 Cert.FsIdeal.cfg0.N, Cert.FsIdeal.Value.run_blocks (F := Ideal) m ρ, ?_⟩
  refine (θ_run _ _ _).mono (fun _ h c => ⟨(h c).1.trans ?_, (h c).2⟩) (Cert.FsRefIdeal.Value.run (F := Ideal) m' ρ')
  rw [val_main_v34_eq]
  obtain ⟨h0, h1, h2, h3, h4⟩ := hagree c
  rw [h0, h1, h2, h3, h4]
  funext i
  rw [eq_ix2 i]
  exact (ref_apply _ _ _ _ _ _ _).trans (arr_apply m c _ _).symm

end Cert.Proof.Fs

end
-- ==== Proof.PromptOps.lean ====
/-
  The prompt mixer's block written as functions of its columns: the gates, the levels of the gated scores, the two heads'
  outputs and next states, and the block's rows.
-/
module

public import proofs.«01_k».proof.Proof.Base
public import proofs.«01_k».proof.Proof.Gen.PromptIdeal.Skeleton

@[expose] public section

set_option synthInstance.maxSize 4096

noncomputable section

open Idealize.ShloMosaic Idealize.ShloMosaic.TcCoe Idealize.SL.Sem Idealize.ShloMosaic.ValueIdx
open scoped BigOperators

namespace Cert.Proof.Prompt

open Cert.PromptIdeal Cert.PromptIdeal.Gen

/-- A block of one head's columns. -/
abbrev Blk : Type := FVec Ideal S256x128 .f32

/-- A literal spread over a head's block. -/
def lits (b : BitVec 32) : Blk := broadcast S256x128 (Scalar.ofBits (F := Ideal) .f32 b)

/-- The scale of the keys. -/
def scale : Ideal .f32 := Scalar.ofBits (F := Ideal) .f32 0x3DB504F3#32

/-- The logistic function of a block. -/
def sg (x : Blk) : Blk := divf (lits 0x3F800000#32) (addf (lits 0x3F800000#32) (exp (subf (lits 0x00000000#32) x)))

/-- The gated head's queries. -/
def hq (x : Blk) : Blk := mulf (mulf x (sg x)) (broadcast S256x128 scale)

/-- The gated head's forget gates, from the head's lower bounds. -/
def hf (lb : FVec Ideal S1x128 .f32) (x : Blk) : Blk :=
  addf (broadcastTo S256x128 lb broadcasts_S1x128_S256x128)
    (mulf (broadcastTo S256x128 (subf (broadcast S1x128 (Scalar.ofBits (F := Ideal) .f32 0x3F800000#32)) lb) broadcasts_S1x128_S256x128) (sg x))

/-- The gated head's keys, from its forget gates. -/
def hk (f : Blk) : Blk := subf (lits 0x3F800000#32) f

/-- The number of the row. -/
def rowNo : IVec S256x128 32 := iota .tc S256x128 32 [0] iota_S256x128_d0_w32

/-- The two rows' numbers, bitwise apart. -/
def rowXor : IVec S256x256 32 := xori (iota .tc S256x256 32 [0] iota_S256x256_d0_w32) (iota .tc S256x256 32 [1] iota_S256x256_d1_w32)

/-- Whether the row is in the upper half of its block of a level. -/
def up (m : BitVec 32) : IVec S256x128 1 := cmpi .ne (andi rowNo (broadcast S256x128 m)) (broadcast S256x128 0#32)

/-- The lower half's last row, at every row of the block, for blocks of two rows. -/
def tot0 (c : Blk) : Blk :=
  select (cmpi .eq (andi rowNo (broadcast S256x128 1#32)) (broadcast S256x128 1#32)) (dynamicRotate 0 1#32 none c rotates_S256x128_d0) c

/-- The lower half's last row, at every row of the block, for blocks of four rows. -/
def tot1 (c : Blk) : Blk :=
  select (cmpi .eq (andi rowNo (broadcast S256x128 3#32)) (broadcast S256x128 0#32)) (dynamicRotate 0 255#32 none c rotates_S256x128_d0)
    (select (cmpi .eq (andi rowNo (broadcast S256x128 3#32)) (broadcast S256x128 1#32)) c
      (select (cmpi .eq (andi rowNo (broadcast S256x128 3#32)) (broadcast S256x128 2#32)) (dynamicRotate 0 1#32 none c rotates_S256x128_d0)
        (dynamicRotate 0 2#32 none c rotates_S256x128_d0)))

/-- The lower half's last row, at every row of the block, for blocks of 8 rows. -/
def tot2 (c : Blk) : Blk :=
  shapeCast S256x128 (broadcastTo S32x8x128 (shapeCast S32x1x128 (extractStridedSlice S32x1x128 ![0, 3, 0]
    (shapeCast S32x8x128 c shapeCasts_S256x128_S32x8x128) slices_S32x8x128_o0_3_0_S32x1x128) shapeCasts_S32x1x128_S32x1x128)
    broadcasts_S32x1x128_S32x8x128) shapeCasts_S32x8x128_S256x128

/-- The lower half's last row, at every row of the block, for blocks of 16 rows. -/
def tot3 (c : Blk) : Blk :=
  shapeCast S256x128 (broadcastTo S16x16x128 (shapeCast S16x1x128 (extractStridedSlice S16x1x128 ![0, 7, 0]
    (shapeCast S16x16x128 c shapeCasts_S256x128_S16x16x128) slices_S16x16x128_o0_7_0_S16x1x128) shapeCasts_S16x1x128_S16x1x128)
    broadcasts_S16x1x128_S16x16x128) shapeCasts_S16x16x128_S256x128

/-- The lower half's last row, at every row of the block, for blocks of 32 rows. -/
def tot4 (c : Blk) : Blk :=
  shapeCast S256x128 (broadcastTo S8x32x128 (shapeCast S8x1x128 (extractStridedSlice S8x1x128 ![0, 15, 0]
    (shapeCast S8x32x128 c shapeCasts_S256x128_S8x32x128) slices_S8x32x128_o0_15_0_S8x1x128) shapeCasts_S8x1x128_S8x1x128)
    broadcasts_S8x1x128_S8x32x128) shapeCasts_S8x32x128_S256x128

/-- The lower half's last row, at every row of the block, for blocks of 64 rows. -/
def tot5 (c : Blk) : Blk :=
  shapeCast S256x128 (broadcastTo S4x64x128 (shapeCast S4x1x128 (extractStridedSlice S4x1x128 ![0, 31, 0]
    (shapeCast S4x64x128 c shapeCasts_S256x128_S4x64x128) slices_S4x64x128_o0_31_0_S4x1x128) shapeCasts_S4x1x128_S4x1x128)
    broadcasts_S4x1x128_S4x64x128) shapeCasts_S4x64x128_S256x128

/-- The lower half's last row, at every row of the block, for blocks of 128 rows. -/
def tot6 (c : Blk) : Blk :=
  shapeCast S256x128 (broadcastTo S2x128x128 (shapeCast S2x1x128 (extractStridedSlice S2x1x128 ![0, 63, 0]
    (shapeCast S2x128x128 c shapeCasts_S256x128_S2x128x128) slices_S2x128x128_o0_63_0_S2x1x128) shapeCasts_S2x1x128_S2x1x128)
    broadcasts_S2x1x128_S2x128x128) shapeCasts_S2x128x128_S256x128

/-- The lower half's last row, at every row of the block, for blocks of 256 rows. -/
def tot7 (c : Blk) : Blk :=
  shapeCast S256x128 (broadcastTo S1x256x128 (shapeCast S1x1x128 (extractStridedSlice S1x1x128 ![0, 127, 0]
    (shapeCast S1x256x128 c shapeCasts_S256x128_S1x256x128) slices_S1x256x128_o0_127_0_S1x1x128) shapeCasts_S1x1x128_S1x1x128)
    broadcasts_S1x1x128_S1x256x128) shapeCasts_S1x256x128_S256x128

/-- The decay from a level's row to the middle of its block. -/
def wgt (u : IVec S256x128 1) (c t : Blk) : Blk := exp (select u c (subf t c))

/-- One head's rows against one head's rows. -/
def rowsDot (x y : Blk) : FVec Ideal S256x256 .f32 :=
  matmul dot_S256x128_S256x128_S256x256_1_1_0_0_n_n none (truncf .bf16 x bitsLt_bf16_f32) (truncf .bf16 y bitsLt_bf16_f32) (constant S256x256 .f32 0x00000000#32)

/-- A level's scores: the pairs of rows that this level pairs, else the earlier levels'. -/
def lvS (m j : BitVec 32) (q k c t : Blk) (sc : FVec Ideal S256x256 .f32) : FVec Ideal S256x256 .f32 :=
  select (cmpi .eq (shrsi rowXor (broadcast S256x256 j)) (broadcast S256x256 1#32))
    (rowsDot (select (up m) (mulf q (wgt (up m) c t)) (lits 0x00000000#32)) (select (up m) (lits 0x00000000#32) (mulf k (wgt (up m) c t)))) sc

/-- A level's sums of logarithms, from the level's before. -/
def lvC (m : BitVec 32) (c t : Blk) : Blk := select (up m) (addf c t) c

/-- The scores of equal rows. -/
def sc0 (q k : Blk) : FVec Ideal S256x256 .f32 :=
  select (cmpi .eq rowXor (broadcast S256x256 0#32)) (rowsDot q k) (broadcast S256x256 (Scalar.ofBits (F := Ideal) .f32 0x00000000#32))

/-- The sums of logarithms after each level. -/
def cs0 (g : Blk) : Blk := g
/-- After level 0. -/
def cs1 (g : Blk) : Blk := lvC 1#32 (cs0 g) (tot0 (cs0 g))
/-- After level 1. -/
def cs2 (g : Blk) : Blk := lvC 2#32 (cs1 g) (tot1 (cs1 g))
/-- After level 2. -/
def cs3 (g : Blk) : Blk := lvC 4#32 (cs2 g) (tot2 (cs2 g))
/-- After level 3. -/
def cs4 (g : Blk) : Blk := lvC 8#32 (cs3 g) (tot3 (cs3 g))
/-- After level 4. -/
def cs5 (g : Blk) : Blk := lvC 16#32 (cs4 g) (tot4 (cs4 g))
/-- After level 5. -/
def cs6 (g : Blk) : Blk := lvC 32#32 (cs5 g) (tot5 (cs5 g))
/-- After level 6. -/
def cs7 (g : Blk) : Blk := lvC 64#32 (cs6 g) (tot6 (cs6 g))
/-- After level 7. -/
def cs8 (g : Blk) : Blk := lvC 128#32 (cs7 g) (tot7 (cs7 g))

/-- The scores after level 0. -/
def sc1 (q k g : Blk) : FVec Ideal S256x256 .f32 := lvS 1#32 0#32 q k (cs0 g) (tot0 (cs0 g)) (sc0 q k)
/-- The scores after level 1. -/
def sc2 (q k g : Blk) : FVec Ideal S256x256 .f32 := lvS 2#32 1#32 q k (cs1 g) (tot1 (cs1 g)) (sc1 q k g)
/-- The scores after level 2. -/
def sc3 (q k g : Blk) : FVec Ideal S256x256 .f32 := lvS 4#32 2#32 q k (cs2 g) (tot2 (cs2 g)) (sc2 q k g)
/-- The scores after level 3. -/
def sc4 (q k g : Blk) : FVec Ideal S256x256 .f32 := lvS 8#32 3#32 q k (cs3 g) (tot3 (cs3 g)) (sc3 q k g)
/-- The scores after level 4. -/
def sc5 (q k g : Blk) : FVec Ideal S256x256 .f32 := lvS 16#32 4#32 q k (cs4 g) (tot4 (cs4 g)) (sc4 q k g)
/-- The scores after level 5. -/
def sc6 (q k g : Blk) : FVec Ideal S256x256 .f32 := lvS 32#32 5#32 q k (cs5 g) (tot5 (cs5 g)) (sc5 q k g)
/-- The scores after level 6. -/
def sc7 (q k g : Blk) : FVec Ideal S256x256 .f32 := lvS 64#32 6#32 q k (cs6 g) (tot6 (cs6 g)) (sc6 q k g)
/-- The scores after level 7. -/
def sc8 (q k g : Blk) : FVec Ideal S256x256 .f32 := lvS 128#32 7#32 q k (cs7 g) (tot7 (cs7 g)) (sc7 q k g)

/-- Rows of scores against a head's values. -/
def scDot (x : FVec Ideal S256x256 .f32) (v : Blk) : Blk :=
  matmul dot_S256x256_S256x128_S256x128_1_0_0_1_n_n none (truncf .bf16 x bitsLt_bf16_f32) (truncf .bf16 v bitsLt_bf16_f32) (constant S256x128 .f32 0x00000000#32)

/-- Rows against a carried state, transposed. -/
def stDot (x : Blk) (st : FVec Ideal S128x128 .f32) : Blk :=
  matmul dot_S256x128_S128x128_S256x128_1_1_0_0_n_n none (truncf .bf16 x bitsLt_bf16_f32) (truncf .bf16 st bitsLt_bf16_f32) (constant S256x128 .f32 0x00000000#32)

/-- The sum over the rows of values against keys. -/
def upd (v k : Blk) : FVec Ideal S128x128 .f32 :=
  matmul dot_S256x128_S256x128_S128x128_0_0_1_1_n_n none (truncf .bf16 v bitsLt_bf16_f32) (truncf .bf16 k bitsLt_bf16_f32) (constant S128x128 .f32 0x00000000#32)

/-- The gated head's output before its norm. -/
def ho (q k g v : Blk) (st : FVec Ideal S128x128 .f32) : Blk :=
  addf (scDot (sc8 q k g) v) (stDot (mulf q (exp (cs8 g))) st)

/-- The last row. -/
def lastRow (b : Blk) : FVec Ideal S1x128 .f32 := extractStridedSlice S1x128 ![255, 0] b slices_S256x128_o255_0_S1x128

/-- The gated head's next state. -/
def hs (k g v : Blk) (st : FVec Ideal S128x128 .f32) : FVec Ideal S128x128 .f32 :=
  addf (mulf st (broadcastTo S128x128 (exp (lastRow (cs8 g))) broadcasts_S1x128_S128x128))
    (upd v (mulf k (exp (subf (broadcastTo S256x128 (lastRow (cs8 g)) broadcasts_S1x128_S256x128) (cs8 g)))))

/-- The lower bounds of the gates. -/
def lbs (x : Vec Ideal S2x512 .f32) : FVec Ideal S1x512 .f32 := k0_pay24 (F := Ideal) x

/-- The rotary turn of a block. -/
def rot (cos sin x : Blk) : Blk :=
  addf (mulf x (shapeCast S256x128 cos shapeCasts_S256x128_S256x128)) (mulf (dynamicRotate 1 64#32 none x rotates_S256x128_d1) (shapeCast S256x128 sin shapeCasts_S256x128_S256x128))

/-- The pairs of rows that the retention head keeps. -/
def keep : IVec S256x256 1 :=
  andi (cmpi .eq (shrsi rowXor (broadcast S256x256 8#32)) (broadcast S256x256 0#32))
    (cmpi .sge (iota .tc S256x256 32 [0] iota_S256x256_d0_w32) (iota .tc S256x256 32 [1] iota_S256x256_d1_w32))

/-- The retention head's decays between rows. -/
def mask (lg : Ideal .f32) : FVec Ideal S256x256 .f32 :=
  select keep (mulf (exp (mulf (sitofp .f32 (select keep (subi (iota .tc S256x256 32 [0] iota_S256x256_d0_w32) (iota .tc S256x256 32 [1] iota_S256x256_d1_w32))
    (broadcast S256x256 0#32))) (broadcast S256x256 lg))) (broadcast S256x256 scale)) (broadcast S256x256 (Scalar.ofBits (F := Ideal) .f32 0x00000000#32))

/-- The retention head's output before its norm. -/
def ro (lg : Ideal .f32) (q k v : Blk) (st : FVec Ideal S128x128 .f32) : Blk :=
  addf (scDot (mulf (rowsDot q k) (mask lg)) v)
    (stDot (mulf q (exp (mulf (addf (sitofp .f32 rowNo) (lits 0x3F800000#32)) (broadcast S256x128 lg)))) st)

/-- The retention head's next state. -/
def rs (lg gn : Ideal .f32) (k v : Blk) (st : FVec Ideal S128x128 .f32) : FVec Ideal S128x128 .f32 :=
  addf (mulf st (broadcast S128x128 gn))
    (upd v (mulf k (mulf (exp (mulf (subf (lits 0x437F0000#32) (sitofp .f32 rowNo)) (broadcast S256x128 lg))) (broadcast S256x128 scale))))

/-- A head's normed and gated output. -/
def out (o : Blk) (w : Vec Ideal S1x128 .f32) (gate : Blk) : FVec Ideal S256x128 .bf16 := k0_pay33 (F := Ideal) o w gate

/-- A state read from its row of the carried array. -/
def st (x : Vec Ideal S1x128x128 .f32) : FVec Ideal S128x128 .f32 := shapeCast S128x128 x shapeCasts_S1x128x128_S128x128

/-- A state laid as a row of the carried array. -/
def row (x : FVec Ideal S128x128 .f32) : FVec Ideal S1x128x128 .f32 := shapeCast S1x128x128 x shapeCasts_S128x128_S1x128x128

/-- The logarithm of retention head 0's decay, and the decay over a block. -/
def lg0 : Ideal .f32 := Named.named (F := Ideal) κ "log_gamma_0" 0xBD020AEC#32
/-- The decay over a block. -/
def gn0 : Ideal .f32 := Named.named (F := Ideal) κ "gamma256_0" 0x399ACCA1#32
/-- Gated head 0's lower bounds. -/
def lb0 (x : Vec Ideal S2x512 .f32) : FVec Ideal S1x128 .f32 := extractStridedSlice S1x128 ![0, 0] (lbs x) slices_S1x512_o0_0_S1x128
/-- The logarithm of retention head 1's decay, and the decay over a block. -/
def lg1 : Ideal .f32 := Named.named (F := Ideal) κ "log_gamma_1" 0xBC8102B3#32
/-- The decay over a block. -/
def gn1 : Ideal .f32 := Named.named (F := Ideal) κ "gamma256_1" 0x3C9160A5#32
/-- Gated head 1's lower bounds. -/
def lb1 (x : Vec Ideal S2x512 .f32) : FVec Ideal S1x128 .f32 := extractStridedSlice S1x128 ![0, 128] (lbs x) slices_S1x512_o0_128_S1x128
/-- The logarithm of retention head 2's decay, and the decay over a block. -/
def lg2 : Ideal .f32 := Named.named (F := Ideal) κ "log_gamma_2" 0xBC0080AC#32
/-- The decay over a block. -/
def gn2 : Ideal .f32 := Named.named (F := Ideal) κ "gamma256_2" 0x3E097FCE#32
/-- Gated head 2's lower bounds. -/
def lb2 (x : Vec Ideal S2x512 .f32) : FVec Ideal S1x128 .f32 := extractStridedSlice S1x128 ![0, 256] (lbs x) slices_S1x512_o0_256_S1x128
/-- The logarithm of retention head 3's decay, and the decay over a block. -/
def lg3 : Ideal .f32 := Named.named (F := Ideal) κ "log_gamma_3" 0xBB80402B#32
/-- The decay over a block. -/
def gn3 : Ideal .f32 := Named.named (F := Ideal) κ "gamma256_3" 0x3EBBFC5D#32
/-- Gated head 3's lower bounds. -/
def lb3 (x : Vec Ideal S2x512 .f32) : FVec Ideal S1x128 .f32 := extractStridedSlice S1x128 ![0, 384] (lbs x) slices_S1x512_o0_384_S1x128

end Cert.Proof.Prompt

end
-- ==== Proof.PromptLevels.lean ====
/-
  The levels of the gated head's scores over real blocks: which rows a level pairs, the middle row it decays to, and the sums of
  logarithms it carries.
-/
module

public import proofs.«01_k».proof.Proof.PromptOps
public import Idealize.ShloMosaic.Lib.KernelVsHost
public import Idealize.ShloMosaic.Lib.Pointwise.Contract

@[expose] public section

set_option synthInstance.maxSize 4096

noncomputable section

open Idealize.ShloMosaic hiding ix2 eq_ix2
open Idealize.ShloMosaic.TcCoe Idealize.SL.Sem Idealize.ShloMosaic.ValueIdx
open scoped BigOperators

namespace Cert.Proof.Prompt

open Cert.PromptIdeal Cert.PromptIdeal.Gen

/-! ### Words -/

/-- A decided bit selects. -/
theorem select_ite {α : Type} (p : Prop) [Decidable p] (a b : α) : Scalar.select (if p then 1#1 else 0#1) a b = if p then a else b := by
  split <;> rfl

/-- Equality of small words. -/
theorem eq_word (a b : ℕ) (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := by
      intro e
      have := congrArg BitVec.toNat e
      simp only [BitVec.toNat_ofNat] at this
      omega
    rw [if_neg h]
    show BitVec.ofBool (BitVec.ofNat 32 a == BitVec.ofNat 32 b) = 0#1
    rw [beq_eq_false_iff_ne.mpr this]
    rfl

/-- The exclusive or of two small words. -/
theorem xor_word (a b : ℕ) : IntOp.xori (BitVec.ofNat 32 a) (BitVec.ofNat 32 b) = BitVec.ofNat 32 (a ^^^ b) := by
  unfold IntOp.xori
  apply BitVec.eq_of_toNat_eq
  rw [BitVec.toNat_xor]
  simp only [BitVec.toNat_ofNat]
  exact (Nat.xor_mod_two_pow).symm

/-- A small word shifted right. -/
theorem shr_word (a j : ℕ) (ha : a < 256) (hj : j < 32) : IntOp.shrsi .vector (BitVec.ofNat 32 a) (BitVec.ofNat 32 j) = BitVec.ofNat 32 (a / 2 ^ j) := by
  unfold IntOp.shrsi
  have hj' : (BitVec.ofNat 32 j).toNat = j := by simp only [BitVec.toNat_ofNat]; omega
  rw [if_pos (by rw [hj']; exact hj)]
  have hm : (BitVec.ofNat 32 a).msb = false := by
    rw [BitVec.msb_eq_false_iff_two_mul_lt]; simp only [BitVec.toNat_ofNat]; omega
  show (BitVec.ofNat 32 a).sshiftRight (BitVec.ofNat 32 j).toNat = _
  rw [hj', BitVec.sshiftRight_eq_of_msb_false hm]
  apply BitVec.eq_of_toNat_eq
  rw [BitVec.toNat_ushiftRight, Nat.shiftRight_eq_div_pow]
  simp only [BitVec.toNat_ofNat]
  rw [Nat.mod_eq_of_lt (by omega)]
  rw [Nat.mod_eq_of_lt (lt_of_le_of_lt (Nat.div_le_self _ _) (by omega))]

/-- The exclusive or of two small numbers is small. -/
theorem xor_small (t s : ℕ) (ht : t < 256) (hs : s < 256) : t ^^^ s < 256 :=
  Nat.xor_lt_two_pow (n := 8) ht hs

/-- An exclusive or of zero. -/
theorem xor_none (a b : ℕ) : a ^^^ b = 0 ↔ a = b := by
  constructor
  · intro h
    have : (a ^^^ b) ^^^ b = 0 ^^^ b := by rw [h]
    rwa [Nat.xor_assoc, Nat.xor_self, Nat.xor_zero, Nat.zero_xor] at this
  · rintro rfl; exact Nat.xor_self _

/-- An exclusive or of one. -/
theorem xor_one (a b : ℕ) : a ^^^ b = 1 ↔ a / 2 = b / 2 ∧ a ≠ b := by
  have hd : (a ^^^ b) / 2 = (a / 2) ^^^ (b / 2) := Nat.xor_div_two
  have hm : (a ^^^ b) % 2 = (a % 2) ^^^ (b % 2) := by
    have := Nat.xor_mod_two_pow (a := a) (b := b) (n := 1)
    simpa using this
  constructor
  · intro h
    refine ⟨?_, ?_⟩
    · rw [h] at hd
      exact (xor_none _ _).mp hd.symm
    · rintro rfl
      rw [Nat.xor_self] at h
      omega
  · rintro ⟨h1, h2⟩
    rw [h1, Nat.xor_self] at hd
    have : (a ^^^ b) % 2 = 1 := by
      rw [hm]
      have ha := Nat.mod_two_eq_zero_or_one a
      have hb := Nat.mod_two_eq_zero_or_one b
      rcases ha with ha | ha <;> rcases hb with hb | hb <;> rw [ha, hb] <;> first | rfl | (exfalso; omega)
    omega

/-- The pairs of rows that a level pairs. -/
theorem pair_word (j t s : ℕ) (hj : j < 32) (ht : t < 256) (hs : s < 256) :
    IntOp.cmpi .eq (IntOp.shrsi .vector (IntOp.xori (BitVec.ofNat 32 t) (BitVec.ofNat 32 s)) (BitVec.ofNat 32 j)) 1#32
      = if t / 2 ^ (j + 1) = s / 2 ^ (j + 1) ∧ t / 2 ^ j ≠ s / 2 ^ j then 1#1 else 0#1 := by
  rw [xor_word, shr_word _ _ (xor_small t s ht hs) hj]
  rw [show (1#32 : BitVec 32) = BitVec.ofNat 32 1 from rfl, eq_word _ _ (lt_of_le_of_lt (Nat.div_le_self _ _) (by have := xor_small t s ht hs; omega)) (by omega)]
  have e : (t ^^^ s) / 2 ^ j = (t / 2 ^ j) ^^^ (s / 2 ^ j) := by
    rw [← Nat.shiftRight_eq_div_pow, Nat.shiftRight_xor_distrib, Nat.shiftRight_eq_div_pow, Nat.shiftRight_eq_div_pow]
  rw [e]
  refine if_congr ?_ rfl rfl
  rw [xor_one, Nat.div_div_eq_div_mul, Nat.div_div_eq_div_mul, ← pow_succ]

/-- The pairs of equal rows. -/
theorem same_word (t s : ℕ) (ht : t < 256) (hs : s < 256) :
    IntOp.cmpi .eq (IntOp.xori (BitVec.ofNat 32 t) (BitVec.ofNat 32 s)) 0#32 = if t = s then 1#1 else 0#1 := by
  rw [xor_word, show (0#32 : BitVec 32) = BitVec.ofNat 32 0 from rfl, eq_word _ _ (by have := xor_small t s ht hs; omega) (by omega)]
  exact if_congr (xor_none _ _) rfl rfl

/-- The pairs of rows of one block of 256. -/
theorem block_word (t s : ℕ) (ht : t < 256) (hs : s < 256) :
    IntOp.cmpi .eq (IntOp.shrsi .vector (IntOp.xori (BitVec.ofNat 32 t) (BitVec.ofNat 32 s)) 8#32) 0#32 = 1#1 := by
  rw [xor_word, show (8#32 : BitVec 32) = BitVec.ofNat 32 8 from rfl, shr_word _ _ (xor_small t s ht hs) (by norm_num)]
  have := xor_small t s ht hs
  rw [show (t ^^^ s) / 2 ^ 8 = 0 from Nat.div_eq_of_lt (by norm_num; exact this)]
  rfl

/-- The low bits of a small word. -/
theorem and_word (a j : ℕ) (ha : a < 256) (hj : j < 32) : IntOp.andi (BitVec.ofNat 32 a) (BitVec.ofNat 32 (2 ^ j - 1)) = BitVec.ofNat 32 (a % 2 ^ j) := by
  unfold IntOp.andi
  apply BitVec.eq_of_toNat_eq
  rw [BitVec.toNat_and]
  simp only [BitVec.toNat_ofNat]
  have h2 : 2 ^ j ≤ 2 ^ 31 := Nat.pow_le_pow_right (by norm_num) (by omega)
  have h3 : 0 < 2 ^ j := Nat.two_pow_pos j
  rw [Nat.mod_eq_of_lt (show a < 2 ^ 32 by omega), Nat.mod_eq_of_lt (show 2 ^ j - 1 < 2 ^ 32 by omega), Nat.and_two_pow_sub_one_eq_mod]
  exact (Nat.mod_eq_of_lt (lt_of_le_of_lt (Nat.mod_le _ _) (by omega))).symm

/-- The upper half of a level's blocks. -/
theorem up_word0 (t : Fin 256) : IntOp.cmpi .ne (IntOp.andi (BitVec.ofNat 32 t.val) 1#32) 0#32 = if t.val / 2 ^ 0 % 2 = 1 then 1#1 else 0#1 := by
  revert t; decide +kernel

/-- The upper half of a level's blocks. -/
theorem up_word1 (t : Fin 256) : IntOp.cmpi .ne (IntOp.andi (BitVec.ofNat 32 t.val) 2#32) 0#32 = if t.val / 2 ^ 1 % 2 = 1 then 1#1 else 0#1 := by
  revert t; decide +kernel

/-- The upper half of a level's blocks. -/
theorem up_word2 (t : Fin 256) : IntOp.cmpi .ne (IntOp.andi (BitVec.ofNat 32 t.val) 4#32) 0#32 = if t.val / 2 ^ 2 % 2 = 1 then 1#1 else 0#1 := by
  revert t; decide +kernel

/-- The upper half of a level's blocks. -/
theorem up_word3 (t : Fin 256) : IntOp.cmpi .ne (IntOp.andi (BitVec.ofNat 32 t.val) 8#32) 0#32 = if t.val / 2 ^ 3 % 2 = 1 then 1#1 else 0#1 := by
  revert t; decide +kernel

/-- The upper half of a level's blocks. -/
theorem up_word4 (t : Fin 256) : IntOp.cmpi .ne (IntOp.andi (BitVec.ofNat 32 t.val) 16#32) 0#32 = if t.val / 2 ^ 4 % 2 = 1 then 1#1 else 0#1 := by
  revert t; decide +kernel

/-- The upper half of a level's blocks. -/
theorem up_word5 (t : Fin 256) : IntOp.cmpi .ne (IntOp.andi (BitVec.ofNat 32 t.val) 32#32) 0#32 = if t.val / 2 ^ 5 % 2 = 1 then 1#1 else 0#1 := by
  revert t; decide +kernel

/-- The upper half of a level's blocks. -/
theorem up_word6 (t : Fin 256) : IntOp.cmpi .ne (IntOp.andi (BitVec.ofNat 32 t.val) 64#32) 0#32 = if t.val / 2 ^ 6 % 2 = 1 then 1#1 else 0#1 := by
  revert t; decide +kernel

/-- The upper half of a level's blocks. -/
theorem up_word7 (t : Fin 256) : IntOp.cmpi .ne (IntOp.andi (BitVec.ofNat 32 t.val) 128#32) 0#32 = if t.val / 2 ^ 7 % 2 = 1 then 1#1 else 0#1 := by
  revert t; decide +kernel

/-! ### Real blocks -/

/-- A real block. -/
def cb (R : ℕ → Fin 128 → ℝ) : Blk := fun y => ((R (y 0).val (y 1) : ℝ) : EReal)

/-- A real matrix over the block's rows. -/
def cm (M : ℕ → ℕ → ℝ) : FVec Ideal S256x256 .f32 := fun y => ((M (y 0).val (y 1).val : ℝ) : EReal)

/-- A real state. -/
def cs (S : Fin 128 → Fin 128 → ℝ) : FVec Ideal S128x128 .f32 := fun y => ((S (y 0) (y 1) : ℝ) : EReal)

/-- A sum of reals. -/
theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A sum of products of reals. -/
theorem coe_dot {ι : Type} (s : Finset ι) (f g : ι → ℝ) : ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- Rows against rows, at an entry. -/
theorem rowsDot_apply (x y : Blk) (t s : Fin 256) : rowsDot x y (ix2 t s) = ∑ d : Fin 128, x (ix2 t d) * y (ix2 s d) := by
  unfold rowsDot
  refine (Ideal.matmul_transposedRhs_apply (M := 256) (K := 128) (N := 256) none _ _ _ t s).trans ?_
  have : (constant S256x256 .f32 0x00000000#32 : FVec Ideal S256x256 .f32) (ix2 t s) = (0 : EReal) := Ideal.ofBits_zero_f32
  rw [this, zero_add]
  rfl

/-- Real rows against real rows. -/
theorem rowsDot_cb (X Y : ℕ → Fin 128 → ℝ) : rowsDot (cb X) (cb Y) = cm (fun t s => ∑ d, X t d * Y s d) := by
  funext y
  rw [eq_ix2 y]
  refine (rowsDot_apply _ _ _ _).trans ?_
  exact coe_dot _ _ _

/-- Scores against values. -/
theorem scDot_cb (M : ℕ → ℕ → ℝ) (V : ℕ → Fin 128 → ℝ) : scDot (cm M) (cb V) = cb (fun t e => ∑ s : Fin 256, M t s.val * V s.val e) := by
  funext y
  rw [eq_ix2 y]
  refine (Base.dot_apply (M := 256) (K := 256) (N := 128) none _ _ _ _).trans ?_
  exact coe_dot _ _ _

/-- Rows against a state. -/
theorem stDot_cb (X : ℕ → Fin 128 → ℝ) (S : Fin 128 → Fin 128 → ℝ) : stDot (cb X) (cs S) = cb (fun t e => ∑ d, X t d * S e d) := by
  funext y
  rw [eq_ix2 y]
  unfold stDot
  refine (Ideal.matmul_transposedRhs_apply (M := 256) (K := 128) (N := 128) none _ _ _ _ _).trans ?_
  have : (constant S256x128 .f32 0x00000000#32 : FVec Ideal S256x128 .f32) (ix2 (y 0) (y 1)) = (0 : EReal) := Ideal.ofBits_zero_f32
  refine (congrArg (· + _) this).trans ((zero_add _).trans ?_)
  exact coe_dot _ _ _

/-- Values against keys, over the rows. -/
theorem upd_cb (V K : ℕ → Fin 128 → ℝ) : upd (cb V) (cb K) = cs (fun e d => ∑ s : Fin 256, V s.val e * K s.val d) := by
  funext y
  rw [eq_ix2 y]
  unfold upd
  refine (Ideal.matmul_apply₁_of dot_S256x128_S256x128_S128x128_0_0_1_1_n_n (a := 0) rfl (K := 256) rfl _ _ _ (ix2 (y 0) (y 1))
    (fun k => ix2 k (y 0)) (fun k => ix2 k (y 1)) ?_ ?_).trans ?_
  · intro k; funext d; match d with
    | ⟨0, _⟩ => rfl
    | ⟨1, _⟩ => rfl
  · intro k; funext d; match d with
    | ⟨0, _⟩ => rfl
    | ⟨1, _⟩ => rfl
  have : (constant S128x128 .f32 0x00000000#32 : FVec Ideal S128x128 .f32) (ix2 (y 0) (y 1)) = (0 : EReal) := Ideal.ofBits_zero_f32
  refine (congrArg (· + _) this).trans ((zero_add _).trans ?_)
  exact coe_dot _ _ _

/-! ### The levels -/

/-- The sum of the first `n` rows. -/
def pre (G : ℕ → Fin 128 → ℝ) (n : ℕ) (d : Fin 128) : ℝ := ∑ u ∈ Finset.range n, G u d

/-- The sum of the rows of the level's block up to a row. -/
def C (G : ℕ → Fin 128 → ℝ) (j t : ℕ) (d : Fin 128) : ℝ := pre G (t + 1) d - pre G (t / 2 ^ j * 2 ^ j) d

/-- The last row of the lower half of a level's block. -/
def mid (j t : ℕ) : ℕ := t / 2 ^ (j + 1) * 2 ^ (j + 1) + 2 ^ j - 1

/-- The scores within a level's blocks. -/
def Sc (Q K G : ℕ → Fin 128 → ℝ) (j t s : ℕ) : ℝ :=
  if t / 2 ^ j = s / 2 ^ j ∧ s ≤ t then ∑ d, Q t d * K s d * Real.exp (pre G (t + 1) d - pre G (s + 1) d) else 0

/-- A quotient by the double of a level's length. -/
theorem half (j t : ℕ) : t / 2 ^ (j + 1) = t / 2 ^ j / 2 := by rw [pow_succ, Nat.div_div_eq_div_mul]

/-- The sums after a level. -/
theorem C_succ (G : ℕ → Fin 128 → ℝ) (j t : ℕ) (d : Fin 128) :
    C G (j + 1) t d = if t / 2 ^ j % 2 = 1 then C G j t d + C G j (mid j t) d else C G j t d := by
  have hp : 0 < 2 ^ j := Nat.two_pow_pos j
  unfold C mid
  rw [half]
  set q := t / 2 ^ j with hq
  have e1 : q / 2 * 2 ^ (j + 1) = 2 * (q / 2) * 2 ^ j := by rw [pow_succ]; ring
  rw [e1]
  split
  · rename_i h
    have hqq : q = 2 * (q / 2) + 1 := by omega
    have e2 : 2 * (q / 2) * 2 ^ j + 2 ^ j = q * 2 ^ j := by
      calc 2 * (q / 2) * 2 ^ j + 2 ^ j = (2 * (q / 2) + 1) * 2 ^ j := by ring
        _ = q * 2 ^ j := by rw [← hqq]
    rw [e2]
    have e3 : q * 2 ^ j - 1 + 1 = q * 2 ^ j := by
      have : 1 ≤ q * 2 ^ j := Nat.mul_pos (by omega) hp
      omega
    have e4 : (q * 2 ^ j - 1) / 2 ^ j = 2 * (q / 2) := by
      rw [← e2]
      have : 2 * (q / 2) * 2 ^ j + 2 ^ j - 1 = 2 ^ j - 1 + 2 ^ j * (2 * (q / 2)) := by
        have : 2 * (q / 2) * 2 ^ j = 2 ^ j * (2 * (q / 2)) := by ring
        omega
      rw [this, Nat.add_mul_div_left _ _ hp, Nat.div_eq_of_lt (by omega)]
      ring
    rw [e3, e4]
    ring
  · rename_i h
    have hqq : 2 * (q / 2) = q := by omega
    rw [hqq]

/-- The scores after a level. -/
theorem Sc_succ (Q K G : ℕ → Fin 128 → ℝ) (j t s : ℕ) :
    Sc Q K G (j + 1) t s = if t / 2 ^ (j + 1) = s / 2 ^ (j + 1) ∧ t / 2 ^ j ≠ s / 2 ^ j then
      ∑ d, (if t / 2 ^ j % 2 = 1 then Q t d * Real.exp (C G j t d) else 0)
        * (if s / 2 ^ j % 2 = 1 then 0 else K s d * Real.exp (C G j (mid j s) d - C G j s d)) else Sc Q K G j t s := by
  have hp : 0 < 2 ^ j := Nat.two_pow_pos j
  have ht := Nat.div_add_mod t (2 ^ j)
  have hs := Nat.div_add_mod s (2 ^ j)
  have htm := Nat.mod_lt t hp
  have hsm := Nat.mod_lt s hp
  rw [half, half]
  set q := t / 2 ^ j with hq
  set p := s / 2 ^ j with hpp
  split
  · rename_i h
    obtain ⟨h1, h2⟩ := h
    unfold Sc
    rw [half, half, ← hq, ← hpp]
    by_cases hu : q % 2 = 1
    · have hl : ¬ p % 2 = 1 := by omega
      have hqp : q = p + 1 := by omega
      have hst : s ≤ t := by
        have : 2 ^ j * q = 2 ^ j * p + 2 ^ j := by rw [hqp]; ring
        omega
      rw [if_pos ⟨h1, hst⟩]
      refine Finset.sum_congr rfl fun d _ => ?_
      rw [if_pos hu, if_neg hl]
      have e : C G j t d + (C G j (mid j s) d - C G j s d) = pre G (t + 1) d - pre G (s + 1) d := by
        unfold C mid
        rw [half, ← hq, ← hpp]
        have hp2 : p / 2 * 2 ^ (j + 1) = p * 2 ^ j := by
          have : p = 2 * (p / 2) := by omega
          calc p / 2 * 2 ^ (j + 1) = 2 * (p / 2) * 2 ^ j := by rw [pow_succ]; ring
            _ = p * 2 ^ j := by rw [← this]
        rw [hp2]
        have e2 : p * 2 ^ j + 2 ^ j - 1 = 2 ^ j - 1 + 2 ^ j * p := by
          have : p * 2 ^ j = 2 ^ j * p := by ring
          omega
        have e4 : (p * 2 ^ j + 2 ^ j - 1) / 2 ^ j = p := by
          rw [e2, Nat.add_mul_div_left _ _ hp, Nat.div_eq_of_lt (by omega)]; ring
        have e3 : p * 2 ^ j + 2 ^ j - 1 + 1 = q * 2 ^ j := by
          rw [hqp]
          have : (p + 1) * 2 ^ j = p * 2 ^ j + 2 ^ j := by ring
          omega
        rw [e3, e4]
        ring
      rw [← e, Real.exp_add]
      ring
    · rw [if_neg]
      · symm
        refine Finset.sum_eq_zero fun d _ => ?_
        rw [if_neg hu, zero_mul]
      · rintro ⟨_, h⟩
        have hqp : p = q + 1 := by omega
        have : 2 ^ j * p = 2 ^ j * q + 2 ^ j := by rw [hqp]; ring
        omega
  · rename_i h
    unfold Sc
    rw [half, half, ← hq, ← hpp]
    refine if_congr ?_ rfl rfl
    constructor
    · rintro ⟨h1, h2⟩
      refine ⟨?_, h2⟩
      by_contra h3
      exact h ⟨h1, h3⟩
    · rintro ⟨h1, h2⟩
      exact ⟨by rw [h1], h2⟩

end Cert.Proof.Prompt

end
-- ==== Proof.PromptGate.lean ====
/-
  The gated head's block over the reals: its scores, output and next state are those of the recurrence that decays the state by
  each row's factor and adds the row's value against its key.
-/
module

public import proofs.«01_k».proof.Proof.PromptLevels

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx
open scoped BigOperators

namespace Cert.Proof.Prompt

open Cert.PromptIdeal Cert.PromptIdeal.Gen

/-- A row's number. -/
theorem rowNo_apply (y : S256x128.Idx) : rowNo y = BitVec.ofNat 32 (y 0).val := by
  show BitVec.ofNat 32 (0 * 256 + (y 0).val) = _
  rw [Nat.zero_mul, Nat.zero_add]

/-- Two rows' numbers, bitwise apart. -/
theorem rowXor_apply (y : S256x256.Idx) : rowXor y = IntOp.xori (BitVec.ofNat 32 (y 0).val) (BitVec.ofNat 32 (y 1).val) := by
  show IntOp.xori (BitVec.ofNat 32 (0 * 256 + (y 0).val)) (BitVec.ofNat 32 (0 * 256 + (y 1).val)) = _
  rw [Nat.zero_mul, Nat.zero_add, Nat.zero_add]

/-! ### The middle rows -/

/-- Blocks of two rows. -/
theorem tot0_cb (R : ℕ → Fin 128 → ℝ) : tot0 (cb R) = cb (fun t => R (mid 0 t)) := by
  funext y
  have hy : (y 0).val < 256 := (y 0).isLt
  have e : IntOp.cmpi .eq (IntOp.andi (BitVec.ofNat 32 (y 0).val) 1#32) 1#32 = if (y 0).val % 2 = 1 then 1#1 else 0#1 := by
    have := and_word (y 0).val 1 hy (by norm_num)
    rw [show (1#32 : BitVec 32) = BitVec.ofNat 32 (2 ^ 1 - 1) from rfl, this]
    exact eq_word _ _ (by omega) (by norm_num)
  rw [← rowNo_apply] at e
  show Scalar.select (IntOp.cmpi .eq (IntOp.andi (rowNo y) 1#32) 1#32) (dynamicRotate 0 1#32 none (cb R) rotates_S256x128_d0 y) (cb R y) = _
  rw [e, select_ite]
  split
  · rename_i h
    refine (dynamicRotate_apply (s := S256x128) 0 1#32 (cb R) _ y (ix2 ⟨(y 0).val - 1, by omega⟩ (y 1)) ?_).trans ?_
    · intro b; match b with
      | ⟨0, _⟩ => show (y 0).val - 1 = ((y 0).val + 256 - 1 % 256) % 256; omega
      | ⟨1, _⟩ => rfl
    · show ((R ((y 0).val - 1) (y 1) : ℝ) : EReal) = ((R (mid 0 (y 0).val) (y 1) : ℝ) : EReal)
      rw [show mid 0 (y 0).val = (y 0).val - 1 by unfold mid; norm_num; omega]
  · rename_i h
    show ((R (y 0).val (y 1) : ℝ) : EReal) = ((R (mid 0 (y 0).val) (y 1) : ℝ) : EReal)
    rw [show mid 0 (y 0).val = (y 0).val by unfold mid; norm_num; omega]

/-- A rotation over the rows, at an entry. -/
theorem turn_cb (R : ℕ → Fin 128 → ℝ) (w : BitVec 32) (y : S256x128.Idx) (n : ℕ) (hn : n < 256) (h : n = ((y 0).val + 256 - w.toNat % 256) % 256) :
    dynamicRotate 0 w none (cb R) rotates_S256x128_d0 y = ((R n (y 1) : ℝ) : EReal) := by
  refine (dynamicRotate_apply (s := S256x128) 0 w (cb R) _ y (ix2 ⟨n, hn⟩ (y 1)) ?_).trans rfl
  intro b; match b with
  | ⟨0, _⟩ => exact h
  | ⟨1, _⟩ => rfl

/-- Blocks of four rows. -/
theorem tot1_cb (R : ℕ → Fin 128 → ℝ) : tot1 (cb R) = cb (fun t => R (mid 1 t)) := by
  funext y
  have hy : (y 0).val < 256 := (y 0).isLt
  have e (n : ℕ) (hn : n < 4) : IntOp.cmpi .eq (IntOp.andi (BitVec.ofNat 32 (y 0).val) 3#32) (BitVec.ofNat 32 n) = if (y 0).val % 4 = n then 1#1 else 0#1 := by
    have := and_word (y 0).val 2 hy (by norm_num)
    rw [show (3#32 : BitVec 32) = BitVec.ofNat 32 (2 ^ 2 - 1) from rfl, this]
    exact eq_word _ _ (by omega) (by omega)
  rw [← rowNo_apply] at e
  show Scalar.select (IntOp.cmpi .eq (IntOp.andi (rowNo y) 3#32) (BitVec.ofNat 32 0)) (dynamicRotate 0 255#32 none (cb R) rotates_S256x128_d0 y)
    (Scalar.select (IntOp.cmpi .eq (IntOp.andi (rowNo y) 3#32) (BitVec.ofNat 32 1)) (cb R y)
      (Scalar.select (IntOp.cmpi .eq (IntOp.andi (rowNo y) 3#32) (BitVec.ofNat 32 2)) (dynamicRotate 0 1#32 none (cb R) rotates_S256x128_d0 y)
        (dynamicRotate 0 2#32 none (cb R) rotates_S256x128_d0 y))) = _
  rw [e 0 (by norm_num), e 1 (by norm_num), e 2 (by norm_num), select_ite, select_ite, select_ite]
  show _ = ((R (mid 1 (y 0).val) (y 1) : ℝ) : EReal)
  have hm : mid 1 (y 0).val = (y 0).val / 4 * 4 + 1 := by unfold mid; norm_num
  rw [hm]
  split
  · exact turn_cb R _ y _ (by omega) (by show _ = (_ + 256 - 255 % 256) % 256; omega)
  split
  · show ((R (y 0).val (y 1) : ℝ) : EReal) = _
    rw [show (y 0).val / 4 * 4 + 1 = (y 0).val by omega]
  split
  · exact turn_cb R _ y _ (by omega) (by show _ = (_ + 256 - 1 % 256) % 256; omega)
  · exact turn_cb R _ y _ (by omega) (by show _ = (_ + 256 - 2 % 256) % 256; omega)

/-- Blocks of 8 rows. -/
theorem tot2_cb (R : ℕ → Fin 128 → ℝ) : tot2 (cb R) = cb (fun t => R (mid 2 t)) := by
  funext y
  have hy : (y 0).val < 256 := (y 0).isLt
  unfold tot2
  refine (shapeCast_apply (s := S32x8x128) (t := S256x128) _ _ y (ix3 ⟨(y 0).val / 8, by omega⟩ ⟨(y 0).val % 8, by omega⟩ (y 1)) ?_).trans ?_
  · rw [Shape.rowMajor_val_two, Shape.rowMajor_val_three]
    show ((y 0).val / 8 * 8 + (y 0).val % 8) * 128 + (y 1).val = (y 0).val * 128 + (y 1).val
    omega
  refine (broadcastTo_apply (s := S32x1x128) (t := S32x8x128) _ _ _ (ix3 ⟨(y 0).val / 8, by omega⟩ 0 (y 1)) ?_).trans ?_
  · intro a; match a with
    | ⟨0, _⟩ => rfl
    | ⟨1, _⟩ => rfl
    | ⟨2, _⟩ => rfl
  rw [shapeCast_self]
  refine (extractStridedSlice_apply (s := S32x8x128) (t := S32x1x128) ![0, 3, 0] _ _ _ (ix3 ⟨(y 0).val / 8, by omega⟩ ⟨3, by omega⟩ (y 1)) ?_).trans ?_
  · intro a; match a with
    | ⟨0, _⟩ => exact (zero_add _).symm
    | ⟨1, _⟩ => rfl
    | ⟨2, _⟩ => exact (zero_add _).symm
  refine (shapeCast_apply (s := S256x128) (t := S32x8x128) _ _ _ (ix2 ⟨(y 0).val / 8 * 8 + 3, by omega⟩ (y 1)) ?_).trans ?_
  · rw [Shape.rowMajor_val_two, Shape.rowMajor_val_three]
    rfl
  · show ((R ((y 0).val / 8 * 8 + 3) (y 1) : ℝ) : EReal) = ((R (mid 2 (y 0).val) (y 1) : ℝ) : EReal)
    rw [show mid 2 (y 0).val = (y 0).val / 8 * 8 + 3 by unfold mid; norm_num]

/-- Blocks of 16 rows. -/
theorem tot3_cb (R : ℕ → Fin 128 → ℝ) : tot3 (cb R) = cb (fun t => R (mid 3 t)) := by
  funext y
  have hy : (y 0).val < 256 := (y 0).isLt
  unfold tot3
  refine (shapeCast_apply (s := S16x16x128) (t := S256x128) _ _ y (ix3 ⟨(y 0).val / 16, by omega⟩ ⟨(y 0).val % 16, by omega⟩ (y 1)) ?_).trans ?_
  · rw [Shape.rowMajor_val_two, Shape.rowMajor_val_three]
    show ((y 0).val / 16 * 16 + (y 0).val % 16) * 128 + (y 1).val = (y 0).val * 128 + (y 1).val
    omega
  refine (broadcastTo_apply (s := S16x1x128) (t := S16x16x128) _ _ _ (ix3 ⟨(y 0).val / 16, by omega⟩ 0 (y 1)) ?_).trans ?_
  · intro a; match a with
    | ⟨0, _⟩ => rfl
    | ⟨1, _⟩ => rfl
    | ⟨2, _⟩ => rfl
  rw [shapeCast_self]
  refine (extractStridedSlice_apply (s := S16x16x128) (t := S16x1x128) ![0, 7, 0] _ _ _ (ix3 ⟨(y 0).val / 16, by omega⟩ ⟨7, by omega⟩ (y 1)) ?_).trans ?_
  · intro a; match a with
    | ⟨0, _⟩ => exact (zero_add _).symm
    | ⟨1, _⟩ => rfl
    | ⟨2, _⟩ => exact (zero_add _).symm
  refine (shapeCast_apply (s := S256x128) (t := S16x16x128) _ _ _ (ix2 ⟨(y 0).val / 16 * 16 + 7, by omega⟩ (y 1)) ?_).trans ?_
  · rw [Shape.rowMajor_val_two, Shape.rowMajor_val_three]
    rfl
  · show ((R ((y 0).val / 16 * 16 + 7) (y 1) : ℝ) : EReal) = ((R (mid 3 (y 0).val) (y 1) : ℝ) : EReal)
    rw [show mid 3 (y 0).val = (y 0).val / 16 * 16 + 7 by unfold mid; norm_num]

/-- Blocks of 32 rows. -/
theorem tot4_cb (R : ℕ → Fin 128 → ℝ) : tot4 (cb R) = cb (fun t => R (mid 4 t)) := by
  funext y
  have hy : (y 0).val < 256 := (y 0).isLt
  unfold tot4
  refine (shapeCast_apply (s := S8x32x128) (t := S256x128) _ _ y (ix3 ⟨(y 0).val / 32, by omega⟩ ⟨(y 0).val % 32, by omega⟩ (y 1)) ?_).trans ?_
  · rw [Shape.rowMajor_val_two, Shape.rowMajor_val_three]
    show ((y 0).val / 32 * 32 + (y 0).val % 32) * 128 + (y 1).val = (y 0).val * 128 + (y 1).val
    omega
  refine (broadcastTo_apply (s := S8x1x128) (t := S8x32x128) _ _ _ (ix3 ⟨(y 0).val / 32, by omega⟩ 0 (y 1)) ?_).trans ?_
  · intro a; match a with
    | ⟨0, _⟩ => rfl
    | ⟨1, _⟩ => rfl
    | ⟨2, _⟩ => rfl
  rw [shapeCast_self]
  refine (extractStridedSlice_apply (s := S8x32x128) (t := S8x1x128) ![0, 15, 0] _ _ _ (ix3 ⟨(y 0).val / 32, by omega⟩ ⟨15, by omega⟩ (y 1)) ?_).trans ?_
  · intro a; match a with
    | ⟨0, _⟩ => exact (zero_add _).symm
    | ⟨1, _⟩ => rfl
    | ⟨2, _⟩ => exact (zero_add _).symm
  refine (shapeCast_apply (s := S256x128) (t := S8x32x128) _ _ _ (ix2 ⟨(y 0).val / 32 * 32 + 15, by omega⟩ (y 1)) ?_).trans ?_
  · rw [Shape.rowMajor_val_two, Shape.rowMajor_val_three]
    rfl
  · show ((R ((y 0).val / 32 * 32 + 15) (y 1) : ℝ) : EReal) = ((R (mid 4 (y 0).val) (y 1) : ℝ) : EReal)
    rw [show mid 4 (y 0).val = (y 0).val / 32 * 32 + 15 by unfold mid; norm_num]

/-- Blocks of 64 rows. -/
theorem tot5_cb (R : ℕ → Fin 128 → ℝ) : tot5 (cb R) = cb (fun t => R (mid 5 t)) := by
  funext y
  have hy : (y 0).val < 256 := (y 0).isLt
  unfold tot5
  refine (shapeCast_apply (s := S4x64x128) (t := S256x128) _ _ y (ix3 ⟨(y 0).val / 64, by omega⟩ ⟨(y 0).val % 64, by omega⟩ (y 1)) ?_).trans ?_
  · rw [Shape.rowMajor_val_two, Shape.rowMajor_val_three]
    show ((y 0).val / 64 * 64 + (y 0).val % 64) * 128 + (y 1).val = (y 0).val * 128 + (y 1).val
    omega
  refine (broadcastTo_apply (s := S4x1x128) (t := S4x64x128) _ _ _ (ix3 ⟨(y 0).val / 64, by omega⟩ 0 (y 1)) ?_).trans ?_
  · intro a; match a with
    | ⟨0, _⟩ => rfl
    | ⟨1, _⟩ => rfl
    | ⟨2, _⟩ => rfl
  rw [shapeCast_self]
  refine (extractStridedSlice_apply (s := S4x64x128) (t := S4x1x128) ![0, 31, 0] _ _ _ (ix3 ⟨(y 0).val / 64, by omega⟩ ⟨31, by omega⟩ (y 1)) ?_).trans ?_
  · intro a; match a with
    | ⟨0, _⟩ => exact (zero_add _).symm
    | ⟨1, _⟩ => rfl
    | ⟨2, _⟩ => exact (zero_add _).symm
  refine (shapeCast_apply (s := S256x128) (t := S4x64x128) _ _ _ (ix2 ⟨(y 0).val / 64 * 64 + 31, by omega⟩ (y 1)) ?_).trans ?_
  · rw [Shape.rowMajor_val_two, Shape.rowMajor_val_three]
    rfl
  · show ((R ((y 0).val / 64 * 64 + 31) (y 1) : ℝ) : EReal) = ((R (mid 5 (y 0).val) (y 1) : ℝ) : EReal)
    rw [show mid 5 (y 0).val = (y 0).val / 64 * 64 + 31 by unfold mid; norm_num]

/-- Blocks of 128 rows. -/
theorem tot6_cb (R : ℕ → Fin 128 → ℝ) : tot6 (cb R) = cb (fun t => R (mid 6 t)) := by
  funext y
  have hy : (y 0).val < 256 := (y 0).isLt
  unfold tot6
  refine (shapeCast_apply (s := S2x128x128) (t := S256x128) _ _ y (ix3 ⟨(y 0).val / 128, by omega⟩ ⟨(y 0).val % 128, by omega⟩ (y 1)) ?_).trans ?_
  · rw [Shape.rowMajor_val_two, Shape.rowMajor_val_three]
    show ((y 0).val / 128 * 128 + (y 0).val % 128) * 128 + (y 1).val = (y 0).val * 128 + (y 1).val
    omega
  refine (broadcastTo_apply (s := S2x1x128) (t := S2x128x128) _ _ _ (ix3 ⟨(y 0).val / 128, by omega⟩ 0 (y 1)) ?_).trans ?_
  · intro a; match a with
    | ⟨0, _⟩ => rfl
    | ⟨1, _⟩ => rfl
    | ⟨2, _⟩ => rfl
  rw [shapeCast_self]
  refine (extractStridedSlice_apply (s := S2x128x128) (t := S2x1x128) ![0, 63, 0] _ _ _ (ix3 ⟨(y 0).val / 128, by omega⟩ ⟨63, by omega⟩ (y 1)) ?_).trans ?_
  · intro a; match a with
    | ⟨0, _⟩ => exact (zero_add _).symm
    | ⟨1, _⟩ => rfl
    | ⟨2, _⟩ => exact (zero_add _).symm
  refine (shapeCast_apply (s := S256x128) (t := S2x128x128) _ _ _ (ix2 ⟨(y 0).val / 128 * 128 + 63, by omega⟩ (y 1)) ?_).trans ?_
  · rw [Shape.rowMajor_val_two, Shape.rowMajor_val_three]
    rfl
  · show ((R ((y 0).val / 128 * 128 + 63) (y 1) : ℝ) : EReal) = ((R (mid 6 (y 0).val) (y 1) : ℝ) : EReal)
    rw [show mid 6 (y 0).val = (y 0).val / 128 * 128 + 63 by unfold mid; norm_num]

/-- Blocks of 256 rows. -/
theorem tot7_cb (R : ℕ → Fin 128 → ℝ) : tot7 (cb R) = cb (fun t => R (mid 7 t)) := by
  funext y
  have hy : (y 0).val < 256 := (y 0).isLt
  unfold tot7
  refine (shapeCast_apply (s := S1x256x128) (t := S256x128) _ _ y (ix3 ⟨(y 0).val / 256, by omega⟩ ⟨(y 0).val % 256, by omega⟩ (y 1)) ?_).trans ?_
  · rw [Shape.rowMajor_val_two, Shape.rowMajor_val_three]
    show ((y 0).val / 256 * 256 + (y 0).val % 256) * 128 + (y 1).val = (y 0).val * 128 + (y 1).val
    omega
  refine (broadcastTo_apply (s := S1x1x128) (t := S1x256x128) _ _ _ (ix3 ⟨(y 0).val / 256, by omega⟩ 0 (y 1)) ?_).trans ?_
  · intro a; match a with
    | ⟨0, _⟩ => show (y 0).val / 256 = 0; omega
    | ⟨1, _⟩ => rfl
    | ⟨2, _⟩ => rfl
  rw [shapeCast_self]
  refine (extractStridedSlice_apply (s := S1x256x128) (t := S1x1x128) ![0, 127, 0] _ _ _ (ix3 ⟨(y 0).val / 256, by omega⟩ ⟨127, by omega⟩ (y 1)) ?_).trans ?_
  · intro a; match a with
    | ⟨0, _⟩ => exact (zero_add _).symm
    | ⟨1, _⟩ => rfl
    | ⟨2, _⟩ => exact (zero_add _).symm
  refine (shapeCast_apply (s := S256x128) (t := S1x256x128) _ _ _ (ix2 ⟨(y 0).val / 256 * 256 + 127, by omega⟩ (y 1)) ?_).trans ?_
  · rw [Shape.rowMajor_val_two, Shape.rowMajor_val_three]
    rfl
  · show ((R ((y 0).val / 256 * 256 + 127) (y 1) : ℝ) : EReal) = ((R (mid 7 (y 0).val) (y 1) : ℝ) : EReal)
    rw [show mid 7 (y 0).val = (y 0).val / 256 * 256 + 127 by unfold mid; norm_num]

/-! ### Blocks of reals, entry by entry -/

/-- Equal rows make equal blocks. -/
theorem cb_congr {R R' : ℕ → Fin 128 → ℝ} (h : ∀ t, t < 256 → ∀ d, R t d = R' t d) : cb R = cb R' :=
  funext fun y => congrArg (fun r : ℝ => (r : EReal)) (h (y 0).val (y 0).isLt (y 1))

/-- A product of blocks. -/
theorem mul_cb (X Y : ℕ → Fin 128 → ℝ) : mulf (cb X) (cb Y) = cb (fun t d => X t d * Y t d) :=
  funext fun y => (EReal.coe_mul _ _).symm

/-- A sum of blocks. -/
theorem add_cb (X Y : ℕ → Fin 128 → ℝ) : addf (cb X) (cb Y) = cb (fun t d => X t d + Y t d) :=
  funext fun y => (EReal.coe_add _ _).symm

/-- A difference of blocks. -/
theorem sub_cb (X Y : ℕ → Fin 128 → ℝ) : subf (cb X) (cb Y) = cb (fun t d => X t d - Y t d) :=
  funext fun y => (EReal.coe_sub _ _).symm

/-- A block's exponentials. -/
theorem exp_cb (X : ℕ → Fin 128 → ℝ) : exp (cb X) = cb (fun t d => Real.exp (X t d)) :=
  funext fun y => Ideal.exp_coe _

/-- The block of zeros. -/
theorem zero_cb : lits 0x00000000#32 = cb (fun _ _ => 0) :=
  funext fun y => (Ideal.ofBits_zero_f32.trans EReal.coe_zero.symm)

/-- A choice between blocks by a decided bit. -/
theorem select_cb (u : IVec S256x128 1) (p : ℕ → Prop) [DecidablePred p] (hu : ∀ y : S256x128.Idx, u y = if p (y 0).val then 1#1 else 0#1)
    (X Y : ℕ → Fin 128 → ℝ) : select u (cb X) (cb Y) = cb (fun t d => if p t then X t d else Y t d) := by
  funext y
  show Scalar.select (u y) (cb X y) (cb Y y) = _
  rw [hu y, select_ite]
  show _ = (((if p (y 0).val then X (y 0).val (y 1) else Y (y 0).val (y 1)) : ℝ) : EReal)
  split <;> rfl

/-- The upper half's bit at a row. -/
theorem up_apply (m : BitVec 32) (y : S256x128.Idx) : up m y = IntOp.cmpi .ne (IntOp.andi (BitVec.ofNat 32 (y 0).val) m) 0#32 := by
  rw [← rowNo_apply]; rfl

/-- A level's sums. -/
theorem lvC_cb (j : ℕ) (m : BitVec 32) (hu : ∀ y : S256x128.Idx, up m y = if (y 0).val / 2 ^ j % 2 = 1 then 1#1 else 0#1) (G : ℕ → Fin 128 → ℝ) :
    lvC m (cb (C G j)) (cb (fun t => C G j (mid j t))) = cb (C G (j + 1)) := by
  unfold lvC
  rw [add_cb, select_cb _ (fun t => t / 2 ^ j % 2 = 1) hu]
  refine cb_congr fun t _ d => ?_
  exact (C_succ G j t d).symm

/-- A level's scores. -/
theorem lvS_cb (j : ℕ) (hj : j < 32) (m w : BitVec 32) (hw : w = BitVec.ofNat 32 j)
    (hu : ∀ y : S256x128.Idx, up m y = if (y 0).val / 2 ^ j % 2 = 1 then 1#1 else 0#1) (Q K G : ℕ → Fin 128 → ℝ) :
    lvS m w (cb Q) (cb K) (cb (C G j)) (cb (fun t => C G j (mid j t))) (cm (Sc Q K G j)) = cm (Sc Q K G (j + 1)) := by
  subst hw
  unfold lvS wgt
  rw [sub_cb, select_cb _ (fun t => t / 2 ^ j % 2 = 1) hu, exp_cb, mul_cb, mul_cb, zero_cb, select_cb _ (fun t => t / 2 ^ j % 2 = 1) hu,
    select_cb _ (fun t => t / 2 ^ j % 2 = 1) hu, rowsDot_cb]
  funext y
  have ht : (y 0).val < 256 := (y 0).isLt
  have hs : (y 1).val < 256 := (y 1).isLt
  have hp := pair_word j (y 0).val (y 1).val hj ht hs
  rw [← rowXor_apply] at hp
  refine (congrArg (fun b => Scalar.select b (cm _ y) (cm (Sc Q K G j) y)) hp).trans ?_
  rw [select_ite]
  show _ = ((Sc Q K G (j + 1) (y 0).val (y 1).val : ℝ) : EReal)
  rw [Sc_succ]
  split
  · refine congrArg (fun r : ℝ => (r : EReal)) (Finset.sum_congr rfl fun d _ => ?_)
    dsimp only
    by_cases h1 : (y 0).val / 2 ^ j % 2 = 1 <;> by_cases h2 : (y 1).val / 2 ^ j % 2 = 1 <;> simp only [h1, h2, if_true, if_false]
  · rfl

/-- The sums before the first level. -/
theorem C_zero (G : ℕ → Fin 128 → ℝ) (t : ℕ) (d : Fin 128) : C G 0 t d = G t d := by
  unfold C pre
  rw [pow_zero, Nat.div_one, Nat.mul_one, Finset.sum_range_succ]
  ring

/-- The sums before the first level, as a block. -/
theorem cs0_cb (G : ℕ → Fin 128 → ℝ) : cs0 (cb G) = cb (C G 0) :=
  cb_congr fun t _ d => (C_zero G t d).symm

/-- The scores before the first level. -/
theorem sc0_cb (Q K G : ℕ → Fin 128 → ℝ) : sc0 (cb Q) (cb K) = cm (Sc Q K G 0) := by
  unfold sc0
  rw [rowsDot_cb]
  funext y
  have ht : (y 0).val < 256 := (y 0).isLt
  have hs : (y 1).val < 256 := (y 1).isLt
  have hp := same_word (y 0).val (y 1).val ht hs
  rw [← rowXor_apply] at hp
  refine (congrArg (fun b => Scalar.select b (cm _ y) (FloatOps.ofBits (F := Ideal) .f32 0x00000000#32)) hp).trans ?_
  rw [select_ite]
  show _ = ((Sc Q K G 0 (y 0).val (y 1).val : ℝ) : EReal)
  unfold Sc
  rw [pow_zero, Nat.div_one, Nat.div_one]
  by_cases h : (y 0).val = (y 1).val
  · rw [if_pos h, if_pos ⟨h, h.ge⟩]
    refine congrArg (fun r : ℝ => (r : EReal)) (Finset.sum_congr rfl fun d _ => ?_)
    rw [h, sub_self, Real.exp_zero, mul_one]
  · rw [if_neg h, if_neg (fun hh => h hh.1)]
    exact Ideal.ofBits_zero_f32.trans EReal.coe_zero.symm

/-- The sums after level 0. -/
theorem cs1_cb (G : ℕ → Fin 128 → ℝ) : cs1 (cb G) = cb (C G 1) := by
  unfold cs1
  rw [cs0_cb, tot0_cb]
  exact lvC_cb 0 1#32 (fun y => (up_apply 1#32 y).trans (up_word0 (y 0))) G

/-- The sums after level 1. -/
theorem cs2_cb (G : ℕ → Fin 128 → ℝ) : cs2 (cb G) = cb (C G 2) := by
  unfold cs2
  rw [cs1_cb, tot1_cb]
  exact lvC_cb 1 2#32 (fun y => (up_apply 2#32 y).trans (up_word1 (y 0))) G

/-- The sums after level 2. -/
theorem cs3_cb (G : ℕ → Fin 128 → ℝ) : cs3 (cb G) = cb (C G 3) := by
  unfold cs3
  rw [cs2_cb, tot2_cb]
  exact lvC_cb 2 4#32 (fun y => (up_apply 4#32 y).trans (up_word2 (y 0))) G

/-- The sums after level 3. -/
theorem cs4_cb (G : ℕ → Fin 128 → ℝ) : cs4 (cb G) = cb (C G 4) := by
  unfold cs4
  rw [cs3_cb, tot3_cb]
  exact lvC_cb 3 8#32 (fun y => (up_apply 8#32 y).trans (up_word3 (y 0))) G

/-- The sums after level 4. -/
theorem cs5_cb (G : ℕ → Fin 128 → ℝ) : cs5 (cb G) = cb (C G 5) := by
  unfold cs5
  rw [cs4_cb, tot4_cb]
  exact lvC_cb 4 16#32 (fun y => (up_apply 16#32 y).trans (up_word4 (y 0))) G

/-- The sums after level 5. -/
theorem cs6_cb (G : ℕ → Fin 128 → ℝ) : cs6 (cb G) = cb (C G 6) := by
  unfold cs6
  rw [cs5_cb, tot5_cb]
  exact lvC_cb 5 32#32 (fun y => (up_apply 32#32 y).trans (up_word5 (y 0))) G

/-- The sums after level 6. -/
theorem cs7_cb (G : ℕ → Fin 128 → ℝ) : cs7 (cb G) = cb (C G 7) := by
  unfold cs7
  rw [cs6_cb, tot6_cb]
  exact lvC_cb 6 64#32 (fun y => (up_apply 64#32 y).trans (up_word6 (y 0))) G

/-- The sums after level 7. -/
theorem cs8_cb (G : ℕ → Fin 128 → ℝ) : cs8 (cb G) = cb (C G 8) := by
  unfold cs8
  rw [cs7_cb, tot7_cb]
  exact lvC_cb 7 128#32 (fun y => (up_apply 128#32 y).trans (up_word7 (y 0))) G

/-- The scores after level 0. -/
theorem sc1_cb (Q K G : ℕ → Fin 128 → ℝ) : sc1 (cb Q) (cb K) (cb G) = cm (Sc Q K G 1) := by
  unfold sc1
  rw [cs0_cb, tot0_cb, sc0_cb Q K G]
  exact lvS_cb 0 (by norm_num) 1#32 _ rfl (fun y => (up_apply 1#32 y).trans (up_word0 (y 0))) Q K G

/-- The scores after level 1. -/
theorem sc2_cb (Q K G : ℕ → Fin 128 → ℝ) : sc2 (cb Q) (cb K) (cb G) = cm (Sc Q K G 2) := by
  unfold sc2
  rw [cs1_cb, tot1_cb, sc1_cb]
  exact lvS_cb 1 (by norm_num) 2#32 _ rfl (fun y => (up_apply 2#32 y).trans (up_word1 (y 0))) Q K G

/-- The scores after level 2. -/
theorem sc3_cb (Q K G : ℕ → Fin 128 → ℝ) : sc3 (cb Q) (cb K) (cb G) = cm (Sc Q K G 3) := by
  unfold sc3
  rw [cs2_cb, tot2_cb, sc2_cb]
  exact lvS_cb 2 (by norm_num) 4#32 _ rfl (fun y => (up_apply 4#32 y).trans (up_word2 (y 0))) Q K G

/-- The scores after level 3. -/
theorem sc4_cb (Q K G : ℕ → Fin 128 → ℝ) : sc4 (cb Q) (cb K) (cb G) = cm (Sc Q K G 4) := by
  unfold sc4
  rw [cs3_cb, tot3_cb, sc3_cb]
  exact lvS_cb 3 (by norm_num) 8#32 _ rfl (fun y => (up_apply 8#32 y).trans (up_word3 (y 0))) Q K G

/-- The scores after level 4. -/
theorem sc5_cb (Q K G : ℕ → Fin 128 → ℝ) : sc5 (cb Q) (cb K) (cb G) = cm (Sc Q K G 5) := by
  unfold sc5
  rw [cs4_cb, tot4_cb, sc4_cb]
  exact lvS_cb 4 (by norm_num) 16#32 _ rfl (fun y => (up_apply 16#32 y).trans (up_word4 (y 0))) Q K G

/-- The scores after level 5. -/
theorem sc6_cb (Q K G : ℕ → Fin 128 → ℝ) : sc6 (cb Q) (cb K) (cb G) = cm (Sc Q K G 6) := by
  unfold sc6
  rw [cs5_cb, tot5_cb, sc5_cb]
  exact lvS_cb 5 (by norm_num) 32#32 _ rfl (fun y => (up_apply 32#32 y).trans (up_word5 (y 0))) Q K G

/-- The scores after level 6. -/
theorem sc7_cb (Q K G : ℕ → Fin 128 → ℝ) : sc7 (cb Q) (cb K) (cb G) = cm (Sc Q K G 7) := by
  unfold sc7
  rw [cs6_cb, tot6_cb, sc6_cb]
  exact lvS_cb 6 (by norm_num) 64#32 _ rfl (fun y => (up_apply 64#32 y).trans (up_word6 (y 0))) Q K G

/-- The scores after level 7. -/
theorem sc8_cb (Q K G : ℕ → Fin 128 → ℝ) : sc8 (cb Q) (cb K) (cb G) = cm (Sc Q K G 8) := by
  unfold sc8
  rw [cs7_cb, tot7_cb, sc7_cb]
  exact lvS_cb 7 (by norm_num) 128#32 _ rfl (fun y => (up_apply 128#32 y).trans (up_word7 (y 0))) Q K G

/-! ### The recurrence -/

/-- The state after a number of rows. -/
def H (K V G : ℕ → Fin 128 → ℝ) (S : Fin 128 → Fin 128 → ℝ) : ℕ → Fin 128 → Fin 128 → ℝ
  | 0 => S
  | n + 1 => fun e d => Real.exp (G n d) * H K V G S n e d + V n e * K n d

/-- The state after a number of rows, summed. -/
theorem H_eq (K V G : ℕ → Fin 128 → ℝ) (S : Fin 128 → Fin 128 → ℝ) (n : ℕ) (e d : Fin 128) :
    H K V G S n e d = S e d * Real.exp (pre G n d) + ∑ s ∈ Finset.range n, V s e * (K s d * Real.exp (pre G n d - pre G (s + 1) d)) := by
  induction n with
  | zero => simp [H, pre]
  | succ n ih =>
    have hp : pre G (n + 1) d = pre G n d + G n d := Finset.sum_range_succ _ _
    show Real.exp (G n d) * H K V G S n e d + V n e * K n d = _
    rw [ih, Finset.sum_range_succ, sub_self, Real.exp_zero, mul_one, hp, Real.exp_add, mul_add, Finset.mul_sum, add_assoc]
    refine congr (congrArg _ (by ring)) (congrArg (· + _) (Finset.sum_congr rfl fun s _ => ?_))
    rw [show pre G n d + G n d - pre G (s + 1) d = G n d + (pre G n d - pre G (s + 1) d) by ring, Real.exp_add]
    ring

/-- A sum over the rows up to one. -/
theorem sum_upto (t : ℕ) (ht : t < 256) (f : ℕ → ℝ) : ∑ s : Fin 256, (if s.val ≤ t then f s.val else 0) = ∑ s ∈ Finset.range (t + 1), f s := by
  rw [Fin.sum_univ_eq_sum_range (fun s => if s ≤ t then f s else 0) 256, ← Finset.sum_filter]
  refine Finset.sum_congr (Finset.ext fun s => ?_) fun _ _ => rfl
  simp only [Finset.mem_filter, Finset.mem_range]
  omega

/-- Reading the state through a row's query. -/
theorem read_H (Q K V G : ℕ → Fin 128 → ℝ) (S : Fin 128 → Fin 128 → ℝ) (t : ℕ) (ht : t < 256) (e : Fin 128) :
    (∑ s : Fin 256, (if s.val ≤ t then ∑ d, Q t d * K s.val d * Real.exp (pre G (t + 1) d - pre G (s.val + 1) d) else 0) * V s.val e)
      + ∑ d, Q t d * Real.exp (pre G (t + 1) d) * S e d = ∑ d, Q t d * H K V G S (t + 1) e d := by
  have h1 : ∀ s : Fin 256, (if s.val ≤ t then ∑ d, Q t d * K s.val d * Real.exp (pre G (t + 1) d - pre G (s.val + 1) d) else 0) * V s.val e
      = if s.val ≤ t then ∑ d, Q t d * (V s.val e * (K s.val d * Real.exp (pre G (t + 1) d - pre G (s.val + 1) d))) else 0 := by
    intro s
    rw [ite_mul, zero_mul, Finset.sum_mul]
    refine if_congr Iff.rfl (Finset.sum_congr rfl fun d _ => by ring) rfl
  rw [Finset.sum_congr rfl fun s _ => h1 s, sum_upto t ht (fun s => ∑ d, Q t d * (V s e * (K s d * Real.exp (pre G (t + 1) d - pre G (s + 1) d)))),
    Finset.sum_comm, ← Finset.sum_add_distrib]
  refine Finset.sum_congr rfl fun d _ => ?_
  rw [H_eq, ← Finset.mul_sum]
  ring

/-- The gated head's output over real blocks is the recurrence's state read through the query. -/
theorem ho_cb (Q K V G : ℕ → Fin 128 → ℝ) (S : Fin 128 → Fin 128 → ℝ) :
    ho (cb Q) (cb K) (cb G) (cb V) (cs S) = cb (fun t e => ∑ d, Q t d * H K V G S (t + 1) e d) := by
  unfold ho
  rw [sc8_cb, cs8_cb, exp_cb, mul_cb, scDot_cb, stDot_cb, add_cb]
  refine cb_congr fun t ht e => ?_
  rw [← read_H Q K V G S t ht e]
  refine congr (congrArg _ (Finset.sum_congr rfl fun s _ => congrArg (· * _) ?_)) (Finset.sum_congr rfl fun d _ => ?_)
  · unfold Sc
    refine if_congr ?_ rfl rfl
    have := s.isLt
    constructor
    · exact fun h => h.2
    · exact fun h => ⟨by norm_num; omega, h⟩
  · unfold C
    rw [show t / 2 ^ 8 = 0 from Nat.div_eq_of_lt (by norm_num; exact ht), Nat.zero_mul]
    rw [show pre G 0 d = 0 from Finset.sum_range_zero _, sub_zero]

/-- The gated head's next state over real blocks is the recurrence's after the block's rows. -/
theorem hs_cb (K V G : ℕ → Fin 128 → ℝ) (S : Fin 128 → Fin 128 → ℝ) :
    hs (cb K) (cb G) (cb V) (cs S) = cs (H K V G S 256) := by
  have hC (t : ℕ) (ht : t < 256) (d : Fin 128) : C G 8 t d = pre G (t + 1) d := by
    unfold C
    rw [show t / 2 ^ 8 = 0 from Nat.div_eq_of_lt (by norm_num; exact ht), Nat.zero_mul]
    rw [show pre G 0 d = 0 from Finset.sum_range_zero _, sub_zero]
  have hl (z : Fin 1) (d : Fin 128) : lastRow (cb (C G 8)) (ix2 z d) = ((pre G 256 d : ℝ) : EReal) := by
    unfold lastRow
    refine (extractStridedSlice_apply (s := S256x128) (t := S1x128) ![255, 0] _ _ _ (ix2 ⟨255, by norm_num⟩ d) ?_).trans ?_
    · intro a; match a with
      | ⟨0, _⟩ => show 255 = 255 + z.val; omega
      | ⟨1, _⟩ => exact (zero_add _).symm
    · exact congrArg (fun r : ℝ => (r : EReal)) (hC 255 (by norm_num) d)
  have hb : broadcastTo S256x128 (lastRow (cb (C G 8))) broadcasts_S1x128_S256x128 = cb (fun _ d => pre G 256 d) := by
    funext y
    refine (broadcastTo_apply (s := S1x128) (t := S256x128) _ _ y (ix2 0 (y 1)) ?_).trans (hl 0 (y 1))
    intro a; match a with
    | ⟨0, _⟩ => rfl
    | ⟨1, _⟩ => rfl
  unfold hs
  rw [cs8_cb, hb, sub_cb, exp_cb, mul_cb, upd_cb]
  have key (a b : Fin 128) : addf (mulf (cs S) (broadcastTo S128x128 (exp (lastRow (cb (C G 8)))) broadcasts_S1x128_S128x128))
      (cs fun e d => ∑ s : Fin 256, V s.val e * (K s.val d * Real.exp (pre G 256 d - C G 8 s.val d))) (ix2 a b) = cs (H K V G S 256) (ix2 a b) := by
    have he : broadcastTo S128x128 (exp (lastRow (cb (C G 8)))) broadcasts_S1x128_S128x128 (ix2 a b) = ((Real.exp (pre G 256 b) : ℝ) : EReal) := by
      refine (broadcastTo_apply (s := S1x128) (t := S128x128) _ _ _ (ix2 0 b) ?_).trans ?_
      · intro a; match a with
        | ⟨0, _⟩ => rfl
        | ⟨1, _⟩ => rfl
      · exact (congrArg FloatOps.exp (hl 0 b)).trans (Ideal.exp_coe _)
    show ((S a b : ℝ) : EReal) * broadcastTo S128x128 (exp (lastRow (cb (C G 8)))) broadcasts_S1x128_S128x128 (ix2 a b) + ((_ : ℝ) : EReal) = ((H K V G S 256 a b : ℝ) : EReal)
    rw [he, ← EReal.coe_mul, H_eq, ← EReal.coe_add]
    refine congrArg (fun r : ℝ => (r : EReal)) (congrArg (fun r : ℝ => S a b * Real.exp (pre G 256 b) + r) ?_)
    rw [← Fin.sum_univ_eq_sum_range (fun s => V s a * (K s b * Real.exp (pre G 256 b - pre G (s + 1) b))) 256]
    refine Finset.sum_congr rfl fun s _ => ?_
    show V s.val a * (K s.val b * Real.exp (pre G 256 b - C G 8 s.val b)) = _
    rw [hC s.val s.isLt]
  funext y
  rw [eq_ix2 y]
  exact key (y 0) (y 1)

end Cert.Proof.Prompt

end
-- ==== Proof.PromptRetention.lean ====
/-
  The retention head's block over the reals, and the values of the constants: its output and next state are those of the recurrence
  whose factor is the same at every row.
-/
module

public import proofs.«01_k».proof.Proof.PromptGate

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx
open scoped BigOperators

namespace Cert.Proof.Prompt

open Cert.PromptIdeal Cert.PromptIdeal.Gen

/-! ### Constants -/

/-- A constant's value. -/
theorem one_val : Ideal.ofBits .f32 0x3F800000#32 = ((1 : ℝ) : EReal) := by
  simp [Ideal.ofBits, Ideal.ieee, -EReal.coe_mul]; norm_num

/-- A constant's value. -/
theorem lit64_val : Ideal.ofBits .f32 0x42800000#32 = ((64 : ℝ) : EReal) := by
  simp [Ideal.ofBits, Ideal.ieee, -EReal.coe_mul]; norm_num

/-- A constant's value. -/
theorem lit10000_val : Ideal.ofBits .f32 0x461C4000#32 = ((10000 : ℝ) : EReal) := by
  simp [Ideal.ofBits, Ideal.ieee, -EReal.coe_mul]; norm_num

/-- A constant's value. -/
theorem lit1024_val : Ideal.ofBits .f32 0x44800000#32 = ((1024 : ℝ) : EReal) := by
  simp [Ideal.ofBits, Ideal.ieee, -EReal.coe_mul]; norm_num

/-- A constant's value. -/
theorem lit255_val : Ideal.ofBits .f32 0x437F0000#32 = ((255 : ℝ) : EReal) := by
  simp [Ideal.ofBits, Ideal.ieee, -EReal.coe_mul]; norm_num

/-- A constant's value. -/
theorem litm5_val : Ideal.ofBits .f32 0xC0A00000#32 = ((-5 : ℝ) : EReal) := by
  simp [Ideal.ofBits, Ideal.ieee, -EReal.coe_mul]; norm_num

/-- A constant's value. -/
theorem lit2_val : Ideal.ofBits .f32 0x40000000#32 = ((2 : ℝ) : EReal) := by
  simp [Ideal.ofBits, Ideal.ieee, -EReal.coe_mul]; norm_num

/-- The norms' small constant. -/
theorem eps_val : ∃ r : ℝ, 0 < r ∧ Ideal.ofBits .f32 0x358637BD#32 = (r : EReal) := by
  refine ⟨8796093 / 8796093022208, by norm_num, ?_⟩
  simp [Ideal.ofBits, Ideal.ieee, -EReal.coe_mul, -EReal.coe_div]; norm_num [-EReal.coe_mul, -EReal.coe_div]

/-- The queries' and keys' scale. -/
def sc : ℝ := (Ideal.ofBits .f32 0x3DB504F3#32).toReal

/-- The scale's value. -/
theorem sc_val : Ideal.ofBits .f32 0x3DB504F3#32 = ((sc : ℝ) : EReal) := by
  have : ∃ r : ℝ, Ideal.ofBits .f32 0x3DB504F3#32 = (r : EReal) := ⟨_, by simp only [Ideal.ofBits, Ideal.ieee]; norm_num [-EReal.coe_mul]; rfl⟩
  obtain ⟨r, hr⟩ := this
  unfold sc
  rw [hr]
  rfl

/-- The block of ones. -/
theorem one_cb : lits 0x3F800000#32 = cb (fun _ _ => 1) := funext fun y => one_val

/-- The scale at every entry. -/
theorem scale_cb : broadcast S256x128 scale = cb (fun _ _ => sc) := funext fun y => sc_val

/-- A number at every entry. -/
theorem real_cb (a : Ideal .f32) (r : ℝ) (h : a = (r : EReal)) : broadcast S256x128 a = cb (fun _ _ => r) := funext fun y => h

/-- The rows' numbers as reals. -/
theorem rowNo_cb : sitofp .f32 rowNo = cb (fun t _ => (t : ℝ)) := by
  funext y
  have hy : (y 0).val < 256 := (y 0).isLt
  show FloatOps.sitofp (F := Ideal) .f32 (rowNo y) = _
  rw [rowNo_apply]
  show (((BitVec.ofNat 32 (y 0).val).toInt : ℝ) : EReal) = (((y 0).val : ℝ) : EReal)
  rw [BitVec.toInt_eq_toNat_of_lt (by simp only [BitVec.toNat_ofNat]; omega)]
  simp only [BitVec.toNat_ofNat]
  rw [Nat.mod_eq_of_lt (by omega)]
  norm_cast

/-! ### The retention head -/

/-- A constant's sums. -/
theorem pre_const (l : ℝ) (n : ℕ) (d : Fin 128) : pre (fun _ _ => l) n d = n * l := by
  unfold pre
  rw [Finset.sum_const, Finset.card_range, nsmul_eq_mul]

/-- A number at every entry of a state. -/
theorem real_cs (a : Ideal .f32) (r : ℝ) (h : a = (r : EReal)) : broadcast S128x128 a = cs (fun _ _ => r) := funext fun y => h

/-- A product of states. -/
theorem mul_cs (X Y : Fin 128 → Fin 128 → ℝ) : mulf (cs X) (cs Y) = cs (fun t d => X t d * Y t d) :=
  funext fun y => (EReal.coe_mul _ _).symm

/-- A sum of states. -/
theorem add_cs (X Y : Fin 128 → Fin 128 → ℝ) : addf (cs X) (cs Y) = cs (fun t d => X t d + Y t d) :=
  funext fun y => (EReal.coe_add _ _).symm

/-- The retention head's next state over real blocks is the recurrence's after the block's rows. -/
theorem rs_cb (lg gn : Ideal .f32) (l : ℝ) (hl : lg = (l : EReal)) (hg : gn = ((Real.exp (256 * l) : ℝ) : EReal)) (K V : ℕ → Fin 128 → ℝ)
    (S : Fin 128 → Fin 128 → ℝ) : rs lg gn (cb K) (cb V) (cs S) = cs (H (fun t d => K t d * sc) V (fun _ _ => l) S 256) := by
  have e255 : lits 0x437F0000#32 = cb (fun _ _ => 255) := funext fun y => lit255_val
  unfold rs
  rw [e255, rowNo_cb, sub_cb, real_cb lg l hl, mul_cb, exp_cb, scale_cb, mul_cb, mul_cb, upd_cb, real_cs gn _ hg, mul_cs, add_cs]
  refine congrArg cs (funext fun e => funext fun d => ?_)
  rw [H_eq, ← Fin.sum_univ_eq_sum_range (fun s => V s e * (K s d * sc * Real.exp (pre (fun _ _ => l) 256 d - pre (fun _ _ => l) (s + 1) d))) 256, pre_const]
  refine congr (congrArg _ (by norm_num)) (Finset.sum_congr rfl fun s _ => ?_)
  rw [pre_const]
  have : ((256 : ℕ) : ℝ) * l - ((s.val + 1 : ℕ) : ℝ) * l = (255 - (s.val : ℝ)) * l := by push_cast; ring
  rw [this]
  ring

/-- Order of small words. -/
theorem ge_word (a b : ℕ) (ha : a < 256) (hb : b < 256) :
    IntOp.cmpi .sge (BitVec.ofNat 32 a) (BitVec.ofNat 32 b) = if b ≤ a then 1#1 else 0#1 := by
  have ea : (BitVec.ofNat 32 a).toInt = a := by
    rw [BitVec.toInt_eq_toNat_of_lt (by simp only [BitVec.toNat_ofNat]; omega)]; simp only [BitVec.toNat_ofNat]; rw [Nat.mod_eq_of_lt (by omega)]
  have eb : (BitVec.ofNat 32 b).toInt = b := by
    rw [BitVec.toInt_eq_toNat_of_lt (by simp only [BitVec.toNat_ofNat]; omega)]; simp only [BitVec.toNat_ofNat]; rw [Nat.mod_eq_of_lt (by omega)]
  unfold IntOp.cmpi
  show BitVec.ofBool ((BitVec.ofNat 32 b).sle (BitVec.ofNat 32 a)) = _
  rw [BitVec.sle_eq_decide, ea, eb]
  by_cases h : b ≤ a
  · rw [if_pos h, decide_eq_true (by exact_mod_cast h)]; rfl
  · rw [if_neg h, decide_eq_false (by exact_mod_cast h)]; rfl

/-- A difference of small words. -/
theorem sub_word (a b : ℕ) (ha : a < 256) (hb : b ≤ a) : IntOp.subi (BitVec.ofNat 32 a) (BitVec.ofNat 32 b) = BitVec.ofNat 32 (a - b) := by
  unfold IntOp.subi
  apply BitVec.eq_of_toNat_eq
  rw [BitVec.toNat_sub]
  simp only [BitVec.toNat_ofNat]
  omega

/-- The kept pairs of rows. -/
theorem keep_apply (y : S256x256.Idx) : keep y = if (y 1).val ≤ (y 0).val then 1#1 else 0#1 := by
  have ht : (y 0).val < 256 := (y 0).isLt
  have hs : (y 1).val < 256 := (y 1).isLt
  have h1 := block_word (y 0).val (y 1).val ht hs
  rw [← rowXor_apply] at h1
  have h2 := ge_word (y 0).val (y 1).val ht hs
  have e0 : iota .tc S256x256 32 [0] iota_S256x256_d0_w32 y = BitVec.ofNat 32 (y 0).val := by
    show BitVec.ofNat 32 (0 * 256 + (y 0).val) = _
    rw [Nat.zero_mul, Nat.zero_add]
  have e1 : iota .tc S256x256 32 [1] iota_S256x256_d1_w32 y = BitVec.ofNat 32 (y 1).val := by
    show BitVec.ofNat 32 (0 * 256 + (y 1).val) = _
    rw [Nat.zero_mul, Nat.zero_add]
  rw [← e0, ← e1] at h2
  show IntOp.andi (IntOp.cmpi .eq (IntOp.shrsi .vector (rowXor y) 8#32) 0#32) (IntOp.cmpi .sge (iota .tc S256x256 32 [0] iota_S256x256_d0_w32 y) (iota .tc S256x256 32 [1] iota_S256x256_d1_w32 y)) = _
  rw [h1, h2]
  split <;> decide

/-- The decays between rows. -/
theorem mask_cm (lg : Ideal .f32) (l : ℝ) (hl : lg = (l : EReal)) : mask lg = cm (fun t s => if s ≤ t then Real.exp ((t - s : ℝ) * l) * sc else 0) := by
  subst hl
  funext y
  have ht : (y 0).val < 256 := (y 0).isLt
  have hs : (y 1).val < 256 := (y 1).isLt
  have e0 : iota .tc S256x256 32 [0] iota_S256x256_d0_w32 y = BitVec.ofNat 32 (y 0).val := by
    show BitVec.ofNat 32 (0 * 256 + (y 0).val) = _
    rw [Nat.zero_mul, Nat.zero_add]
  have e1 : iota .tc S256x256 32 [1] iota_S256x256_d1_w32 y = BitVec.ofNat 32 (y 1).val := by
    show BitVec.ofNat 32 (0 * 256 + (y 1).val) = _
    rw [Nat.zero_mul, Nat.zero_add]
  show Scalar.select (keep y) (Ideal.exp ((((Scalar.select (keep y) (IntOp.subi (iota .tc S256x256 32 [0] iota_S256x256_d0_w32 y)
    (iota .tc S256x256 32 [1] iota_S256x256_d1_w32 y)) 0#32).toInt : ℝ) : EReal) * (l : EReal)) * Ideal.ofBits .f32 0x3DB504F3#32) (Ideal.ofBits .f32 0x00000000#32)
    = (((if (y 1).val ≤ (y 0).val then Real.exp (((y 0).val - (y 1).val : ℝ) * l) * sc else 0 : ℝ)) : EReal)
  rw [e0, e1, keep_apply, select_ite, select_ite]
  split
  · rename_i h
    rw [sub_word _ _ ht h, BitVec.toInt_eq_toNat_of_lt (by simp only [BitVec.toNat_ofNat]; omega)]
    simp only [BitVec.toNat_ofNat]
    rw [Nat.mod_eq_of_lt (by omega), sc_val, ← EReal.coe_mul, Ideal.exp_coe, ← EReal.coe_mul]
    have : ((((y 0).val - (y 1).val : ℕ) : ℤ) : ℝ) = ((y 0).val : ℝ) - ((y 1).val : ℝ) := by
      rw [Int.cast_natCast, Nat.cast_sub h]
    rw [this]
  · exact Ideal.ofBits_zero_f32.trans EReal.coe_zero.symm

/-- The retention head's output over real blocks is the recurrence's state read through the query. -/
theorem ro_cb (lg : Ideal .f32) (l : ℝ) (hl : lg = (l : EReal)) (Q K V : ℕ → Fin 128 → ℝ) (S : Fin 128 → Fin 128 → ℝ) :
    ro lg (cb Q) (cb K) (cb V) (cs S) = cb (fun t e => ∑ d, Q t d * H (fun t d => K t d * sc) V (fun _ _ => l) S (t + 1) e d) := by
  unfold ro
  have hm (A B : ℕ → ℕ → ℝ) : mulf (cm A) (cm B) = cm (fun t s => A t s * B t s) := funext fun y => (EReal.coe_mul _ _).symm
  rw [mask_cm lg l hl, rowsDot_cb, hm, scDot_cb, rowNo_cb, one_cb, add_cb, real_cb lg l hl, mul_cb, exp_cb, mul_cb, stDot_cb, add_cb]
  refine cb_congr fun t ht e => ?_
  rw [← read_H Q (fun t d => K t d * sc) V (fun _ _ => l) S t ht e]
  refine congr (congrArg _ (Finset.sum_congr rfl fun s _ => congrArg (· * _) ?_)) (Finset.sum_congr rfl fun d _ => ?_)
  · rw [mul_ite, mul_zero, Finset.sum_mul]
    refine if_congr Iff.rfl (Finset.sum_congr rfl fun d _ => ?_) rfl
    rw [pre_const, pre_const]
    have : ((t + 1 : ℕ) : ℝ) * l - ((s.val + 1 : ℕ) : ℝ) * l = ((t : ℝ) - (s.val : ℝ)) * l := by push_cast; ring
    rw [this]
    ring
  · rw [pre_const]
    push_cast
    ring

end Cert.Proof.Prompt

end
-- ==== Proof.PromptLayer.lean ====
/-
  The layer that both programs compute, over the reals: the projection of the normed rows, the rotary turn, the gates, the recurrent
  states and the rows that come out. Finite weights make every number but the head norms' weights real.
-/
module

public import proofs.«01_k».proof.Proof.PromptRetention

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx
open scoped BigOperators

namespace Cert.Proof.Prompt

open Cert.Proof.Base

/-- The layer's inputs: activations, norm weights, projection, lower-bound logits, the two head norms' weights, output projection. -/
structure Inp where
  /-- Activations. -/
  x : (⟨3, ![8, 2048, 1024]⟩ : Shape).Idx → EReal
  /-- Norm weights. -/
  nw : (⟨2, ![1, 1024]⟩ : Shape).Idx → EReal
  /-- Projection. -/
  wi : (⟨3, ![1, 1024, 4096]⟩ : Shape).Idx → EReal
  /-- Retention heads' norm weights. -/
  rw : (⟨2, ![1, 128]⟩ : Shape).Idx → EReal
  /-- Gated heads' norm weights. -/
  hw : (⟨2, ![1, 128]⟩ : Shape).Idx → EReal
  /-- Lower-bound logits. -/
  lb : (⟨2, ![2, 512]⟩ : Shape).Idx → EReal
  /-- Output projection. -/
  wo : (⟨3, ![1, 1024, 1024]⟩ : Shape).Idx → EReal

/-- The weights before the heads are finite. -/
structure Inp.Fine (I : Inp) : Prop where
  /-- Norm weights. -/
  nw : ∀ i, ∃ r : ℝ, I.nw i = r
  /-- Projection. -/
  wi : ∀ i, ∃ r : ℝ, I.wi i = r
  /-- Lower-bound logits. -/
  lb : ∀ i, ∃ r : ℝ, I.lb i = r

variable (I : Inp)

/-- A normed row's projection at a column. -/
def proj (b : Fin 8) (t : Fin 2048) (c : Fin 4096) : EReal :=
  ∑ k : Fin 1024, rms 0x44800000#32 0x358637BD#32 (fun k => I.x (ix3 b t k)) (fun k => I.nw (ix2 0 k)) k * I.wi (ix3 0 k c)

/-- The projection's column group `j` at row `t`, as a real. -/
def pr (b : Fin 8) (j : Fin 32) (t : ℕ) (d : Fin 128) : ℝ :=
  (proj I b ⟨t % 2048, Nat.mod_lt _ (by norm_num)⟩ ⟨128 * j.val + d.val, by omega⟩).toReal

/-- A square is at least zero. -/
theorem sq_nonneg' (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

/-- The square of a value that is not real is infinite. -/
theorem sq_top (a : EReal) (h : ∀ r : ℝ, a ≠ (r : EReal)) : a * a = ⊤ := by
  induction a with
  | bot => exact EReal.bot_mul_bot
  | top => exact EReal.top_mul_top
  | coe r => exact absurd rfl (h r)

/-- A row times the norm's factor is real: an infinite entry makes the factor zero. -/
theorem normed_real (X : Fin 1024 → EReal) (k : Fin 1024) : ∃ r : ℝ, X k * rmsFac 0x44800000#32 0x358637BD#32 X = (r : EReal) := by
  obtain ⟨e, he, hee⟩ := eps_val
  by_cases hr : ∀ k, ∃ r : ℝ, X k = (r : EReal)
  · choose fx hx using hr
    have hs : ∑ k : Fin 1024, X k * X k = ((∑ k, fx k * fx k : ℝ) : EReal) := by
      rw [← coe_sum]
      exact Finset.sum_congr rfl fun k _ => by rw [hx k, EReal.coe_mul]
    have hp : 0 < (∑ k, fx k * fx k) * (1 / 1024) + e := by
      have : 0 ≤ ∑ k, fx k * fx k := Finset.sum_nonneg fun k _ => mul_self_nonneg _
      positivity
    have hf : rmsFac 0x44800000#32 0x358637BD#32 X = (((√((∑ k, fx k * fx k) * (1 / 1024) + e))⁻¹ : ℝ) : EReal) := by
      unfold rmsFac
      rw [hs]
      show Ideal.rsqrt (Ideal.div _ (Ideal.ofBits .f32 0x44800000#32) + Ideal.ofBits .f32 0x358637BD#32) = _
      rw [lit1024_val, hee, Ideal.div_coe (by norm_num), ← EReal.coe_mul, ← EReal.coe_add, Ideal.rsqrt_coe, if_neg (not_lt.mpr hp.le), if_neg hp.ne']
    exact ⟨fx k * (√((∑ k, fx k * fx k) * (1 / 1024) + e))⁻¹, by rw [hf, hx k, EReal.coe_mul]⟩
  · push Not at hr
    obtain ⟨k0, hk0⟩ := hr
    have hs : ∑ k : Fin 1024, X k * X k = ⊤ := by
      refine top_le_iff.mp ?_
      rw [← sq_top (X k0) hk0]
      exact Finset.single_le_sum (f := fun k => X k * X k) (fun k _ => sq_nonneg' (X k)) (Finset.mem_univ k0)
    have hf : rmsFac 0x44800000#32 0x358637BD#32 X = 0 := by
      unfold rmsFac
      rw [hs]
      show Ideal.rsqrt (Ideal.div _ (Ideal.ofBits .f32 0x44800000#32) + Ideal.ofBits .f32 0x358637BD#32) = _
      rw [lit1024_val, hee, Ideal.div_coe (by norm_num), EReal.top_mul_coe_of_pos (by norm_num), EReal.top_add_coe, Ideal.rsqrt_top]
    exact ⟨0, by rw [hf, mul_zero, EReal.coe_zero]⟩

/-- Finite weights make the projection real. -/
theorem proj_real (hI : I.Fine) (b : Fin 8) (t : Fin 2048) (c : Fin 4096) : ∃ r : ℝ, proj I b t c = (r : EReal) := by
  choose fx hx using fun k : Fin 1024 => normed_real (fun k => I.x (ix3 b t k)) k
  choose fn hn using fun k : Fin 1024 => hI.nw (ix2 0 k)
  choose fw hw using fun k : Fin 1024 => hI.wi (ix3 0 k c)
  refine ⟨∑ k, (fx k * fn k) * fw k, ?_⟩
  unfold proj
  rw [← coe_sum]
  refine Finset.sum_congr rfl fun k _ => ?_
  have h : rms 0x44800000#32 0x358637BD#32 (fun k => I.x (ix3 b t k)) (fun k => I.nw (ix2 0 k)) k = ((fx k * fn k : ℝ) : EReal) :=
    (congr (congrArg (fun a b : EReal => a * b) (hx k)) (hn k)).trans (EReal.coe_mul _ _).symm
  rw [h, hw k, ← EReal.coe_mul]

/-- The projection is the real column group. -/
theorem proj_eq (hI : I.Fine) (b : Fin 8) (t : Fin 2048) (j : Fin 32) (d : Fin 128) :
    proj I b t ⟨128 * j.val + d.val, by omega⟩ = ((pr I b j t.val d : ℝ) : EReal) := by
  obtain ⟨r, hr⟩ := proj_real I hI b t ⟨128 * j.val + d.val, by omega⟩
  have ht : (⟨t.val % 2048, Nat.mod_lt _ (by norm_num)⟩ : Fin 2048) = t := Fin.ext (Nat.mod_eq_of_lt t.isLt)
  unfold pr
  rw [ht, hr]
  rfl

/-- The logistic function. -/
def sgr (r : ℝ) : ℝ := 1 * (1 / (1 + Real.exp (-r)))

/-- The logistic function lies strictly between zero and one. -/
theorem sgr_pos (r : ℝ) : 0 < sgr r := by unfold sgr; have := Real.exp_pos (-r); positivity

/-- The logistic function of a real, as the programs compute it. -/
theorem sgr_val (r : ℝ) : Ideal.div (Ideal.ofBits .f32 0x3F800000#32) (Ideal.ofBits .f32 0x3F800000#32 + Ideal.exp (-(r : EReal))) = ((sgr r : ℝ) : EReal) := by
  have h : (1 + Real.exp (-r)) ≠ 0 := by have := Real.exp_pos (-r); positivity
  rw [one_val, ← EReal.coe_neg, Ideal.exp_coe, ← EReal.coe_add, Ideal.div_coe h, ← EReal.coe_mul]
  rfl

/-- The rotary angle of position `t` in the pair of lanes `i`. -/
def ang (t i : ℕ) : ℝ := (t : ℝ) * Real.rpow 10000 (-(i : ℝ) * (1 / 64))

/-- The rotary turn of a row. -/
def turn (f : Fin 128 → ℝ) (t : ℕ) (d : Fin 128) : ℝ :=
  if h : d.val < 64 then f d * Real.cos (ang t d.val) - f ⟨d.val + 64, by omega⟩ * Real.sin (ang t d.val)
  else f ⟨d.val - 64, by omega⟩ * Real.sin (ang t (d.val - 64)) + f d * Real.cos (ang t (d.val - 64))

/-- The column group of a head. -/
def cix (b : ℕ) (hb : b + 4 ≤ 32) (h : Fin 4) : Fin 32 := ⟨b + h.val, by have := h.isLt; omega⟩

/-- The decay of retention head `h`. -/
def gam (h : Fin 4) : ℝ := 1 - Real.rpow 2 (-5 - (h.val : ℝ))

/-- The real logits. -/
def lg (k : Fin 2) (i : Fin 512) : ℝ := (I.lb (ix2 k i)).toReal

/-- The gates' lower bound at lane `i`: the first layer's share in the softmax over the layers. -/
def lbr (i : Fin 512) : ℝ :=
  Real.exp (lg I 0 i - max (lg I 0 i) (lg I 1 i)) * (1 / (Real.exp (lg I 0 i - max (lg I 0 i) (lg I 1 i)) + Real.exp (lg I 1 i - max (lg I 0 i) (lg I 1 i))))

/-- The lower bound is positive. -/
theorem lbr_pos (i : Fin 512) : 0 < lbr I i := by
  unfold lbr
  have := Real.exp_pos (lg I 0 i - max (lg I 0 i) (lg I 1 i))
  have := Real.exp_pos (lg I 1 i - max (lg I 0 i) (lg I 1 i))
  positivity

/-- The lower bound is below one. -/
theorem lbr_lt (i : Fin 512) : lbr I i < 1 := by
  unfold lbr
  have h0 := Real.exp_pos (lg I 0 i - max (lg I 0 i) (lg I 1 i))
  have h1 := Real.exp_pos (lg I 1 i - max (lg I 0 i) (lg I 1 i))
  rw [mul_one_div, div_lt_one (by positivity)]
  linarith

/-- The lane of head `h`. -/
def lane (h : Fin 4) (d : Fin 128) : Fin 512 := ⟨128 * h.val + d.val, by omega⟩

/-- Retention queries. -/
def qR (b : Fin 8) (h : Fin 4) (t : ℕ) : Fin 128 → ℝ := turn (pr I b (cix 0 (by norm_num) h) t) t
/-- Retention keys. -/
def kR (b : Fin 8) (h : Fin 4) (t : ℕ) (d : Fin 128) : ℝ := turn (pr I b (cix 4 (by norm_num) h) t) t d
/-- Retention values. -/
def vR (b : Fin 8) (h : Fin 4) (t : ℕ) : Fin 128 → ℝ := pr I b (cix 8 (by norm_num) h) t
/-- Gated queries. -/
def qG (b : Fin 8) (h : Fin 4) (t : ℕ) (d : Fin 128) : ℝ := pr I b (cix 16 (by norm_num) h) t d * sgr (pr I b (cix 16 (by norm_num) h) t d) * sc
/-- Forget gates. -/
def fG (b : Fin 8) (h : Fin 4) (t : ℕ) (d : Fin 128) : ℝ := lbr I (lane h d) + (1 - lbr I (lane h d)) * sgr (pr I b (cix 20 (by norm_num) h) t d)
/-- Gated values. -/
def vG (b : Fin 8) (h : Fin 4) (t : ℕ) : Fin 128 → ℝ := pr I b (cix 24 (by norm_num) h) t
/-- An output gate. -/
def gt (b : Fin 8) (j : Fin 32) (t : ℕ) (d : Fin 128) : ℝ := pr I b j t d * sgr (pr I b j t d)

/-- A forget gate is positive. -/
theorem fG_pos (b : Fin 8) (h : Fin 4) (t : ℕ) (d : Fin 128) : 0 < fG I b h t d := by
  unfold fG
  have h1 := lbr_pos I (lane h d)
  have h2 := lbr_lt I (lane h d)
  have h3 := sgr_pos (pr I b (cix 20 (by norm_num) h) t d)
  have h4 : 0 < 1 - lbr I (lane h d) := by linarith
  positivity

/-- The retention state of sequence `b` and head `h` after `n` rows. -/
def SR (b : Fin 8) (h : Fin 4) (n : ℕ) : Fin 128 → Fin 128 → ℝ :=
  H (fun t d => kR I b h t d * sc) (vR I b h) (fun _ _ => Real.log (gam h)) (fun _ _ => 0) n

/-- The gated state of sequence `b` and head `h` after `n` rows. -/
def SG (b : Fin 8) (h : Fin 4) (n : ℕ) : Fin 128 → Fin 128 → ℝ :=
  H (fun t d => 1 - fG I b h t d) (vG I b h) (fun t d => Real.log (fG I b h t d)) (fun _ _ => 0) n

/-- A head's row under its norm and gate. -/
def hd (o : Fin 128 → ℝ) (w : Fin 128 → EReal) (g : ℝ) (e : Fin 128) : EReal :=
  rms 0x43000000#32 0x358637BD#32 (fun e => ((o e : ℝ) : EReal)) w e * ((g : ℝ) : EReal)

/-- A retention head's row. -/
def hdR (b : Fin 8) (h : Fin 4) (t : ℕ) (e : Fin 128) : EReal :=
  hd (fun e => ∑ d, qR I b h t d * SR I b h (t + 1) e d) (fun e => I.rw (ix2 0 e)) (gt I b (cix 12 (by norm_num) h) t e) e

/-- A gated head's row. -/
def hdG (b : Fin 8) (h : Fin 4) (t : ℕ) (e : Fin 128) : EReal :=
  hd (fun e => ∑ d, qG I b h t d * SG I b h (t + 1) e d) (fun e => I.hw (ix2 0 e)) (gt I b (cix 28 (by norm_num) h) t e) e

/-- The eight heads' row. -/
def hdA (b : Fin 8) (t : ℕ) (j : Fin 1024) : EReal :=
  if h : j.val < 512 then hdR I b ⟨j.val / 128, by omega⟩ t ⟨j.val % 128, Nat.mod_lt _ (by norm_num)⟩
  else hdG I b ⟨j.val / 128 - 4, by omega⟩ t ⟨j.val % 128, Nat.mod_lt _ (by norm_num)⟩

/-- The row that comes out. -/
def yrow (b : Fin 8) (t : Fin 2048) (c : Fin 1024) : EReal :=
  I.x (ix3 b t c) + ∑ k : Fin 1024, hdA I b t.val k * I.wo (ix3 0 k c)

/-- The lower bounds' logits are the real ones. -/
theorem lg_eq (hI : I.Fine) (k : Fin 2) (i : Fin 512) : I.lb (ix2 k i) = ((lg I k i : ℝ) : EReal) := by
  obtain ⟨r, hr⟩ := hI.lb (ix2 k i)
  unfold lg
  rw [hr]
  rfl

/-- The decay as a fraction. -/
theorem gam_eq (h : Fin 4) : gam h = 1 - 1 / (2 : ℝ) ^ (5 + h.val) := by
  unfold gam
  have e : (-5 - (h.val : ℝ)) = -((5 + h.val : ℕ) : ℝ) := by push_cast; ring
  rw [e]
  show 1 - (2 : ℝ) ^ (-((5 + h.val : ℕ) : ℝ)) = _
  rw [Real.rpow_neg (by norm_num), Real.rpow_natCast, one_div]

/-- The decay is positive. -/
theorem gam_pos (h : Fin 4) : 0 < gam h := by
  rw [gam_eq]
  fin_cases h <;> norm_num

end Cert.Proof.Prompt

end
-- ==== Proof.PromptPieces.lean ====
/-
  The pieces that a block of the prompt mixer leaves in its carried states and outputs, read as the block's functions.
-/
module

public import proofs.«01_k».proof.Proof.PromptOps
public import proofs.«01_k».proof.Proof.Gen.PromptIdeal.Value
import all proofs.«01_k».proof.Proof.Gen.PromptIdeal.Frame.RunA
import all proofs.«01_k».proof.Proof.Gen.PromptIdeal.Frame.RunB
import all proofs.«01_k».proof.Proof.Gen.PromptIdeal.Frame.RunC

@[expose] public section

set_option synthInstance.maxSize 4096
set_option maxRecDepth 16384

noncomputable section

open Idealize.ShloMosaic Idealize.ShloMosaic.TcCoe Idealize.SL.Sem Idealize.ShloMosaic.ValueIdx
open scoped BigOperators

namespace Cert.Proof.Prompt

open Cert.PromptIdeal Cert.PromptIdeal.Gen

/-- The pieces of the projection: eight column groups of the normed block against the weights. -/
def projL (X0 : Vec Ideal S1x256x1024 .f32) (X1 : Vec Ideal S1x1024 .f32) (W0 W1 W2 W3 W4 W5 W6 W7 : Vec Ideal S1024x512 .bf16) :
    List (View.Piece (Elt Ideal) S256x4096 .f32) :=
  [⟨Rect.unit ![0, 3584] S256x512.size inb_S256x4096_S256x512_0_3584, k0_pay12 (F := Ideal) X0 X1 W7⟩,
   ⟨Rect.unit ![0, 3072] S256x512.size inb_S256x4096_S256x512_0_3072, k0_pay12 (F := Ideal) X0 X1 W6⟩,
   ⟨Rect.unit ![0, 2560] S256x512.size inb_S256x4096_S256x512_0_2560, k0_pay12 (F := Ideal) X0 X1 W5⟩,
   ⟨Rect.unit ![0, 2048] S256x512.size inb_S256x4096_S256x512_0_2048, k0_pay12 (F := Ideal) X0 X1 W4⟩,
   ⟨Rect.unit ![0, 1536] S256x512.size inb_S256x4096_S256x512_0_1536, k0_pay12 (F := Ideal) X0 X1 W3⟩,
   ⟨Rect.unit ![0, 1024] S256x512.size inb_S256x4096_S256x512_0_1024, k0_pay12 (F := Ideal) X0 X1 W2⟩,
   ⟨Rect.unit ![0, 512] S256x512.size inb_S256x4096_S256x512_0_512, k0_pay12 (F := Ideal) X0 X1 W1⟩,
   ⟨Rect.unit ![0, 0] S256x512.size inb_S256x4096_S256x512_0_0, k0_pay12 (F := Ideal) X0 X1 W0⟩]

/-- The columns read back from the projection, 128 at a time. -/
def colAt {κ : Kind} {sp : Space} (v : View sig κ sp S256x4096 .f32) (L : List (View.Piece (Elt Ideal) S256x4096 .f32)) (j : Fin 32) : Blk :=
  v.readCov L (Rect.unit (s := S256x4096) ![0, 128 * j.val] S256x128.size (by
    have h := j.isLt
    intro a; fin_cases a
    · show (0 : ℕ) + 256 ≤ 256; omega
    · show 128 * j.val + 128 ≤ 4096; omega)).toLoadRect

/-- The logarithms of the decays. -/
def lgs : Fin 4 → Ideal .f32 := ![lg0, lg1, lg2, lg3]
/-- The decays over a block. -/
def gns : Fin 4 → Ideal .f32 := ![gn0, gn1, gn2, gn3]
/-- The gated heads' lower bounds. -/
def lbh (x : Vec Ideal S2x512 .f32) : Fin 4 → FVec Ideal S1x128 .f32 := ![lb0 x, lb1 x, lb2 x, lb3 x]

/-- Retention head `h`'s next state, from the columns. -/
def sR (x3 x4 : Vec Ideal S256x128 .f32) (P : Fin 32 → Blk) (h : Fin 4) (kc vc : Fin 32) (S : FVec Ideal S128x128 .f32) : FVec Ideal S128x128 .f32 :=
  rs (lgs h) (gns h) (rot x3 x4 (P kc)) (P vc) S

/-- Gated head `h`'s next state, from the columns. -/
def sG (x7 : Vec Ideal S2x512 .f32) (P : Fin 32 → Blk) (h : Fin 4) (fc vc : Fin 32) (S : FVec Ideal S128x128 .f32) : FVec Ideal S128x128 .f32 :=
  hs (hk (hf (lbh x7 h) (P fc))) (log (hf (lbh x7 h) (P fc))) (P vc) S

/-- Retention head `h`'s normed and gated output, from the columns. -/
def oR (x3 x4 : Vec Ideal S256x128 .f32) (x5 : Vec Ideal S1x128 .f32) (P : Fin 32 → Blk) (h : Fin 4) (qc kc vc gc : Fin 32) (S : FVec Ideal S128x128 .f32) :
    FVec Ideal S256x128 .bf16 :=
  out (ro (lgs h) (rot x3 x4 (P qc)) (rot x3 x4 (P kc)) (P vc) S) x5 (P gc)

/-- Gated head `h`'s normed and gated output, from the columns. -/
def oG (x6 : Vec Ideal S1x128 .f32) (x7 : Vec Ideal S2x512 .f32) (P : Fin 32 → Blk) (h : Fin 4) (qc fc vc gc : Fin 32) (S : FVec Ideal S128x128 .f32) :
    FVec Ideal S256x128 .bf16 :=
  out (ho (hq (P qc)) (hk (hf (lbh x7 h) (P fc))) (log (hf (lbh x7 h) (P fc))) (P vc) S) x6 (P gc)

/-- The first piece of a batch's carried states: zero. -/
def zp : List (View.Piece (Elt Ideal) S4x128x128 .f32) := [⟨Rect.unit ![0, 0, 0] S4x128x128.size inb_S4x128x128_S4x128x128_0_0_0, k0_pay9 (F := Ideal)⟩]

/-- The pieces after head 0 of a batch's first block, each from the zero state. -/
def zl0 {κ : Kind} {sp : Space} (v : View sig κ sp S4x128x128 .f32) (f : Fin 4 → FVec Ideal S128x128 .f32 → FVec Ideal S128x128 .f32) :
    List (View.Piece (Elt Ideal) S4x128x128 .f32) :=
  ⟨Rect.unit (s := S4x128x128) ![0, 0, 0] S1x128x128.size inb_S4x128x128_S1x128x128_0_0_0, row (f 0 (st (v.readCov zp (Rect.unit (s := S4x128x128) ![0, 0, 0] S1x128x128.size inb_S4x128x128_S1x128x128_0_0_0).toLoadRect)))⟩ :: zp

/-- The pieces after head 1 of a batch's first block, each from the zero state. -/
def zl1 {κ : Kind} {sp : Space} (v : View sig κ sp S4x128x128 .f32) (f : Fin 4 → FVec Ideal S128x128 .f32 → FVec Ideal S128x128 .f32) :
    List (View.Piece (Elt Ideal) S4x128x128 .f32) :=
  ⟨Rect.unit (s := S4x128x128) ![1, 0, 0] S1x128x128.size inb_S4x128x128_S1x128x128_1_0_0, row (f 1 (st (v.readCov (zl0 v f) (Rect.unit (s := S4x128x128) ![1, 0, 0] S1x128x128.size inb_S4x128x128_S1x128x128_1_0_0).toLoadRect)))⟩ :: (zl0 v f)

/-- The pieces after head 2 of a batch's first block, each from the zero state. -/
def zl2 {κ : Kind} {sp : Space} (v : View sig κ sp S4x128x128 .f32) (f : Fin 4 → FVec Ideal S128x128 .f32 → FVec Ideal S128x128 .f32) :
    List (View.Piece (Elt Ideal) S4x128x128 .f32) :=
  ⟨Rect.unit (s := S4x128x128) ![2, 0, 0] S1x128x128.size inb_S4x128x128_S1x128x128_2_0_0, row (f 2 (st (v.readCov (zl1 v f) (Rect.unit (s := S4x128x128) ![2, 0, 0] S1x128x128.size inb_S4x128x128_S1x128x128_2_0_0).toLoadRect)))⟩ :: (zl1 v f)

/-- The pieces after head 3 of a batch's first block, each from the zero state. -/
def zl3 {κ : Kind} {sp : Space} (v : View sig κ sp S4x128x128 .f32) (f : Fin 4 → FVec Ideal S128x128 .f32 → FVec Ideal S128x128 .f32) :
    List (View.Piece (Elt Ideal) S4x128x128 .f32) :=
  ⟨Rect.unit (s := S4x128x128) ![3, 0, 0] S1x128x128.size inb_S4x128x128_S1x128x128_3_0_0, row (f 3 (st (v.readCov (zl2 v f) (Rect.unit (s := S4x128x128) ![3, 0, 0] S1x128x128.size inb_S4x128x128_S1x128x128_3_0_0).toLoadRect)))⟩ :: (zl2 v f)

/-- The pieces of a block's states, each head's from what is carried. -/
def cl (f : Fin 4 → FVec Ideal S128x128 .f32) : List (View.Piece (Elt Ideal) S4x128x128 .f32) :=
  [⟨Rect.unit (s := S4x128x128) ![3, 0, 0] S1x128x128.size inb_S4x128x128_S1x128x128_3_0_0, row (f 3)⟩,
   ⟨Rect.unit (s := S4x128x128) ![2, 0, 0] S1x128x128.size inb_S4x128x128_S1x128x128_2_0_0, row (f 2)⟩,
   ⟨Rect.unit (s := S4x128x128) ![1, 0, 0] S1x128x128.size inb_S4x128x128_S1x128x128_1_0_0, row (f 1)⟩,
   ⟨Rect.unit (s := S4x128x128) ![0, 0, 0] S1x128x128.size inb_S4x128x128_S1x128x128_0_0_0, row (f 0)⟩]

/-- The pieces of a block's normed and gated outputs. -/
def ol (f : Fin 8 → FVec Ideal S256x128 .bf16) : List (View.Piece (Elt Ideal) S256x1024 .bf16) :=
  [⟨Rect.unit (s := S256x1024) ![0, 896] S256x128.size inb_S256x1024_S256x128_0_896, f 7⟩,
   ⟨Rect.unit (s := S256x1024) ![0, 768] S256x128.size inb_S256x1024_S256x128_0_768, f 6⟩,
   ⟨Rect.unit (s := S256x1024) ![0, 640] S256x128.size inb_S256x1024_S256x128_0_640, f 5⟩,
   ⟨Rect.unit (s := S256x1024) ![0, 512] S256x128.size inb_S256x1024_S256x128_0_512, f 4⟩,
   ⟨Rect.unit (s := S256x1024) ![0, 384] S256x128.size inb_S256x1024_S256x128_0_384, f 3⟩,
   ⟨Rect.unit (s := S256x1024) ![0, 256] S256x128.size inb_S256x1024_S256x128_0_256, f 2⟩,
   ⟨Rect.unit (s := S256x1024) ![0, 128] S256x128.size inb_S256x1024_S256x128_0_128, f 1⟩,
   ⟨Rect.unit (s := S256x1024) ![0, 0] S256x128.size inb_S256x1024_S256x128_0_0, f 0⟩]

/-- The pieces of a batch's last states, read back and transposed. -/
def fl {κ : Kind} {sp : Space} (v : View sig κ sp S4x128x128 .f32) (L : List (View.Piece (Elt Ideal) S4x128x128 .f32)) : List (View.Piece (Elt Ideal) S1x4x128x128 .f32) :=
  [⟨Rect.unit (s := S1x4x128x128) ![0, 3, 0, 0] S1x1x128x128.size inb_S1x4x128x128_S1x1x128x128_0_3_0_0, k0_pay3 (F := Ideal) (v.readCov L (Rect.unit (s := S4x128x128) ![3, 0, 0] S1x128x128.size inb_S4x128x128_S1x128x128_3_0_0).toLoadRect)⟩,
   ⟨Rect.unit (s := S1x4x128x128) ![0, 2, 0, 0] S1x1x128x128.size inb_S1x4x128x128_S1x1x128x128_0_2_0_0, k0_pay3 (F := Ideal) (v.readCov L (Rect.unit (s := S4x128x128) ![2, 0, 0] S1x128x128.size inb_S4x128x128_S1x128x128_2_0_0).toLoadRect)⟩,
   ⟨Rect.unit (s := S1x4x128x128) ![0, 1, 0, 0] S1x1x128x128.size inb_S1x4x128x128_S1x1x128x128_0_1_0_0, k0_pay3 (F := Ideal) (v.readCov L (Rect.unit (s := S4x128x128) ![1, 0, 0] S1x128x128.size inb_S4x128x128_S1x128x128_1_0_0).toLoadRect)⟩,
   ⟨Rect.unit (s := S1x4x128x128) ![0, 0, 0, 0] S1x1x128x128.size inb_S1x4x128x128_S1x1x128x128_0_0_0_0, k0_pay3 (F := Ideal) (v.readCov L (Rect.unit (s := S4x128x128) ![0, 0, 0] S1x128x128.size inb_S4x128x128_S1x128x128_0_0_0).toLoadRect)⟩]

/-- The retention states that a block leaves (case A). -/
theorem pieces2_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).2.2.2.1 = zl3 arg16.view (fun h S => sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![4, 5, 6, 7] h) (![8, 9, 10, 11] h) S) := by rfl

/-- The gated states that a block leaves (case A). -/
theorem pieces3_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).2.2.2.2.1 = zl3 arg17.view (fun h S => sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![20, 21, 22, 23] h) (![24, 25, 26, 27] h) S) := by rfl

/-- The rows that a block leaves (case A). -/
theorem pieces9_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8).1 = [⟨Rect.unit (s := S1x256x1024) ![0, 0, 0] S1x256x1024.size inb_S1x256x1024_S1x256x1024_0_0_0, k0_pay270 (F := Ideal) (View.readAt (Elt Ideal) arg2.view (Rect.unit (s := S1x256x1024) ![0, 0, 0] S1x256x1024.size inb_S1x256x1024_S1x256x1024_0_0_0).toLoadRect (harg2.unread x0)) (arg15.view.readCov (ol ![oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 0 4 8 12 (st (arg16.view.readCov zp (Rect.unit (s := S4x128x128) ![0, 0, 0] S1x128x128.size inb_S4x128x128_S1x128x128_0_0_0).toLoadRect)), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 1 5 9 13 (st (arg16.view.readCov (zl0 arg16.view (fun h S => sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![4, 5, 6, 7] h) (![8, 9, 10, 11] h) S)) (Rect.unit (s := S4x128x128) ![1, 0, 0] S1x128x128.size inb_S4x128x128_S1x128x128_1_0_0).toLoadRect)), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 2 6 10 14 (st (arg16.view.readCov (zl1 arg16.view (fun h S => sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![4, 5, 6, 7] h) (![8, 9, 10, 11] h) S)) (Rect.unit (s := S4x128x128) ![2, 0, 0] S1x128x128.size inb_S4x128x128_S1x128x128_2_0_0).toLoadRect)), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 3 7 11 15 (st (arg16.view.readCov (zl2 arg16.view (fun h S => sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![4, 5, 6, 7] h) (![8, 9, 10, 11] h) S)) (Rect.unit (s := S4x128x128) ![3, 0, 0] S1x128x128.size inb_S4x128x128_S1x128x128_3_0_0).toLoadRect)), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 16 20 24 28 (st (arg17.view.readCov zp (Rect.unit (s := S4x128x128) ![0, 0, 0] S1x128x128.size inb_S4x128x128_S1x128x128_0_0_0).toLoadRect)), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 17 21 25 29 (st (arg17.view.readCov (zl0 arg17.view (fun h S => sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![20, 21, 22, 23] h) (![24, 25, 26, 27] h) S)) (Rect.unit (s := S4x128x128) ![1, 0, 0] S1x128x128.size inb_S4x128x128_S1x128x128_1_0_0).toLoadRect)), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 18 22 26 30 (st (arg17.view.readCov (zl1 arg17.view (fun h S => sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![20, 21, 22, 23] h) (![24, 25, 26, 27] h) S)) (Rect.unit (s := S4x128x128) ![2, 0, 0] S1x128x128.size inb_S4x128x128_S1x128x128_2_0_0).toLoadRect)), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 19 23 27 31 (st (arg17.view.readCov (zl2 arg17.view (fun h S => sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) h (![20, 21, 22, 23] h) (![24, 25, 26, 27] h) S)) (Rect.unit (s := S4x128x128) ![3, 0, 0] S1x128x128.size inb_S4x128x128_S1x128x128_3_0_0).toLoadRect))]) (Rect.unit (s := S256x1024) ![0, 0] S256x1024.size inb_S256x1024_S256x1024_0_0).toLoadRect) (View.readAt (Elt Ideal) arg10.view (Rect.unit (s := S1024x1024) ![0, 0] S1024x1024.size inb_S1024x1024_S1024x1024_0_0).toLoadRect (harg10.unread x8))⟩] := by rfl

/-- The retention states that a block leaves (case B). -/
theorem pieces2_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).2.2.2.1 = cl ![sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 4 8 (st (View.readAt (Elt Ideal) arg16.view (Rect.unit (s := S4x128x128) ![0, 0, 0] S1x128x128.size inb_S4x128x128_S1x128x128_0_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 5 9 (st (View.readAt (Elt Ideal) arg16.view (Rect.unit (s := S4x128x128) ![1, 0, 0] S1x128x128.size inb_S4x128x128_S1x128x128_1_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 6 10 (st (View.readAt (Elt Ideal) arg16.view (Rect.unit (s := S4x128x128) ![2, 0, 0] S1x128x128.size inb_S4x128x128_S1x128x128_2_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 7 11 (st (View.readAt (Elt Ideal) arg16.view (Rect.unit (s := S4x128x128) ![3, 0, 0] S1x128x128.size inb_S4x128x128_S1x128x128_3_0_0).toLoadRect (harg16.unread xs2)))] := by rfl

/-- The gated states that a block leaves (case B). -/
theorem pieces3_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).2.2.2.2.1 = cl ![sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 20 24 (st (View.readAt (Elt Ideal) arg17.view (Rect.unit (s := S4x128x128) ![0, 0, 0] S1x128x128.size inb_S4x128x128_S1x128x128_0_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 21 25 (st (View.readAt (Elt Ideal) arg17.view (Rect.unit (s := S4x128x128) ![1, 0, 0] S1x128x128.size inb_S4x128x128_S1x128x128_1_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 22 26 (st (View.readAt (Elt Ideal) arg17.view (Rect.unit (s := S4x128x128) ![2, 0, 0] S1x128x128.size inb_S4x128x128_S1x128x128_2_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 23 27 (st (View.readAt (Elt Ideal) arg17.view (Rect.unit (s := S4x128x128) ![3, 0, 0] S1x128x128.size inb_S4x128x128_S1x128x128_3_0_0).toLoadRect (harg17.unread xs3)))] := by rfl

/-- The rows that a block leaves (case B). -/
theorem pieces9_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).1 = [⟨Rect.unit (s := S1x256x1024) ![0, 0, 0] S1x256x1024.size inb_S1x256x1024_S1x256x1024_0_0_0, k0_pay270 (F := Ideal) (View.readAt (Elt Ideal) arg2.view (Rect.unit (s := S1x256x1024) ![0, 0, 0] S1x256x1024.size inb_S1x256x1024_S1x256x1024_0_0_0).toLoadRect (harg2.unread x0)) (arg15.view.readCov (ol ![oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 0 4 8 12 (st (View.readAt (Elt Ideal) arg16.view (Rect.unit (s := S4x128x128) ![0, 0, 0] S1x128x128.size inb_S4x128x128_S1x128x128_0_0_0).toLoadRect (harg16.unread xs2))), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 1 5 9 13 (st (View.readAt (Elt Ideal) arg16.view (Rect.unit (s := S4x128x128) ![1, 0, 0] S1x128x128.size inb_S4x128x128_S1x128x128_1_0_0).toLoadRect (harg16.unread xs2))), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 2 6 10 14 (st (View.readAt (Elt Ideal) arg16.view (Rect.unit (s := S4x128x128) ![2, 0, 0] S1x128x128.size inb_S4x128x128_S1x128x128_2_0_0).toLoadRect (harg16.unread xs2))), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 3 7 11 15 (st (View.readAt (Elt Ideal) arg16.view (Rect.unit (s := S4x128x128) ![3, 0, 0] S1x128x128.size inb_S4x128x128_S1x128x128_3_0_0).toLoadRect (harg16.unread xs2))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 16 20 24 28 (st (View.readAt (Elt Ideal) arg17.view (Rect.unit (s := S4x128x128) ![0, 0, 0] S1x128x128.size inb_S4x128x128_S1x128x128_0_0_0).toLoadRect (harg17.unread xs3))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 17 21 25 29 (st (View.readAt (Elt Ideal) arg17.view (Rect.unit (s := S4x128x128) ![1, 0, 0] S1x128x128.size inb_S4x128x128_S1x128x128_1_0_0).toLoadRect (harg17.unread xs3))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 18 22 26 30 (st (View.readAt (Elt Ideal) arg17.view (Rect.unit (s := S4x128x128) ![2, 0, 0] S1x128x128.size inb_S4x128x128_S1x128x128_2_0_0).toLoadRect (harg17.unread xs3))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 19 23 27 31 (st (View.readAt (Elt Ideal) arg17.view (Rect.unit (s := S4x128x128) ![3, 0, 0] S1x128x128.size inb_S4x128x128_S1x128x128_3_0_0).toLoadRect (harg17.unread xs3)))]) (Rect.unit (s := S256x1024) ![0, 0] S256x1024.size inb_S256x1024_S256x1024_0_0).toLoadRect) (View.readAt (Elt Ideal) arg10.view (Rect.unit (s := S1024x1024) ![0, 0] S1024x1024.size inb_S1024x1024_S1024x1024_0_0).toLoadRect (harg10.unread x8))⟩] := by rfl

/-- The retention states that a block leaves (case C). -/
theorem pieces2_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).2.2.2.1 = cl ![sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 4 8 (st (View.readAt (Elt Ideal) arg16.view (Rect.unit (s := S4x128x128) ![0, 0, 0] S1x128x128.size inb_S4x128x128_S1x128x128_0_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 5 9 (st (View.readAt (Elt Ideal) arg16.view (Rect.unit (s := S4x128x128) ![1, 0, 0] S1x128x128.size inb_S4x128x128_S1x128x128_1_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 6 10 (st (View.readAt (Elt Ideal) arg16.view (Rect.unit (s := S4x128x128) ![2, 0, 0] S1x128x128.size inb_S4x128x128_S1x128x128_2_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 7 11 (st (View.readAt (Elt Ideal) arg16.view (Rect.unit (s := S4x128x128) ![3, 0, 0] S1x128x128.size inb_S4x128x128_S1x128x128_3_0_0).toLoadRect (harg16.unread xs2)))] := by rfl

/-- The gated states that a block leaves (case C). -/
theorem pieces3_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).2.2.2.2.1 = cl ![sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 20 24 (st (View.readAt (Elt Ideal) arg17.view (Rect.unit (s := S4x128x128) ![0, 0, 0] S1x128x128.size inb_S4x128x128_S1x128x128_0_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 21 25 (st (View.readAt (Elt Ideal) arg17.view (Rect.unit (s := S4x128x128) ![1, 0, 0] S1x128x128.size inb_S4x128x128_S1x128x128_1_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 22 26 (st (View.readAt (Elt Ideal) arg17.view (Rect.unit (s := S4x128x128) ![2, 0, 0] S1x128x128.size inb_S4x128x128_S1x128x128_2_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 23 27 (st (View.readAt (Elt Ideal) arg17.view (Rect.unit (s := S4x128x128) ![3, 0, 0] S1x128x128.size inb_S4x128x128_S1x128x128_3_0_0).toLoadRect (harg17.unread xs3)))] := by rfl

/-- The rows that a block leaves (case C). -/
theorem pieces9_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).1 = [⟨Rect.unit (s := S1x256x1024) ![0, 0, 0] S1x256x1024.size inb_S1x256x1024_S1x256x1024_0_0_0, k0_pay270 (F := Ideal) (View.readAt (Elt Ideal) arg2.view (Rect.unit (s := S1x256x1024) ![0, 0, 0] S1x256x1024.size inb_S1x256x1024_S1x256x1024_0_0_0).toLoadRect (harg2.unread x0)) (arg15.view.readCov (ol ![oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 0 4 8 12 (st (View.readAt (Elt Ideal) arg16.view (Rect.unit (s := S4x128x128) ![0, 0, 0] S1x128x128.size inb_S4x128x128_S1x128x128_0_0_0).toLoadRect (harg16.unread xs2))), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 1 5 9 13 (st (View.readAt (Elt Ideal) arg16.view (Rect.unit (s := S4x128x128) ![1, 0, 0] S1x128x128.size inb_S4x128x128_S1x128x128_1_0_0).toLoadRect (harg16.unread xs2))), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 2 6 10 14 (st (View.readAt (Elt Ideal) arg16.view (Rect.unit (s := S4x128x128) ![2, 0, 0] S1x128x128.size inb_S4x128x128_S1x128x128_2_0_0).toLoadRect (harg16.unread xs2))), oR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 3 7 11 15 (st (View.readAt (Elt Ideal) arg16.view (Rect.unit (s := S4x128x128) ![3, 0, 0] S1x128x128.size inb_S4x128x128_S1x128x128_3_0_0).toLoadRect (harg16.unread xs2))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 16 20 24 28 (st (View.readAt (Elt Ideal) arg17.view (Rect.unit (s := S4x128x128) ![0, 0, 0] S1x128x128.size inb_S4x128x128_S1x128x128_0_0_0).toLoadRect (harg17.unread xs3))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 17 21 25 29 (st (View.readAt (Elt Ideal) arg17.view (Rect.unit (s := S4x128x128) ![1, 0, 0] S1x128x128.size inb_S4x128x128_S1x128x128_1_0_0).toLoadRect (harg17.unread xs3))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 18 22 26 30 (st (View.readAt (Elt Ideal) arg17.view (Rect.unit (s := S4x128x128) ![2, 0, 0] S1x128x128.size inb_S4x128x128_S1x128x128_2_0_0).toLoadRect (harg17.unread xs3))), oG (View.readAt (Elt Ideal) arg8.view (Rect.unit (s := S1x128) ![0, 0] S1x128.size inb_S1x128_S1x128_0_0).toLoadRect (harg8.unread x6)) (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 19 23 27 31 (st (View.readAt (Elt Ideal) arg17.view (Rect.unit (s := S4x128x128) ![3, 0, 0] S1x128x128.size inb_S4x128x128_S1x128x128_3_0_0).toLoadRect (harg17.unread xs3)))]) (Rect.unit (s := S256x1024) ![0, 0] S256x1024.size inb_S256x1024_S256x1024_0_0).toLoadRect) (View.readAt (Elt Ideal) arg10.view (Rect.unit (s := S1024x1024) ![0, 0] S1024x1024.size inb_S1024x1024_S1024x1024_0_0).toLoadRect (harg10.unread x8))⟩] := by rfl

/-- The last retention states. -/
theorem pieces10_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).2.1 = fl arg16.view (cl ![sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 4 8 (st (View.readAt (Elt Ideal) arg16.view (Rect.unit (s := S4x128x128) ![0, 0, 0] S1x128x128.size inb_S4x128x128_S1x128x128_0_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 5 9 (st (View.readAt (Elt Ideal) arg16.view (Rect.unit (s := S4x128x128) ![1, 0, 0] S1x128x128.size inb_S4x128x128_S1x128x128_1_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 6 10 (st (View.readAt (Elt Ideal) arg16.view (Rect.unit (s := S4x128x128) ![2, 0, 0] S1x128x128.size inb_S4x128x128_S1x128x128_2_0_0).toLoadRect (harg16.unread xs2))), sR (View.readAt (Elt Ideal) arg5.view (Rect.unit (s := S256x128) ![0, 0] S256x128.size inb_S256x128_S256x128_0_0).toLoadRect (harg5.unread x3)) (View.readAt (Elt Ideal) arg6.view (Rect.unit (s := S256x128) ![0, 0] S256x128.size inb_S256x128_S256x128_0_0).toLoadRect (harg6.unread x4)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 7 11 (st (View.readAt (Elt Ideal) arg16.view (Rect.unit (s := S4x128x128) ![3, 0, 0] S1x128x128.size inb_S4x128x128_S1x128x128_3_0_0).toLoadRect (harg16.unread xs2)))]) := by rfl

/-- The last gated states. -/
theorem pieces11_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3).2.2.1 = fl arg17.view (cl ![sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 0 20 24 (st (View.readAt (Elt Ideal) arg17.view (Rect.unit (s := S4x128x128) ![0, 0, 0] S1x128x128.size inb_S4x128x128_S1x128x128_0_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 1 21 25 (st (View.readAt (Elt Ideal) arg17.view (Rect.unit (s := S4x128x128) ![1, 0, 0] S1x128x128.size inb_S4x128x128_S1x128x128_1_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 2 22 26 (st (View.readAt (Elt Ideal) arg17.view (Rect.unit (s := S4x128x128) ![2, 0, 0] S1x128x128.size inb_S4x128x128_S1x128x128_2_0_0).toLoadRect (harg17.unread xs3))), sG (View.readAt (Elt Ideal) arg9.view (Rect.unit (s := S2x512) ![0, 0] S2x512.size inb_S2x512_S2x512_0_0).toLoadRect (harg9.unread x7)) (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) 3 23 27 (st (View.readAt (Elt Ideal) arg17.view (Rect.unit (s := S4x128x128) ![3, 0, 0] S1x128x128.size inb_S4x128x128_S1x128x128_3_0_0).toLoadRect (harg17.unread xs3)))]) := by rfl

end Cert.Proof.Prompt

end
-- ==== Proof.PromptReads.lean ====
/-
  The pieces of the prompt mixer's block read at an index: the projection's columns, the carried states, the normed
  heads laid side by side, and what each kind of block stores.
-/
module

public import proofs.«01_k».proof.Proof.PromptPieces

@[expose] public section

set_option synthInstance.maxSize 4096
set_option maxRecDepth 16384

noncomputable section

open Idealize.ShloMosaic Idealize.ShloMosaic.TcCoe Idealize.SL.Sem Idealize.ShloMosaic.ValueIdx Idealize.ShloMosaic.Tactic
open scoped BigOperators

namespace Cert.Proof.Prompt

open Cert.PromptIdeal Cert.PromptIdeal.Gen Cert.Proof.Base

/-- The normed row. -/
def normed (x0 : Vec Ideal S1x256x1024 .f32) (x1 : Vec Ideal S1x1024 .f32) (r : Fin 256) : Fin 1024 → EReal :=
  rms 0x44800000#32 0x358637BD#32 (fun k => x0 (ix3 0 r k)) (fun k => x1 (ix2 0 k))

/-- The projection of the block. -/
def prj (x0 : Vec Ideal S1x256x1024 .f32) (x1 : Vec Ideal S1x1024 .f32) (x2 : Vec Ideal S1024x4096 .bf16) : FVec Ideal S256x4096 .f32 :=
  fun y => ∑ k : Fin 1024, normed x0 x1 (y 0) k * x2 (ix2 k (y 1))

/-- The `j`-th group of 128 columns of the projection. -/
def pcol (x0 : Vec Ideal S1x256x1024 .f32) (x1 : Vec Ideal S1x1024 .f32) (x2 : Vec Ideal S1024x4096 .bf16) (j : Fin 32) : Blk :=
  fun y => prj x0 x1 x2 (ix2 (y 0) ⟨128 * j.val + (y 1).val, by have := j.isLt; have : (y 1).val < 128 := (y 1).isLt; omega⟩)

/-- The normed block at an entry. -/
theorem pay11_apply (x0 : Vec Ideal S1x256x1024 .f32) (x1 : Vec Ideal S1x1024 .f32) (r : Fin 256) (c : Fin 1024) :
    k0_pay11 (F := Ideal) x0 x1 (ix2 r c) = normed x0 x1 r c := by
  unfold k0_pay11
  simp only [shapeCast_self]
  refine (rms_block _ _ (shapeCast S256x1024 x0 shapeCasts_S1x256x1024_S256x1024) x1 _ _ _ _ _ _ _ r c).trans ?_
  unfold normed
  refine congrArg (fun f => rms _ _ f _ c) (funext fun k => ?_)
  refine shapeCast_apply (s := S1x256x1024) x0 _ _ _ ?_
  rw [Shape.rowMajor_val_two, Shape.rowMajor_val_three]
  show (0 * 256 + r.val) * 1024 + k.val = r.val * 1024 + k.val
  omega

/-- A group of the projection at an entry. -/
theorem pay12_apply (x0 : Vec Ideal S1x256x1024 .f32) (x1 : Vec Ideal S1x1024 .f32) (w : Vec Ideal S1024x512 .bf16) (r : Fin 256) (c : Fin 512) :
    k0_pay12 (F := Ideal) x0 x1 w (ix2 r c) = ∑ k : Fin 1024, normed x0 x1 r k * w (ix2 k c) := by
  unfold k0_pay12
  simp only [shapeCast_self]
  refine (dot_apply none (k0_pay11 (F := Ideal) x0 x1) w r c).trans ?_
  exact Finset.sum_congr rfl fun k _ => congrArg (· * w (ix2 k c)) (pay11_apply x0 x1 r k)

/-- The later pieces' contents, where they cover. -/
theorem canon_append {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨x, rfl⟩ := p.1.exists_idx_of_mem hy
      obtain ⟨r, w⟩ := p
      show View.canon (⟨r, w⟩ :: (L ++ L')) (r.emb x) = View.canon (⟨r, w⟩ :: L) (r.emb x)
      rw [View.canon_cons_emb, View.canon_cons_emb]
    · show View.canon (p :: (L ++ L')) y = _
      rw [View.canon_cons_of_not_mem _ _ hy, View.canon_cons_of_not_mem _ _ hy]
      refine canon_append L' y L ?_
      obtain ⟨q, hq, hm⟩ := h
      rcases List.mem_cons.mp hq with rfl | hq
      · exact absurd hm hy
      · exact ⟨q, hq, hm⟩

/-- The projection's pieces hold every index. -/
theorem cov_projL (x0 : Vec Ideal S1x256x1024 .f32) (x1 : Vec Ideal S1x1024 .f32) (W0 W1 W2 W3 W4 W5 W6 W7 : Vec Ideal S1024x512 .bf16) :
    ∀ y : S256x4096.Idx, ∃ p ∈ projL x0 x1 W0 W1 W2 W3 W4 W5 W6 W7, y ∈ p.1.set :=
  View.cover_of_tiledL (s := S256x4096) _ S256x512.size (by rfl)

/-- The states' pieces hold every index. -/
theorem cov_cl (f : Fin 4 → FVec Ideal S128x128 .f32) : ∀ y : S4x128x128.Idx, ∃ p ∈ cl f, y ∈ p.1.set :=
  View.cover_of_tiledL (s := S4x128x128) _ S1x128x128.size (by rfl)

/-- The heads' pieces hold every index. -/
theorem cov_ol (f : Fin 8 → FVec Ideal S256x128 .bf16) : ∀ y : S256x1024.Idx, ∃ p ∈ ol f, y ∈ p.1.set :=
  View.cover_of_tiledL (s := S256x1024) _ S256x128.size (by rfl)

/-- The last states' pieces hold every index. -/
theorem cov_fl {κ : Kind} {sp : Space} (v : View sig κ sp S4x128x128 .f32) (L : List (View.Piece (Elt Ideal) S4x128x128 .f32)) :
    ∀ y : S1x4x128x128.Idx, ∃ p ∈ fl v L, y ∈ p.1.set :=
  View.cover_of_tiledL (s := S1x4x128x128) _ S1x1x128x128.size (by rfl)

/-- The projection's pieces at an entry. -/
theorem canon_projL (x0 : Vec Ideal S1x256x1024 .f32) (x1 : Vec Ideal S1x1024 .f32) (x2 : Vec Ideal S1024x4096 .bf16) (y : S256x4096.Idx) :
    View.canon (Val := Elt Ideal) (projL x0 x1 (View.ld x2 (Rect.unit (s := S1024x4096) ![0, 0] S1024x512.size inb_S1024x4096_S1024x512_0_0)) (View.ld x2 (Rect.unit (s := S1024x4096) ![0, 512] S1024x512.size inb_S1024x4096_S1024x512_0_512)) (View.ld x2 (Rect.unit (s := S1024x4096) ![0, 1024] S1024x512.size inb_S1024x4096_S1024x512_0_1024)) (View.ld x2 (Rect.unit (s := S1024x4096) ![0, 1536] S1024x512.size inb_S1024x4096_S1024x512_0_1536)) (View.ld x2 (Rect.unit (s := S1024x4096) ![0, 2048] S1024x512.size inb_S1024x4096_S1024x512_0_2048)) (View.ld x2 (Rect.unit (s := S1024x4096) ![0, 2560] S1024x512.size inb_S1024x4096_S1024x512_0_2560)) (View.ld x2 (Rect.unit (s := S1024x4096) ![0, 3072] S1024x512.size inb_S1024x4096_S1024x512_0_3072)) (View.ld x2 (Rect.unit (s := S1024x4096) ![0, 3584] S1024x512.size inb_S1024x4096_S1024x512_0_3584))) y = prj x0 x1 x2 y := by
  refine View.canon_apply_of_pieces (Val := Elt Ideal) (prj x0 x1 x2) _ ?_ y (cov_projL _ _ _ _ _ _ _ _ _ _ y)
  intro p hp
  simp only [projL, List.mem_cons, List.not_mem_nil, or_false] at hp
  rcases hp with rfl | rfl | rfl | rfl | rfl | rfl | rfl | rfl <;>
  · intro x
    obtain ⟨a, b, rfl⟩ : ∃ a b, x = ix2 a b := ⟨_, _, eq_ix2 x⟩
    refine (pay12_apply x0 x1 _ a b).trans ?_
    unfold prj
    refine Finset.sum_congr rfl fun k _ => ?_
    refine congrArg₂ (· * ·) (congrArg (fun r => normed x0 x1 r k) (Fin.ext ?_)) (congrArg x2 (funext fun d => Fin.ext ?_))
    · show a.val = 0 + 1 * a.val; omega
    match d with
    | ⟨0, _⟩ => show 0 + 1 * k.val = k.val; omega
    | ⟨1, _⟩ => rfl

/-- The columns read back are the projection's. -/
theorem colAt_projL {κ : Kind} {sp : Space} (v : View sig κ sp S256x4096 .f32) (x0 : Vec Ideal S1x256x1024 .f32) (x1 : Vec Ideal S1x1024 .f32) (x2 : Vec Ideal S1024x4096 .bf16) :
    colAt v (projL x0 x1 (View.ld x2 (Rect.unit (s := S1024x4096) ![0, 0] S1024x512.size inb_S1024x4096_S1024x512_0_0)) (View.ld x2 (Rect.unit (s := S1024x4096) ![0, 512] S1024x512.size inb_S1024x4096_S1024x512_0_512)) (View.ld x2 (Rect.unit (s := S1024x4096) ![0, 1024] S1024x512.size inb_S1024x4096_S1024x512_0_1024)) (View.ld x2 (Rect.unit (s := S1024x4096) ![0, 1536] S1024x512.size inb_S1024x4096_S1024x512_0_1536)) (View.ld x2 (Rect.unit (s := S1024x4096) ![0, 2048] S1024x512.size inb_S1024x4096_S1024x512_0_2048)) (View.ld x2 (Rect.unit (s := S1024x4096) ![0, 2560] S1024x512.size inb_S1024x4096_S1024x512_0_2560)) (View.ld x2 (Rect.unit (s := S1024x4096) ![0, 3072] S1024x512.size inb_S1024x4096_S1024x512_0_3072)) (View.ld x2 (Rect.unit (s := S1024x4096) ![0, 3584] S1024x512.size inb_S1024x4096_S1024x512_0_3584))) = pcol x0 x1 x2 := by
  funext j y
  unfold colAt
  rw [View.readCov_eq_canon_ld (Val := Elt Ideal) _ _ _ (cov_projL _ _ _ _ _ _ _ _ _ _)]
  unfold pcol
  show View.canon _ _ = _
  rw [canon_projL]
  refine congrArg _ (funext fun d => Fin.ext ?_)
  match d with
  | ⟨0, _⟩ => show 0 + 1 * (y 0).val = (y 0).val; omega
  | ⟨1, _⟩ => show 128 * j.val + 1 * (y 1).val = 128 * j.val + (y 1).val; omega

/-- One head's state out of the carried array. -/
def slc (X : Vec Ideal S4x128x128 .f32) (h : Fin 4) : FVec Ideal S128x128 .f32 := fun y => X (ix3 h (y 0) (y 1))

/-- The carried array of four states. -/
def stk (f : Fin 4 → FVec Ideal S128x128 .f32) : Vec Ideal S4x128x128 .f32 := fun y => f (y 0) (ix2 (y 1) (y 2))

/-- A state laid as a row, at an entry. -/
theorem row_apply (x : FVec Ideal S128x128 .f32) (z : Fin 1) (a b : Fin 128) : row x (ix3 z a b) = x (ix2 a b) := by
  unfold row
  refine shapeCast_apply (s := S128x128) x _ _ _ ?_
  rw [Shape.rowMajor_val_two, Shape.rowMajor_val_three]
  have := z.isLt
  show a.val * 128 + b.val = (z.val * 128 + a.val) * 128 + b.val
  omega

/-- A state read from its row, at an entry. -/
theorem st_apply (x : Vec Ideal S1x128x128 .f32) (a b : Fin 128) : st x (ix2 a b) = x (ix3 0 a b) := by
  unfold st
  refine shapeCast_apply (s := S1x128x128) x _ _ _ ?_
  rw [Shape.rowMajor_val_two, Shape.rowMajor_val_three]
  show (0 * 128 + a.val) * 128 + b.val = a.val * 128 + b.val
  omega

/-- Head 0's state out of the carried array. -/
theorem st_ld0 (X : Vec Ideal S4x128x128 .f32) : st (View.ld X (Rect.unit (s := S4x128x128) ![0, 0, 0] S1x128x128.size inb_S4x128x128_S1x128x128_0_0_0)) = slc X 0 := by
  funext y
  rw [eq_ix2 y]
  refine (st_apply _ _ _).trans (congrArg X (funext fun d => Fin.ext ?_))
  match d with
  | ⟨0, _⟩ => rfl
  | ⟨1, _⟩ => show 0 + 1 * (y 0).val = (y 0).val; omega
  | ⟨2, _⟩ => show 0 + 1 * (y 1).val = (y 1).val; omega

/-- Head 1's state out of the carried array. -/
theorem st_ld1 (X : Vec Ideal S4x128x128 .f32) : st (View.ld X (Rect.unit (s := S4x128x128) ![1, 0, 0] S1x128x128.size inb_S4x128x128_S1x128x128_1_0_0)) = slc X 1 := by
  funext y
  rw [eq_ix2 y]
  refine (st_apply _ _ _).trans (congrArg X (funext fun d => Fin.ext ?_))
  match d with
  | ⟨0, _⟩ => rfl
  | ⟨1, _⟩ => show 0 + 1 * (y 0).val = (y 0).val; omega
  | ⟨2, _⟩ => show 0 + 1 * (y 1).val = (y 1).val; omega

/-- Head 2's state out of the carried array. -/
theorem st_ld2 (X : Vec Ideal S4x128x128 .f32) : st (View.ld X (Rect.unit (s := S4x128x128) ![2, 0, 0] S1x128x128.size inb_S4x128x128_S1x128x128_2_0_0)) = slc X 2 := by
  funext y
  rw [eq_ix2 y]
  refine (st_apply _ _ _).trans (congrArg X (funext fun d => Fin.ext ?_))
  match d with
  | ⟨0, _⟩ => rfl
  | ⟨1, _⟩ => show 0 + 1 * (y 0).val = (y 0).val; omega
  | ⟨2, _⟩ => show 0 + 1 * (y 1).val = (y 1).val; omega

/-- Head 3's state out of the carried array. -/
theorem st_ld3 (X : Vec Ideal S4x128x128 .f32) : st (View.ld X (Rect.unit (s := S4x128x128) ![3, 0, 0] S1x128x128.size inb_S4x128x128_S1x128x128_3_0_0)) = slc X 3 := by
  funext y
  rw [eq_ix2 y]
  refine (st_apply _ _ _).trans (congrArg X (funext fun d => Fin.ext ?_))
  match d with
  | ⟨0, _⟩ => rfl
  | ⟨1, _⟩ => show 0 + 1 * (y 0).val = (y 0).val; omega
  | ⟨2, _⟩ => show 0 + 1 * (y 1).val = (y 1).val; omega

/-- The pieces of four states. -/
theorem canon_cl (f : Fin 4 → FVec Ideal S128x128 .f32) (y : S4x128x128.Idx) : View.canon (Val := Elt Ideal) (cl f) y = stk f y := by
  refine View.canon_apply_of_pieces (Val := Elt Ideal) (stk f) _ ?_ y (cov_cl f y)
  intro p hp
  simp only [cl, List.mem_cons, List.not_mem_nil, or_false] at hp
  rcases hp with rfl | rfl | rfl | rfl <;>
  · intro x
    obtain ⟨z, a, b, rfl⟩ : ∃ z a b, x = ix3 z a b := ⟨_, _, _, eq_ix3 x⟩
    refine (row_apply _ z a b).trans ?_
    unfold stk
    refine congrArg₂ (fun h i => f h i) (Fin.ext ?_) (funext fun d => Fin.ext ?_)
    · obtain rfl : z = 0 := Fin.ext (by have : z.val < 1 := z.isLt; show z.val = 0; omega)
      rfl
    · match d with
      | ⟨0, _⟩ => show a.val = 0 + 1 * a.val; omega
      | ⟨1, _⟩ => show b.val = 0 + 1 * b.val; omega

/-- The zero state. -/
def zst : FVec Ideal S128x128 .f32 := fun _ => 0

/-- The zero array's entries. -/
theorem pay9_apply (y : S4x128x128.Idx) : k0_pay9 (F := Ideal) y = 0 := by
  unfold k0_pay9
  simp only [shapeCast_self]
  exact Ideal.ofBits_zero_f32

/-- Where no later piece holds the index, a batch's first states are zero. -/
theorem canon_zp (y : S4x128x128.Idx) : View.canon (Val := Elt Ideal) zp y = 0 := by
  unfold zp
  have zz : (![0, 0, 0] : Fin 3 → ℕ) = fun _ => 0 := by funext a; fin_cases a <;> rfl
  rw [View.canon_unit_zero (S := S4x128x128) zz]
  exact pay9_apply y

/-- Every index of the carried array is in its first piece. -/
theorem mem_zp (y : S4x128x128.Idx) : ∃ p ∈ zp, y ∈ p.1.set :=
  View.cover_of_tiledL (s := S4x128x128) zp S4x128x128.size (by rfl) y

/-- Every index is in the pieces after head 0. -/
theorem mem_zl0 {κ : Kind} {sp : Space} (v : View sig κ sp S4x128x128 .f32) (f : Fin 4 → FVec Ideal S128x128 .f32 → FVec Ideal S128x128 .f32) (y : S4x128x128.Idx) :
    ∃ p ∈ zl0 v f, y ∈ p.1.set := by
  obtain ⟨p, hp, hy⟩ := mem_zp y
  exact ⟨p, List.mem_cons_of_mem _ hp, hy⟩

/-- What head 0 reads of a batch's first states is zero. -/
theorem st_zl0 {κ : Kind} {sp : Space} (v : View sig κ sp S4x128x128 .f32) (f : Fin 4 → FVec Ideal S128x128 .f32 → FVec Ideal S128x128 .f32) :
    st (v.readCov zp (Rect.unit (s := S4x128x128) ![0, 0, 0] S1x128x128.size inb_S4x128x128_S1x128x128_0_0_0).toLoadRect) = zst := by
  funext y
  rw [View.readCov_eq_canon_ld (Val := Elt Ideal) _ _ _ (fun y => mem_zp y)]
  rw [eq_ix2 y]
  refine (st_apply _ _ _).trans ?_
  show View.canon (Val := Elt Ideal) _ _ = 0
  exact canon_zp _

/-- Every index is in the pieces after head 1. -/
theorem mem_zl1 {κ : Kind} {sp : Space} (v : View sig κ sp S4x128x128 .f32) (f : Fin 4 → FVec Ideal S128x128 .f32 → FVec Ideal S128x128 .f32) (y : S4x128x128.Idx) :
    ∃ p ∈ zl1 v f, y ∈ p.1.set := by
  obtain ⟨p, hp, hy⟩ := mem_zl0 v f y
  exact ⟨p, List.mem_cons_of_mem _ hp, hy⟩

/-- What head 1 reads of a batch's first states is zero. -/
theorem st_zl1 {κ : Kind} {sp : Space} (v : View sig κ sp S4x128x128 .f32) (f : Fin 4 → FVec Ideal S128x128 .f32 → FVec Ideal S128x128 .f32) :
    st (v.readCov (zl0 v f) (Rect.unit (s := S4x128x128) ![1, 0, 0] S1x128x128.size inb_S4x128x128_S1x128x128_1_0_0).toLoadRect) = zst := by
  funext y
  rw [View.readCov_eq_canon_ld (Val := Elt Ideal) _ _ _ (fun y => mem_zl0 v f y)]
  rw [eq_ix2 y]
  refine (st_apply _ _ _).trans ?_
  show View.canon (Val := Elt Ideal) _ _ = 0
  unfold zl0
  rw [View.canon_cons_of_not_mem _ _ (by
    intro hm
    have e := ((Rect.mem_set_unit (inb := inb_S4x128x128_S1x128x128_0_0_0)).mp hm) 0
    have e' : 1 + 1 * 0 < 0 + 1 := e.2
    omega)]
  exact canon_zp _

/-- Every index is in the pieces after head 2. -/
theorem mem_zl2 {κ : Kind} {sp : Space} (v : View sig κ sp S4x128x128 .f32) (f : Fin 4 → FVec Ideal S128x128 .f32 → FVec Ideal S128x128 .f32) (y : S4x128x128.Idx) :
    ∃ p ∈ zl2 v f, y ∈ p.1.set := by
  obtain ⟨p, hp, hy⟩ := mem_zl1 v f y
  exact ⟨p, List.mem_cons_of_mem _ hp, hy⟩

/-- What head 2 reads of a batch's first states is zero. -/
theorem st_zl2 {κ : Kind} {sp : Space} (v : View sig κ sp S4x128x128 .f32) (f : Fin 4 → FVec Ideal S128x128 .f32 → FVec Ideal S128x128 .f32) :
    st (v.readCov (zl1 v f) (Rect.unit (s := S4x128x128) ![2, 0, 0] S1x128x128.size inb_S4x128x128_S1x128x128_2_0_0).toLoadRect) = zst := by
  funext y
  rw [View.readCov_eq_canon_ld (Val := Elt Ideal) _ _ _ (fun y => mem_zl1 v f y)]
  rw [eq_ix2 y]
  refine (st_apply _ _ _).trans ?_
  show View.canon (Val := Elt Ideal) _ _ = 0
  unfold zl1
  rw [View.canon_cons_of_not_mem _ _ (by
    intro hm
    have e := ((Rect.mem_set_unit (inb := inb_S4x128x128_S1x128x128_1_0_0)).mp hm) 0
    have e' : 2 + 1 * 0 < 1 + 1 := e.2
    omega)]
  unfold zl0
  rw [View.canon_cons_of_not_mem _ _ (by
    intro hm
    have e := ((Rect.mem_set_unit (inb := inb_S4x128x128_S1x128x128_0_0_0)).mp hm) 0
    have e' : 2 + 1 * 0 < 0 + 1 := e.2
    omega)]
  exact canon_zp _

/-- Every index is in the pieces after head 3. -/
theorem mem_zl3 {κ : Kind} {sp : Space} (v : View sig κ sp S4x128x128 .f32) (f : Fin 4 → FVec Ideal S128x128 .f32 → FVec Ideal S128x128 .f32) (y : S4x128x128.Idx) :
    ∃ p ∈ zl3 v f, y ∈ p.1.set := by
  obtain ⟨p, hp, hy⟩ := mem_zl2 v f y
  exact ⟨p, List.mem_cons_of_mem _ hp, hy⟩

/-- What head 3 reads of a batch's first states is zero. -/
theorem st_zl3 {κ : Kind} {sp : Space} (v : View sig κ sp S4x128x128 .f32) (f : Fin 4 → FVec Ideal S128x128 .f32 → FVec Ideal S128x128 .f32) :
    st (v.readCov (zl2 v f) (Rect.unit (s := S4x128x128) ![3, 0, 0] S1x128x128.size inb_S4x128x128_S1x128x128_3_0_0).toLoadRect) = zst := by
  funext y
  rw [View.readCov_eq_canon_ld (Val := Elt Ideal) _ _ _ (fun y => mem_zl2 v f y)]
  rw [eq_ix2 y]
  refine (st_apply _ _ _).trans ?_
  show View.canon (Val := Elt Ideal) _ _ = 0
  unfold zl2
  rw [View.canon_cons_of_not_mem _ _ (by
    intro hm
    have e := ((Rect.mem_set_unit (inb := inb_S4x128x128_S1x128x128_2_0_0)).mp hm) 0
    have e' : 3 + 1 * 0 < 2 + 1 := e.2
    omega)]
  unfold zl1
  rw [View.canon_cons_of_not_mem _ _ (by
    intro hm
    have e := ((Rect.mem_set_unit (inb := inb_S4x128x128_S1x128x128_1_0_0)).mp hm) 0
    have e' : 3 + 1 * 0 < 1 + 1 := e.2
    omega)]
  unfold zl0
  rw [View.canon_cons_of_not_mem _ _ (by
    intro hm
    have e := ((Rect.mem_set_unit (inb := inb_S4x128x128_S1x128x128_0_0_0)).mp hm) 0
    have e' : 3 + 1 * 0 < 0 + 1 := e.2
    omega)]
  exact canon_zp _

/-- The pieces after a batch's first block: the four states from zero. -/
theorem zl_eq {κ : Kind} {sp : Space} (v : View sig κ sp S4x128x128 .f32) (f : Fin 4 → FVec Ideal S128x128 .f32 → FVec Ideal S128x128 .f32) :
    zl3 v f = cl (fun h => f h zst) ++ zp := by
  unfold zl3; rw [st_zl3]
  unfold zl2; rw [st_zl2]
  unfold zl1; rw [st_zl1]
  unfold zl0; rw [st_zl0 v f]
  rfl

/-- A batch's first states at an entry. -/
theorem canon_zl {κ : Kind} {sp : Space} (v : View sig κ sp S4x128x128 .f32) (f : Fin 4 → FVec Ideal S128x128 .f32 → FVec Ideal S128x128 .f32) :
    View.canon (Val := Elt Ideal) (zl3 v f) = stk (fun h => f h zst) := by
  funext y
  rw [zl_eq, canon_append _ _ _ (cov_cl _ y), canon_cl]

/-- The heads' outputs side by side. -/
def cat (f : Fin 8 → FVec Ideal S256x128 .bf16) : FVec Ideal S256x1024 .bf16 := fun y =>
  f ⟨(y 1).val / 128, by have : (y 1).val < 1024 := (y 1).isLt; omega⟩ (ix2 (y 0) ⟨(y 1).val % 128, Nat.mod_lt _ (by norm_num)⟩)

/-- The pieces of the heads' outputs, read whole. -/
theorem readCov_ol {κ : Kind} {sp : Space} (v : View sig κ sp S256x1024 .bf16) (f : Fin 8 → FVec Ideal S256x128 .bf16) :
    v.readCov (ol f) (Rect.unit (s := S256x1024) ![0, 0] S256x1024.size inb_S256x1024_S256x1024_0_0).toLoadRect = cat f := by
  have zz : (![0, 0] : Fin 2 → ℕ) = fun _ => 0 := by funext a; fin_cases a <;> rfl
  rw [View.readCov_eq_canon_ld (Val := Elt Ideal) _ _ _ (cov_ol f)]
  rw [View.ld_unit_zero (S := S256x1024) zz]
  funext y
  refine View.canon_apply_of_pieces (Val := Elt Ideal) (cat f) _ ?_ y (cov_ol f y)
  intro p hp
  simp only [ol, List.mem_cons, List.not_mem_nil, or_false] at hp
  rcases hp with rfl | rfl | rfl | rfl | rfl | rfl | rfl | rfl
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 7 = (896 + 1 * b.val) / 128
      omega
    · match d with
      | ⟨0, _⟩ => show a.val = 0 + 1 * a.val; omega
      | ⟨1, _⟩ => show b.val = (896 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 6 = (768 + 1 * b.val) / 128
      omega
    · match d with
      | ⟨0, _⟩ => show a.val = 0 + 1 * a.val; omega
      | ⟨1, _⟩ => show b.val = (768 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 5 = (640 + 1 * b.val) / 128
      omega
    · match d with
      | ⟨0, _⟩ => show a.val = 0 + 1 * a.val; omega
      | ⟨1, _⟩ => show b.val = (640 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 4 = (512 + 1 * b.val) / 128
      omega
    · match d with
      | ⟨0, _⟩ => show a.val = 0 + 1 * a.val; omega
      | ⟨1, _⟩ => show b.val = (512 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 3 = (384 + 1 * b.val) / 128
      omega
    · match d with
      | ⟨0, _⟩ => show a.val = 0 + 1 * a.val; omega
      | ⟨1, _⟩ => show b.val = (384 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 2 = (256 + 1 * b.val) / 128
      omega
    · match d with
      | ⟨0, _⟩ => show a.val = 0 + 1 * a.val; omega
      | ⟨1, _⟩ => show b.val = (256 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 1 = (128 + 1 * b.val) / 128
      omega
    · match d with
      | ⟨0, _⟩ => show a.val = 0 + 1 * a.val; omega
      | ⟨1, _⟩ => show b.val = (128 + 1 * b.val) % 128; omega
  · intro x
    obtain ⟨a, b, rfl⟩ : ∃ a b, x = ix2 a b := ⟨_, _, eq_ix2 x⟩
    have hb : b.val < 128 := b.isLt
    unfold cat
    refine congrArg₂ (fun h i => f h i) (Fin.ext ?_) (funext fun d => Fin.ext ?_)
    · show 0 = (0 + 1 * b.val) / 128
      omega
    · match d with
      | ⟨0, _⟩ => show a.val = 0 + 1 * a.val; omega
      | ⟨1, _⟩ => show b.val = (0 + 1 * b.val) % 128; omega

/-- A last state's piece at an entry. -/
theorem pay3_apply (x : Vec Ideal S1x128x128 .f32) (z z' : Fin 1) (a b : Fin 128) : k0_pay3 (F := Ideal) x (ix4 z z' a b) = x (ix3 0 b a) := by
  have hz : z.val < 1 := z.isLt
  have hz' : z'.val < 1 := z'.isLt
  unfold k0_pay3
  dsimp only
  rw [shapeCast_apply (s := S128x128) _ _ _ (ix2 a b) (by
    rw [Shape.rowMajor_val_two, Shape.rowMajor_val_four]
    show a.val * 128 + b.val = ((z.val * 1 + z'.val) * 128 + a.val) * 128 + b.val
    omega)]
  rw [transpose_apply _ _ _ _ (ix2 b a) (by intro d; match d with | ⟨0, _⟩ => rfl | ⟨1, _⟩ => rfl)]
  exact st_apply x b a

/-- The pieces of the last states at an entry: transposed. -/
theorem canon_fl {κ : Kind} {sp : Space} (v : View sig κ sp S4x128x128 .f32) (f : Fin 4 → FVec Ideal S128x128 .f32) (y : S1x4x128x128.Idx) :
    View.canon (Val := Elt Ideal) (fl v (cl f)) y = f (y 1) (ix2 (y 3) (y 2)) := by
  refine View.canon_apply_of_pieces (Val := Elt Ideal) (fun y => f (y 1) (ix2 (y 3) (y 2))) _ ?_ y (cov_fl v (cl f) y)
  intro p hp
  simp only [fl, List.mem_cons, List.not_mem_nil, or_false] at hp
  rcases hp with rfl | rfl | rfl | rfl
  · intro x
    obtain ⟨z, z', a, b, rfl⟩ : ∃ z z' a b, x = ix4 z z' a b := ⟨_, _, _, _, eq_ix4 x⟩
    obtain rfl : z' = 0 := Fin.ext (by have : z'.val < 1 := z'.isLt; show z'.val = 0; omega)
    refine (pay3_apply (v.readCov (cl f) (Rect.unit (s := S4x128x128) ![3, 0, 0] S1x128x128.size inb_S4x128x128_S1x128x128_3_0_0).toLoadRect) z 0 a b).trans ?_
    rw [View.readCov_eq_canon_ld (Val := Elt Ideal) _ _ _ (cov_cl f)]
    show View.canon (Val := Elt Ideal) _ _ = _
    rw [canon_cl]
    unfold stk
    refine congrArg₂ (fun h i => f h i) (Fin.ext ?_) (funext fun d => Fin.ext ?_)
    · rfl
    · match d with
      | ⟨0, _⟩ => rfl
      | ⟨1, _⟩ => rfl
  · intro x
    obtain ⟨z, z', a, b, rfl⟩ : ∃ z z' a b, x = ix4 z z' a b := ⟨_, _, _, _, eq_ix4 x⟩
    obtain rfl : z' = 0 := Fin.ext (by have : z'.val < 1 := z'.isLt; show z'.val = 0; omega)
    refine (pay3_apply (v.readCov (cl f) (Rect.unit (s := S4x128x128) ![2, 0, 0] S1x128x128.size inb_S4x128x128_S1x128x128_2_0_0).toLoadRect) z 0 a b).trans ?_
    rw [View.readCov_eq_canon_ld (Val := Elt Ideal) _ _ _ (cov_cl f)]
    show View.canon (Val := Elt Ideal) _ _ = _
    rw [canon_cl]
    unfold stk
    refine congrArg₂ (fun h i => f h i) (Fin.ext ?_) (funext fun d => Fin.ext ?_)
    · rfl
    · match d with
      | ⟨0, _⟩ => rfl
      | ⟨1, _⟩ => rfl
  · intro x
    obtain ⟨z, z', a, b, rfl⟩ : ∃ z z' a b, x = ix4 z z' a b := ⟨_, _, _, _, eq_ix4 x⟩
    obtain rfl : z' = 0 := Fin.ext (by have : z'.val < 1 := z'.isLt; show z'.val = 0; omega)
    refine (pay3_apply (v.readCov (cl f) (Rect.unit (s := S4x128x128) ![1, 0, 0] S1x128x128.size inb_S4x128x128_S1x128x128_1_0_0).toLoadRect) z 0 a b).trans ?_
    rw [View.readCov_eq_canon_ld (Val := Elt Ideal) _ _ _ (cov_cl f)]
    show View.canon (Val := Elt Ideal) _ _ = _
    rw [canon_cl]
    unfold stk
    refine congrArg₂ (fun h i => f h i) (Fin.ext ?_) (funext fun d => Fin.ext ?_)
    · rfl
    · match d with
      | ⟨0, _⟩ => rfl
      | ⟨1, _⟩ => rfl
  · intro x
    obtain ⟨z, z', a, b, rfl⟩ : ∃ z z' a b, x = ix4 z z' a b := ⟨_, _, _, _, eq_ix4 x⟩
    obtain rfl : z' = 0 := Fin.ext (by have : z'.val < 1 := z'.isLt; show z'.val = 0; omega)
    refine (pay3_apply (v.readCov (cl f) (Rect.unit (s := S4x128x128) ![0, 0, 0] S1x128x128.size inb_S4x128x128_S1x128x128_0_0_0).toLoadRect) z 0 a b).trans ?_
    rw [View.readCov_eq_canon_ld (Val := Elt Ideal) _ _ _ (cov_cl f)]
    show View.canon (Val := Elt Ideal) _ _ = _
    rw [canon_cl]
    unfold stk
    refine congrArg₂ (fun h i => f h i) (Fin.ext ?_) (funext fun d => Fin.ext ?_)
    · rfl
    · match d with
      | ⟨0, _⟩ => rfl
      | ⟨1, _⟩ => rfl

end Cert.Proof.Prompt

end
-- ==== Proof.PromptCases.lean ====
/-
  What each kind of block of the prompt mixer (a batch's first, middle, last) leaves in its states and its rows, as the block's
  functions of the input blocks and of the states carried in.
-/
module

public import proofs.«01_k».proof.Proof.PromptReads

@[expose] public section

set_option synthInstance.maxSize 4096
set_option maxRecDepth 16384

noncomputable section

open Idealize.ShloMosaic Idealize.ShloMosaic.TcCoe Idealize.SL.Sem Idealize.ShloMosaic.ValueIdx
open scoped BigOperators

namespace Cert.Proof.Prompt

open Cert.PromptIdeal Cert.PromptIdeal.Gen

/-- The number of a column group: the head's, past a base. -/
def ci (b : ℕ) (hb : b + 4 ≤ 32) (h : Fin 4) : Fin 32 := ⟨b + h.val, by have := h.isLt; omega⟩

section
variable (x0 : Vec Ideal S1x256x1024 .f32) (x1 : Vec Ideal S1x1024 .f32) (x2 : Vec Ideal S1024x4096 .bf16) (x3 x4 : Vec Ideal S256x128 .f32)
  (x5 x6 : Vec Ideal S1x128 .f32) (x7 : Vec Ideal S2x512 .f32) (x8 : Vec Ideal S1024x1024 .bf16)

/-- The retention heads' next states. -/
def nR (S : Fin 4 → FVec Ideal S128x128 .f32) (h : Fin 4) : FVec Ideal S128x128 .f32 :=
  sR x3 x4 (pcol x0 x1 x2) h (ci 4 (by norm_num) h) (ci 8 (by norm_num) h) (S h)

/-- The gated heads' next states. -/
def nG (S : Fin 4 → FVec Ideal S128x128 .f32) (h : Fin 4) : FVec Ideal S128x128 .f32 :=
  sG x7 (pcol x0 x1 x2) h (ci 20 (by norm_num) h) (ci 24 (by norm_num) h) (S h)

/-- The retention heads' outputs. -/
def hR (S : Fin 4 → FVec Ideal S128x128 .f32) (h : Fin 4) : FVec Ideal S256x128 .bf16 :=
  oR x3 x4 x5 (pcol x0 x1 x2) h (ci 0 (by norm_num) h) (ci 4 (by norm_num) h) (ci 8 (by norm_num) h) (ci 12 (by norm_num) h) (S h)

/-- The gated heads' outputs. -/
def hG (S : Fin 4 → FVec Ideal S128x128 .f32) (h : Fin 4) : FVec Ideal S256x128 .bf16 :=
  oG x6 x7 (pcol x0 x1 x2) h (ci 16 (by norm_num) h) (ci 20 (by norm_num) h) (ci 24 (by norm_num) h) (ci 28 (by norm_num) h) (S h)

/-- The eight heads' outputs. -/
def h8 (S T : Fin 4 → FVec Ideal S128x128 .f32) (j : Fin 8) : FVec Ideal S256x128 .bf16 :=
  if hj : j.val < 4 then hR x0 x1 x2 x3 x4 x5 S ⟨j.val, hj⟩ else hG x0 x1 x2 x6 x7 T ⟨j.val - 4, by have := j.isLt; omega⟩

/-- The block's rows. -/
def nY (S T : Fin 4 → FVec Ideal S128x128 .f32) : FVec Ideal S1x256x1024 .f32 :=
  k0_pay270 (F := Ideal) x0 (cat (h8 x0 x1 x2 x3 x4 x5 x6 x7 S T)) x8
end

/-- Reading the whole block of the activations gives it back. -/
theorem rd0 (arg2 : Memref sig .tc .vmem S1x256x1024 .f32) (harg2 : arg2.IsWhole) (x0 : Vec Ideal S1x256x1024 .f32) :
    (View.readAt (Elt Ideal) arg2.view (Rect.unit (s := S1x256x1024) ![0, 0, 0] S1x256x1024.size inb_S1x256x1024_S1x256x1024_0_0_0).toLoadRect (harg2.unread x0)) = x0 :=
  have z3 : (![0, 0, 0] : Fin 3 → ℕ) = fun _ => 0 := by funext a; fin_cases a <;> rfl
  (congrArg (fun X => View.ld X _) (harg2.read_unread x0)).trans (View.ld_unit_zero (S := S1x256x1024) z3 _ x0)

/-- Reading the whole block of the norm's weights gives it back. -/
theorem rd1 (arg3 : Memref sig .tc .vmem S1x1024 .f32) (harg3 : arg3.IsWhole) (x1 : Vec Ideal S1x1024 .f32) :
    (View.readAt (Elt Ideal) arg3.view (Rect.unit (s := S1x1024) ![0, 0] S1x1024.size inb_S1x1024_S1x1024_0_0).toLoadRect (harg3.unread x1)) = x1 :=
  have z2 : (![0, 0] : Fin 2 → ℕ) = fun _ => 0 := by funext a; fin_cases a <;> rfl
  (congrArg (fun X => View.ld X _) (harg3.read_unread x1)).trans (View.ld_unit_zero (S := S1x1024) z2 _ x1)

/-- Reading the whole block of the cosines gives it back. -/
theorem rd3 (arg5 : Memref sig .tc .vmem S256x128 .f32) (harg5 : arg5.IsWhole) (x3 : Vec Ideal S256x128 .f32) :
    (View.readAt (Elt Ideal) arg5.view (Rect.unit (s := S256x128) ![0, 0] S256x128.size inb_S256x128_S256x128_0_0).toLoadRect (harg5.unread x3)) = x3 :=
  have z2 : (![0, 0] : Fin 2 → ℕ) = fun _ => 0 := by funext a; fin_cases a <;> rfl
  (congrArg (fun X => View.ld X _) (harg5.read_unread x3)).trans (View.ld_unit_zero (S := S256x128) z2 _ x3)

/-- Reading the whole block of the signed sines gives it back. -/
theorem rd4 (arg6 : Memref sig .tc .vmem S256x128 .f32) (harg6 : arg6.IsWhole) (x4 : Vec Ideal S256x128 .f32) :
    (View.readAt (Elt Ideal) arg6.view (Rect.unit (s := S256x128) ![0, 0] S256x128.size inb_S256x128_S256x128_0_0).toLoadRect (harg6.unread x4)) = x4 :=
  have z2 : (![0, 0] : Fin 2 → ℕ) = fun _ => 0 := by funext a; fin_cases a <;> rfl
  (congrArg (fun X => View.ld X _) (harg6.read_unread x4)).trans (View.ld_unit_zero (S := S256x128) z2 _ x4)

/-- Reading the whole block of the retention heads' norm weights gives it back. -/
theorem rd5 (arg7 : Memref sig .tc .vmem S1x128 .f32) (harg7 : arg7.IsWhole) (x5 : Vec Ideal S1x128 .f32) :
    (View.readAt (Elt Ideal) arg7.view (Rect.unit (s := S1x128) ![0, 0] S1x128.size inb_S1x128_S1x128_0_0).toLoadRect (harg7.unread x5)) = x5 :=
  have z2 : (![0, 0] : Fin 2 → ℕ) = fun _ => 0 := by funext a; fin_cases a <;> rfl
  (congrArg (fun X => View.ld X _) (harg7.read_unread x5)).trans (View.ld_unit_zero (S := S1x128) z2 _ x5)

/-- Reading the whole block of the gated heads' norm weights gives it back. -/
theorem rd6 (arg8 : Memref sig .tc .vmem S1x128 .f32) (harg8 : arg8.IsWhole) (x6 : Vec Ideal S1x128 .f32) :
    (View.readAt (Elt Ideal) arg8.view (Rect.unit (s := S1x128) ![0, 0] S1x128.size inb_S1x128_S1x128_0_0).toLoadRect (harg8.unread x6)) = x6 :=
  have z2 : (![0, 0] : Fin 2 → ℕ) = fun _ => 0 := by funext a; fin_cases a <;> rfl
  (congrArg (fun X => View.ld X _) (harg8.read_unread x6)).trans (View.ld_unit_zero (S := S1x128) z2 _ x6)

/-- Reading the whole block of the lower-bound logits gives it back. -/
theorem rd7 (arg9 : Memref sig .tc .vmem S2x512 .f32) (harg9 : arg9.IsWhole) (x7 : Vec Ideal S2x512 .f32) :
    (View.readAt (Elt Ideal) arg9.view (Rect.unit (s := S2x512) ![0, 0] S2x512.size inb_S2x512_S2x512_0_0).toLoadRect (harg9.unread x7)) = x7 :=
  have z2 : (![0, 0] : Fin 2 → ℕ) = fun _ => 0 := by funext a; fin_cases a <;> rfl
  (congrArg (fun X => View.ld X _) (harg9.read_unread x7)).trans (View.ld_unit_zero (S := S2x512) z2 _ x7)

/-- Reading the whole block of the projection out gives it back. -/
theorem rd8 (arg10 : Memref sig .tc .vmem S1024x1024 .bf16) (harg10 : arg10.IsWhole) (x8 : Vec Ideal S1024x1024 .bf16) :
    (View.readAt (Elt Ideal) arg10.view (Rect.unit (s := S1024x1024) ![0, 0] S1024x1024.size inb_S1024x1024_S1024x1024_0_0).toLoadRect (harg10.unread x8)) = x8 :=
  have z2 : (![0, 0] : Fin 2 → ℕ) = fun _ => 0 := by funext a; fin_cases a <;> rfl
  (congrArg (fun X => View.ld X _) (harg10.read_unread x8)).trans (View.ld_unit_zero (S := S1024x1024) z2 _ x8)

/-- The retention states that a batch's first block leaves. -/
theorem sout2_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = stk (nR x0 x1 x2 x3 x4 (fun _ => zst)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  unfold sout0_A_2
  refine (View.read_writes_eq_canon _ _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)).trans ?_
  rw [pieces2_A, eP, e3, e4]
  rw [canon_zl]
  refine congrArg stk (funext fun h => ?_)
  fin_cases h <;> rfl

/-- The gated states that a batch's first block leaves. -/
theorem sout3_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = stk (nG x0 x1 x2 x7 (fun _ => zst)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  unfold sout0_A_3
  refine (View.read_writes_eq_canon _ _ _ (scover0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)).trans ?_
  rw [pieces3_A, eP, e7]
  rw [canon_zl]
  refine congrArg stk (funext fun h => ?_)
  fin_cases h <;> rfl

/-- The rows that a batch's first block leaves. -/
theorem out9_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = nY x0 x1 x2 x3 x4 x5 x6 x7 x8 (fun _ => zst) (fun _ => zst) := by
  have z3 : (![0, 0, 0] : Fin 3 → ℕ) = fun _ => 0 := by funext a; fin_cases a <;> rfl
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  unfold out0_A_9
  refine (View.read_writes_eq_canon _ _ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8)).trans ?_
  rw [pieces9_A, View.canon_unit_zero (S := S1x256x1024) z3, eP, e0, e3, e4, e5, e6, e7, e8, readCov_ol]
  simp only [st_zl0 arg16.view (fun _ x => x), st_zl1 arg16.view, st_zl2 arg16.view, st_zl3 arg16.view, st_zl0 arg17.view (fun _ x => x), st_zl1 arg17.view, st_zl2 arg17.view, st_zl3 arg17.view]
  unfold nY
  refine congrArg (fun o => k0_pay270 (F := Ideal) x0 (cat o) x8) (funext fun h => ?_)
  fin_cases h <;> rfl

/-- The retention states that a middle block leaves. -/
theorem sout2_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = stk (nR x0 x1 x2 x3 x4 (slc xs2)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold sout0_B_2
  refine (View.read_writes_eq_canon _ _ _ (scover0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces2_B, eP, e3, e4, s20, s21, s22, s23]
  refine (funext (canon_cl _)).trans ?_
  refine congrArg stk (funext fun h => ?_)
  fin_cases h <;> rfl

/-- The gated states that a middle block leaves. -/
theorem sout3_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = stk (nG x0 x1 x2 x7 (slc xs3)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold sout0_B_3
  refine (View.read_writes_eq_canon _ _ _ (scover0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces3_B, eP, e7, s30, s31, s32, s33]
  refine (funext (canon_cl _)).trans ?_
  refine congrArg stk (funext fun h => ?_)
  fin_cases h <;> rfl

/-- The rows that a middle block leaves. -/
theorem out9_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : ¬cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = nY x0 x1 x2 x3 x4 x5 x6 x7 x8 (slc xs2) (slc xs3) := by
  have z3 : (![0, 0, 0] : Fin 3 → ℕ) = fun _ => 0 := by funext a; fin_cases a <;> rfl
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold out0_B_9
  refine (View.read_writes_eq_canon _ _ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces9_B, View.canon_unit_zero (S := S1x256x1024) z3, eP, e0, e3, e4, e5, e6, e7, e8, readCov_ol]
  rw [s20, s21, s22, s23, s30, s31, s32, s33]
  unfold nY
  refine congrArg (fun o => k0_pay270 (F := Ideal) x0 (cat o) x8) (funext fun h => ?_)
  fin_cases h <;> rfl

/-- The retention states that a batch's last block leaves. -/
theorem sout2_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = stk (nR x0 x1 x2 x3 x4 (slc xs2)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold sout0_C_2
  refine (View.read_writes_eq_canon _ _ _ (scover0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces2_C, eP, e3, e4, s20, s21, s22, s23]
  refine (funext (canon_cl _)).trans ?_
  refine congrArg stk (funext fun h => ?_)
  fin_cases h <;> rfl

/-- The gated states that a batch's last block leaves. -/
theorem sout3_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = stk (nG x0 x1 x2 x7 (slc xs3)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold sout0_C_3
  refine (View.read_writes_eq_canon _ _ _ (scover0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces3_C, eP, e7, s30, s31, s32, s33]
  refine (funext (canon_cl _)).trans ?_
  refine congrArg stk (funext fun h => ?_)
  fin_cases h <;> rfl

/-- The rows that a batch's last block leaves. -/
theorem out9_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = nY x0 x1 x2 x3 x4 x5 x6 x7 x8 (slc xs2) (slc xs3) := by
  have z3 : (![0, 0, 0] : Fin 3 → ℕ) = fun _ => 0 := by funext a; fin_cases a <;> rfl
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold out0_C_9
  refine (View.read_writes_eq_canon _ _ _ (cover0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces9_C, View.canon_unit_zero (S := S1x256x1024) z3, eP, e0, e3, e4, e5, e6, e7, e8, readCov_ol]
  rw [s20, s21, s22, s23, s30, s31, s32, s33]
  unfold nY
  refine congrArg (fun o => k0_pay270 (F := Ideal) x0 (cat o) x8) (funext fun h => ?_)
  fin_cases h <;> rfl

/-- The last states. -/
theorem out10_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = fun y => (nR x0 x1 x2 x3 x4 (slc xs2)) (y 1) (ix2 (y 3) (y 2)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold out0_C_10
  refine (View.read_writes_eq_canon _ _ _ (cover0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces10_C, eP, e3, e4, s20, s21, s22, s23]
  refine funext fun y => (canon_fl _ _ y).trans ?_
  refine congrFun (?_ : _ = (nR x0 x1 x2 x3 x4 (slc xs2)) (y 1)) _
  generalize y 1 = h
  revert h
  intro (h : Fin 4)
  fin_cases h <;> rfl

/-- The last states. -/
theorem out11_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2x512 .f32) (harg9 : arg9.IsWhole) (arg10 : Memref sig .tc .vmem S1024x1024 .bf16) (harg10 : arg10.IsWhole) (arg11 : Memref sig .tc .vmem S1x256x1024 .f32) (harg11 : arg11.IsWhole) (arg12 : Memref sig .tc .vmem S1x4x128x128 .f32) (harg12 : arg12.IsWhole) (arg13 : Memref sig .tc .vmem S1x4x128x128 .f32) (harg13 : arg13.IsWhole) (arg14 : Memref sig .tc .vmem S256x4096 .f32) (harg14 : arg14.IsWhole) (arg15 : Memref sig .tc .vmem S256x1024 .bf16) (harg15 : arg15.IsWhole) (arg16 : Memref sig .tc .vmem S4x128x128 .f32) (harg16 : arg16.IsWhole) (arg17 : Memref sig .tc .vmem S4x128x128 .f32) (harg17 : arg17.IsWhole) (hc0 : ¬cond0_0 i) (hc1 : cond0_1 i)
    (x0 : Vec Ideal S1x256x1024 .f32) (x1 : Vec Ideal S1x1024 .f32) (x2 : Vec Ideal S1024x4096 .bf16) (x3 : Vec Ideal S256x128 .f32) (x4 : Vec Ideal S256x128 .f32) (x5 : Vec Ideal S1x128 .f32) (x6 : Vec Ideal S1x128 .f32) (x7 : Vec Ideal S2x512 .f32) (x8 : Vec Ideal S1024x1024 .bf16) (xs2 : Vec Ideal S4x128x128 .f32) (xs3 : Vec Ideal S4x128x128 .f32) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3 = fun y => (nG x0 x1 x2 x7 (slc xs3)) (y 1) (ix2 (y 3) (y 2)) := by
  have e0 := rd0 arg2 harg2 x0
  have e1 := rd1 arg3 harg3 x1
  have e3 := rd3 arg5 harg5 x3
  have e4 := rd4 arg6 harg6 x4
  have e5 := rd5 arg7 harg7 x5
  have e6 := rd6 arg8 harg8 x6
  have e7 := rd7 arg9 harg9 x7
  have e8 := rd8 arg10 harg10 x8
  have eP : (colAt arg14.view (projL (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x4096) ![0, 0] S1024x512.size inb_S1024x4096_S1024x512_0_0).toLoadRect (harg4.unread x2)) (View.readAt (Elt Ideal) arg4.view (Rect.unit (s := S1024x4096) ![0, 512] S1024x512.size inb_S1024x4096_S1024x512_0_512).toLoadRect (harg4.unread x2)) (View.readAt (Elt Ideal) arg4.view (Rect.unit (s := S1024x4096) ![0, 1024] S1024x512.size inb_S1024x4096_S1024x512_0_1024).toLoadRect (harg4.unread x2)) (View.readAt (Elt Ideal) arg4.view (Rect.unit (s := S1024x4096) ![0, 1536] S1024x512.size inb_S1024x4096_S1024x512_0_1536).toLoadRect (harg4.unread x2)) (View.readAt (Elt Ideal) arg4.view (Rect.unit (s := S1024x4096) ![0, 2048] S1024x512.size inb_S1024x4096_S1024x512_0_2048).toLoadRect (harg4.unread x2)) (View.readAt (Elt Ideal) arg4.view (Rect.unit (s := S1024x4096) ![0, 2560] S1024x512.size inb_S1024x4096_S1024x512_0_2560).toLoadRect (harg4.unread x2)) (View.readAt (Elt Ideal) arg4.view (Rect.unit (s := S1024x4096) ![0, 3072] S1024x512.size inb_S1024x4096_S1024x512_0_3072).toLoadRect (harg4.unread x2)) (View.readAt (Elt Ideal) arg4.view (Rect.unit (s := S1024x4096) ![0, 3584] S1024x512.size inb_S1024x4096_S1024x512_0_3584).toLoadRect (harg4.unread x2)))) = pcol x0 x1 x2 := by
    rw [e0, e1]
    simp only [View.readAt_eq_ld, harg4.read_unread]
    exact colAt_projL arg14.view x0 x1 x2
  have s20 : st (View.readAt (Elt Ideal) arg16.view (Rect.unit (s := S4x128x128) ![0, 0, 0] S1x128x128.size inb_S4x128x128_S1x128x128_0_0_0).toLoadRect (harg16.unread xs2)) = slc xs2 0 := (congrArg (fun X => st (View.ld X (Rect.unit (s := S4x128x128) ![0, 0, 0] S1x128x128.size inb_S4x128x128_S1x128x128_0_0_0))) (harg16.read_unread xs2)).trans (st_ld0 xs2)
  have s21 : st (View.readAt (Elt Ideal) arg16.view (Rect.unit (s := S4x128x128) ![1, 0, 0] S1x128x128.size inb_S4x128x128_S1x128x128_1_0_0).toLoadRect (harg16.unread xs2)) = slc xs2 1 := (congrArg (fun X => st (View.ld X (Rect.unit (s := S4x128x128) ![1, 0, 0] S1x128x128.size inb_S4x128x128_S1x128x128_1_0_0))) (harg16.read_unread xs2)).trans (st_ld1 xs2)
  have s22 : st (View.readAt (Elt Ideal) arg16.view (Rect.unit (s := S4x128x128) ![2, 0, 0] S1x128x128.size inb_S4x128x128_S1x128x128_2_0_0).toLoadRect (harg16.unread xs2)) = slc xs2 2 := (congrArg (fun X => st (View.ld X (Rect.unit (s := S4x128x128) ![2, 0, 0] S1x128x128.size inb_S4x128x128_S1x128x128_2_0_0))) (harg16.read_unread xs2)).trans (st_ld2 xs2)
  have s23 : st (View.readAt (Elt Ideal) arg16.view (Rect.unit (s := S4x128x128) ![3, 0, 0] S1x128x128.size inb_S4x128x128_S1x128x128_3_0_0).toLoadRect (harg16.unread xs2)) = slc xs2 3 := (congrArg (fun X => st (View.ld X (Rect.unit (s := S4x128x128) ![3, 0, 0] S1x128x128.size inb_S4x128x128_S1x128x128_3_0_0))) (harg16.read_unread xs2)).trans (st_ld3 xs2)
  have s30 : st (View.readAt (Elt Ideal) arg17.view (Rect.unit (s := S4x128x128) ![0, 0, 0] S1x128x128.size inb_S4x128x128_S1x128x128_0_0_0).toLoadRect (harg17.unread xs3)) = slc xs3 0 := (congrArg (fun X => st (View.ld X (Rect.unit (s := S4x128x128) ![0, 0, 0] S1x128x128.size inb_S4x128x128_S1x128x128_0_0_0))) (harg17.read_unread xs3)).trans (st_ld0 xs3)
  have s31 : st (View.readAt (Elt Ideal) arg17.view (Rect.unit (s := S4x128x128) ![1, 0, 0] S1x128x128.size inb_S4x128x128_S1x128x128_1_0_0).toLoadRect (harg17.unread xs3)) = slc xs3 1 := (congrArg (fun X => st (View.ld X (Rect.unit (s := S4x128x128) ![1, 0, 0] S1x128x128.size inb_S4x128x128_S1x128x128_1_0_0))) (harg17.read_unread xs3)).trans (st_ld1 xs3)
  have s32 : st (View.readAt (Elt Ideal) arg17.view (Rect.unit (s := S4x128x128) ![2, 0, 0] S1x128x128.size inb_S4x128x128_S1x128x128_2_0_0).toLoadRect (harg17.unread xs3)) = slc xs3 2 := (congrArg (fun X => st (View.ld X (Rect.unit (s := S4x128x128) ![2, 0, 0] S1x128x128.size inb_S4x128x128_S1x128x128_2_0_0))) (harg17.read_unread xs3)).trans (st_ld2 xs3)
  have s33 : st (View.readAt (Elt Ideal) arg17.view (Rect.unit (s := S4x128x128) ![3, 0, 0] S1x128x128.size inb_S4x128x128_S1x128x128_3_0_0).toLoadRect (harg17.unread xs3)) = slc xs3 3 := (congrArg (fun X => st (View.ld X (Rect.unit (s := S4x128x128) ![3, 0, 0] S1x128x128.size inb_S4x128x128_S1x128x128_3_0_0))) (harg17.read_unread xs3)).trans (st_ld3 xs3)
  unfold out0_C_11
  refine (View.read_writes_eq_canon _ _ _ (cover0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xs2 xs3)).trans ?_
  rw [pieces11_C, eP, e7, s30, s31, s32, s33]
  refine funext fun y => (canon_fl _ _ y).trans ?_
  refine congrFun (?_ : _ = (nG x0 x1 x2 x7 (slc xs3)) (y 1)) _
  generalize y 1 = h
  revert h
  intro (h : Fin 4)
  fin_cases h <;> rfl

end Cert.Proof.Prompt

end
-- ==== Proof.PromptHeads.lean ====
/-
  A block of the kernel over the layer's real numbers: what a grid point computes from blocks that hold the layer's inputs and from
  the states carried so far are the layer's rows and its next states.
-/
module

public import proofs.«01_k».proof.Proof.PromptLayer
public import proofs.«01_k».proof.Proof.PromptCases

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx
open scoped BigOperators

namespace Cert.Proof.Prompt

open Cert.Proof.Base Cert.PromptIdeal Cert.PromptIdeal.Gen

/-! ### Constants -/

/-- Head 0's logarithm. -/
theorem lg0_val : lg0 = ((Real.log (31 / 32) : ℝ) : EReal) := by
  have h : κ "log_gamma_0" = some ((Real.log (31 / 32) : ℝ) : EReal) := rfl
  unfold lg0
  simp [Named.named, h]

/-- Head 0's decay over a block. -/
theorem gn0_val : gn0 = ((Real.exp (256 * Real.log (31 / 32)) : ℝ) : EReal) := by
  have e : Real.exp (256 * Real.log (31 / 32)) = (31 / 32 : ℝ) ^ 256 := by
    rw [show (256 : ℝ) = ((256 : ℕ) : ℝ) by norm_num, Real.exp_nat_mul, Real.exp_log (by norm_num)]
  have h : κ "gamma256_0" = some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal) := rfl
  unfold gn0
  rw [e]
  simp only [Named.named, h]
  refine congrArg (fun r : ℝ => (r : EReal)) ?_
  norm_num

/-- Head 1's logarithm. -/
theorem lg1_val : lg1 = ((Real.log (63 / 64) : ℝ) : EReal) := by
  have h : κ "log_gamma_1" = some ((Real.log (63 / 64) : ℝ) : EReal) := rfl
  unfold lg1
  simp [Named.named, h]

/-- Head 1's decay over a block. -/
theorem gn1_val : gn1 = ((Real.exp (256 * Real.log (63 / 64)) : ℝ) : EReal) := by
  have e : Real.exp (256 * Real.log (63 / 64)) = (63 / 64 : ℝ) ^ 256 := by
    rw [show (256 : ℝ) = ((256 : ℕ) : ℝ) by norm_num, Real.exp_nat_mul, Real.exp_log (by norm_num)]
  have h : κ "gamma256_1" = some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal) := rfl
  unfold gn1
  rw [e]
  simp only [Named.named, h]
  refine congrArg (fun r : ℝ => (r : EReal)) ?_
  norm_num

/-- Head 2's logarithm. -/
theorem lg2_val : lg2 = ((Real.log (127 / 128) : ℝ) : EReal) := by
  have h : κ "log_gamma_2" = some ((Real.log (127 / 128) : ℝ) : EReal) := rfl
  unfold lg2
  simp [Named.named, h]

/-- Head 2's decay over a block. -/
theorem gn2_val : gn2 = ((Real.exp (256 * Real.log (127 / 128)) : ℝ) : EReal) := by
  have e : Real.exp (256 * Real.log (127 / 128)) = (127 / 128 : ℝ) ^ 256 := by
    rw [show (256 : ℝ) = ((256 : ℕ) : ℝ) by norm_num, Real.exp_nat_mul, Real.exp_log (by norm_num)]
  have h : κ "gamma256_2" = some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal) := rfl
  unfold gn2
  rw [e]
  simp only [Named.named, h]
  refine congrArg (fun r : ℝ => (r : EReal)) ?_
  norm_num

/-- Head 3's logarithm. -/
theorem lg3_val : lg3 = ((Real.log (255 / 256) : ℝ) : EReal) := by
  have h : κ "log_gamma_3" = some ((Real.log (255 / 256) : ℝ) : EReal) := rfl
  unfold lg3
  simp [Named.named, h]

/-- Head 3's decay over a block. -/
theorem gn3_val : gn3 = ((Real.exp (256 * Real.log (255 / 256)) : ℝ) : EReal) := by
  have e : Real.exp (256 * Real.log (255 / 256)) = (255 / 256 : ℝ) ^ 256 := by
    rw [show (256 : ℝ) = ((256 : ℕ) : ℝ) by norm_num, Real.exp_nat_mul, Real.exp_log (by norm_num)]
  have h : κ "gamma256_3" = some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal) := rfl
  unfold gn3
  rw [e]
  simp only [Named.named, h]
  refine congrArg (fun r : ℝ => (r : EReal)) ?_
  norm_num

/-- The logarithms of the decays. -/
theorem lgs_val (h : Fin 4) : lgs h = ((Real.log (gam h) : ℝ) : EReal) := by
  rw [gam_eq]
  fin_cases h
  · refine lg0_val.trans (congrArg (fun r : ℝ => ((Real.log r : ℝ) : EReal)) ?_); norm_num
  · refine lg1_val.trans (congrArg (fun r : ℝ => ((Real.log r : ℝ) : EReal)) ?_); norm_num
  · refine lg2_val.trans (congrArg (fun r : ℝ => ((Real.log r : ℝ) : EReal)) ?_); norm_num
  · refine lg3_val.trans (congrArg (fun r : ℝ => ((Real.log r : ℝ) : EReal)) ?_); norm_num

/-- The decays over a block. -/
theorem gns_val (h : Fin 4) : gns h = ((Real.exp (256 * Real.log (gam h)) : ℝ) : EReal) := by
  rw [gam_eq]
  fin_cases h
  · refine gn0_val.trans (congrArg (fun r : ℝ => ((Real.exp (256 * Real.log r) : ℝ) : EReal)) ?_); norm_num
  · refine gn1_val.trans (congrArg (fun r : ℝ => ((Real.exp (256 * Real.log r) : ℝ) : EReal)) ?_); norm_num
  · refine gn2_val.trans (congrArg (fun r : ℝ => ((Real.exp (256 * Real.log r) : ℝ) : EReal)) ?_); norm_num
  · refine gn3_val.trans (congrArg (fun r : ℝ => ((Real.exp (256 * Real.log r) : ℝ) : EReal)) ?_); norm_num

/-! ### Blocks -/

/-- A real from zero. -/
theorem zero_minus (r : ℝ) : Ideal.ofBits .f32 0x00000000#32 - (r : EReal) = -(r : EReal) := by
  rw [Ideal.ofBits_zero_f32, zero_sub]

/-- The logistic function of a block. -/
theorem sg_cb (X : ℕ → Fin 128 → ℝ) : sg (cb X) = cb (fun t d => sgr (X t d)) := by
  funext y
  show Ideal.div (Ideal.ofBits .f32 0x3F800000#32) (Ideal.ofBits .f32 0x3F800000#32 + Ideal.exp (Ideal.ofBits .f32 0x00000000#32 - ((X (y 0).val (y 1) : ℝ) : EReal))) = _
  rw [zero_minus, sgr_val]
  rfl

/-- The gated head's queries. -/
theorem hq_cb (X : ℕ → Fin 128 → ℝ) : hq (cb X) = cb (fun t d => X t d * sgr (X t d) * sc) := by
  unfold hq
  rw [sg_cb, mul_cb, scale_cb, mul_cb]

/-- A row of reals spread over a block. -/
theorem spread_cb (x : FVec Ideal S1x128 .f32) (L : Fin 128 → ℝ) (h : ∀ d, x (ix2 0 d) = ((L d : ℝ) : EReal)) :
    broadcastTo S256x128 x broadcasts_S1x128_S256x128 = cb (fun _ d => L d) := by
  funext y
  exact (broadcastTo_apply (s := S1x128) (t := S256x128) x _ y (ix2 0 (y 1)) (fun a => match a with
    | ⟨0, _⟩ => rfl
    | ⟨1, _⟩ => rfl)).trans (h (y 1))

/-- The forget gates. -/
theorem hf_cb (lb : FVec Ideal S1x128 .f32) (L : Fin 128 → ℝ) (h : ∀ d, lb (ix2 0 d) = ((L d : ℝ) : EReal)) (X : ℕ → Fin 128 → ℝ) :
    hf lb (cb X) = cb (fun t d => L d + (1 - L d) * sgr (X t d)) := by
  unfold hf
  rw [sg_cb, spread_cb lb L h, spread_cb _ (fun d => 1 - L d) (fun d => ?_), mul_cb, add_cb]
  show Ideal.ofBits .f32 0x3F800000#32 - lb (ix2 0 d) = _
  rw [one_val, h, ← EReal.coe_sub]

/-- The gated heads' keys. -/
theorem hk_cb (X : ℕ → Fin 128 → ℝ) : hk (cb X) = cb (fun t d => 1 - X t d) := by
  unfold hk
  rw [one_cb, sub_cb]

/-- A block's logarithms. -/
theorem log_cb (X : ℕ → Fin 128 → ℝ) (h : ∀ t d, 0 < X t d) : log (cb X) = cb (fun t d => Real.log (X t d)) := by
  funext y
  show Ideal.log ((X (y 0).val (y 1) : ℝ) : EReal) = _
  exact (Ideal.log_coe _).trans (if_neg (not_le.mpr (h _ _)))

/-- A block's rotary turn, from the tables of cosines and signed sines. -/
theorem rot_cb (x3 x4 : FVec Ideal S256x128 .f32) (n : ℕ)
    (h3 : ∀ (r : Fin 256) (d : Fin 128), x3 (ix2 r d) = ((Real.cos (ang (n + r.val) (d.val % 64)) : ℝ) : EReal))
    (h4 : ∀ (r : Fin 256) (d : Fin 128), x4 (ix2 r d) = (((if d.val < 64 then -Real.sin (ang (n + r.val) (d.val % 64)) else Real.sin (ang (n + r.val) (d.val % 64)) : ℝ)) : EReal))
    (X : ℕ → Fin 128 → ℝ) : rot x3 x4 (cb X) = cb (fun t d => turn (X t) (n + t) d) := by
  have key (a : Fin 256) (b : Fin 128) : rot x3 x4 (cb X) (ix2 a b) = ((turn (X a.val) (n + a.val) b : ℝ) : EReal) := by
    have e : dynamicRotate 1 64#32 none (cb X) rotates_S256x128_d1 (ix2 a b) = ((X a.val ⟨(b.val + 64) % 128, Nat.mod_lt _ (by norm_num)⟩ : ℝ) : EReal) :=
      (dynamicRotate_apply (s := S256x128) 1 64#32 (cb X) _ (ix2 a b) (ix2 a ⟨(b.val + 64) % 128, Nat.mod_lt _ (by norm_num)⟩) (by
        intro k; match k with
        | ⟨0, _⟩ => rfl
        | ⟨1, _⟩ => show (b.val + 64) % 128 = (b.val + 128 - 64 % 128) % 128; omega)).trans rfl
    unfold rot
    rw [shapeCast_self, shapeCast_self]
    show cb X (ix2 a b) * x3 (ix2 a b) + dynamicRotate 1 64#32 none (cb X) rotates_S256x128_d1 (ix2 a b) * x4 (ix2 a b) = _
    rw [e, h3, h4]
    show ((X a.val b : ℝ) : EReal) * _ + _ = _
    rw [← EReal.coe_mul, ← EReal.coe_mul, ← EReal.coe_add]
    refine congrArg (fun r : ℝ => (r : EReal)) ?_
    unfold turn
    have hb := b.isLt
    split
    · rename_i h
      have e1 : b.val % 64 = b.val := Nat.mod_eq_of_lt h
      have e2 : (⟨(b.val + 64) % 128, Nat.mod_lt _ (by norm_num)⟩ : Fin 128) = ⟨b.val + 64, by omega⟩ := Fin.ext (Nat.mod_eq_of_lt (by omega))
      rw [e1, e2]; ring
    · rename_i h
      have e1 : b.val % 64 = b.val - 64 := by omega
      have e2 : (⟨(b.val + 64) % 128, Nat.mod_lt _ (by norm_num)⟩ : Fin 128) = ⟨b.val - 64, by omega⟩ := Fin.ext (by show (b.val + 64) % 128 = b.val - 64; omega)
      rw [e1, e2]; ring
  funext y
  rw [eq_ix2 y]
  exact key (y 0) (y 1)

/-- A head's normed and gated block, at an entry. -/
theorem out_apply (O X : ℕ → Fin 128 → ℝ) (w : FVec Ideal S1x128 .f32) (a : Fin 256) (b : Fin 128) :
    out (cb O) w (cb X) (ix2 a b) = hd (O a.val) (fun e => w (ix2 0 e)) (X a.val b * sgr (X a.val b)) b := by
  unfold out k0_pay33
  simp only [shapeCast_self]
  have e := rms_block 0x43000000#32 0x358637BD#32 (cb O) w 0x00000000#32 reduces_S256x128_S256 (.inl rfl) rfl shapeCasts_S256_S256x1 broadcasts_S256x1_S256x128 broadcasts_S1x128_S256x128 a b
  have s : sg (cb X) (ix2 a b) = ((sgr (X a.val b) : ℝ) : EReal) := congrFun (sg_cb X) _
  unfold hd
  refine (congrArg (fun p : EReal => p * (cb X (ix2 a b) * sg (cb X) (ix2 a b))) e).trans ?_
  rw [s]
  exact congrArg (fun p : EReal => rms 0x43000000#32 0x358637BD#32 (fun k => cb O (ix2 a k)) (fun k => w (ix2 0 k)) b * p) (EReal.coe_mul _ _).symm

/-! ### The gates' lower bounds -/

/-- The index a reduction over the first axis reads. -/
theorem lift_two (h : S2x512.Reduces [0] S512) (k : Fin 2) (i : Fin 512) : h.lift (ix1 i) k = ix2 k i := by
  funext b; match b with
  | ⟨0, _⟩ => rfl
  | ⟨1, _⟩ => rfl

/-- A block's sum along its two rows. -/
theorem colSum (E : FVec Ideal S2x512 .f32) (a : BitVec 32) (h : S2x512.Reduces [0] S512) (hφ : FKind.Formats .f32) (ha : a = FKind.add.neutral .f32 hφ) (i : Fin 512) :
    multiReduction .add [0] S512 E a h hφ ha (ix1 i) = E (ix2 0 i) + E (ix2 1 i) := by
  rw [Ideal.multiReduction_add_single]
  refine (Fin.sum_univ_two (fun k : Fin 2 => E (h.lift (ix1 i) k))).trans ?_
  rw [lift_two, lift_two]

/-- The greatest of two numbers, folded from the least. -/
theorem fold_two (z : EReal) (hz : z = ⊥) (f : Fin 2 → EReal) : (Finset.univ : Finset (Fin 2)).fold max z f = max (f 0) (f 1) := by
  have hu : (Finset.univ : Finset (Fin 2)) = insert 0 {1} := by decide
  rw [hu, Finset.fold_insert (by decide), Finset.fold_singleton, hz, max_bot_right]

/-- The accumulator of a maximum. -/
theorem bot_val : Ideal.ofBits .f32 0xFF800000#32 = (⊥ : EReal) := by simp [Ideal.ofBits, Ideal.ieee]

/-- A block's maximum along its two rows. -/
theorem colMax (E : FVec Ideal S2x512 .f32) (h : S2x512.Reduces [0] S512) (hφ : FKind.Formats .f32) (ha : 0xFF800000#32 = FKind.maximumf.neutral .f32 hφ) (i : Fin 512) :
    multiReduction .maximumf [0] S512 E 0xFF800000#32 h hφ ha (ix1 i) = max (E (ix2 0 i)) (E (ix2 1 i)) := by
  rw [Ideal.multiReduction_maximumf_single]
  refine (fold_two _ bot_val (fun k : Fin 2 => E (h.lift (ix1 i) k))).trans ?_
  rw [lift_two, lift_two]

/-- The lower bounds of the gates are the real softmax's. -/
theorem lbs_val (I : Inp) (hI : I.Fine) (x7 : FVec Ideal S2x512 .f32) (h7 : ∀ k i, x7 (ix2 k i) = I.lb (ix2 k i)) (i : Fin 512) :
    lbs x7 (ix2 0 i) = ((lbr I i : ℝ) : EReal) := by
  have hx (k : Fin 2) : x7 (ix2 k i) = ((lg I k i : ℝ) : EReal) := (h7 k i).trans (lg_eq I hI k i)
  have hm (hφ : FKind.Formats .f32) (ha : 0xFF800000#32 = FKind.maximumf.neutral .f32 hφ) : multiReduction .maximumf [0] S512 x7 0xFF800000#32 reduces_S2x512_S512 hφ ha (ix1 i) = ((max (lg I 0 i) (lg I 1 i) : ℝ) : EReal) := by
    rw [colMax, hx 0, hx 1]
    exact (EReal.coe_strictMono.monotone.map_max).symm
  have hcast (x : FVec Ideal S512 .f32) : shapeCast S1x512 x shapeCasts_S512_S1x512 (ix2 0 i) = x (ix1 i) :=
    shapeCast_apply (s := S512) x _ _ _ (by rw [Shape.rowMajor_val_two, Shape.rowMajor_val_one]; show i.val = 0 * 512 + i.val; omega)
  have hbr (x : FVec Ideal S1x512 .f32) (k : Fin 2) : broadcastTo S2x512 x broadcasts_S1x512_S2x512 (ix2 k i) = x (ix2 0 i) :=
    broadcastTo_apply (s := S1x512) (t := S2x512) x _ _ _ (fun a => match a with
      | ⟨0, _⟩ => rfl
      | ⟨1, _⟩ => rfl)
  have hex (hφ : FKind.Formats .f32) (ha : 0xFF800000#32 = FKind.maximumf.neutral .f32 hφ) (k : Fin 2) : exp (subf x7 (broadcastTo S2x512 (shapeCast S1x512 (multiReduction .maximumf [0] S512 x7 0xFF800000#32 reduces_S2x512_S512 hφ ha) shapeCasts_S512_S1x512) broadcasts_S1x512_S2x512)) (ix2 k i)
      = ((Real.exp (lg I k i - max (lg I 0 i) (lg I 1 i)) : ℝ) : EReal) := by
    show Ideal.exp (x7 (ix2 k i) - broadcastTo S2x512 _ broadcasts_S1x512_S2x512 (ix2 k i)) = _
    rw [hbr, hcast, hm, hx, ← EReal.coe_sub, Ideal.exp_coe]
  have hpos : Real.exp (lg I 0 i - max (lg I 0 i) (lg I 1 i)) + Real.exp (lg I 1 i - max (lg I 0 i) (lg I 1 i)) ≠ 0 := by positivity
  have fin (hφ : FKind.Formats .f32) (ha : 0x00000000#32 = FKind.add.neutral .f32 hφ) (E : FVec Ideal S2x512 .f32) (hE : ∀ k : Fin 2, E (ix2 k i) = ((Real.exp (lg I k i - max (lg I 0 i) (lg I 1 i)) : ℝ) : EReal)) :
      divf (extractStridedSlice S1x512 ![0, 0] E slices_S2x512_o0_0_S1x512) (shapeCast S1x512 (multiReduction .add [0] S512 E 0x00000000#32 reduces_S2x512_S512 hφ ha) shapeCasts_S512_S1x512) (ix2 0 i)
        = ((lbr I i : ℝ) : EReal) := by
    have A : extractStridedSlice S1x512 ![0, 0] E slices_S2x512_o0_0_S1x512 (ix2 0 i) = E (ix2 0 i) :=
      extractStridedSlice_apply (s := S2x512) (t := S1x512) ![0, 0] E _ (ix2 0 i) (ix2 0 i) (fun a => match a with
        | ⟨0, _⟩ => rfl
        | ⟨1, _⟩ => by show i.val = 0 + i.val; omega)
    have B : shapeCast S1x512 (multiReduction .add [0] S512 E 0x00000000#32 reduces_S2x512_S512 hφ ha) shapeCasts_S512_S1x512 (ix2 0 i)
        = ((Real.exp (lg I 0 i - max (lg I 0 i) (lg I 1 i)) + Real.exp (lg I 1 i - max (lg I 0 i) (lg I 1 i)) : ℝ) : EReal) := by
      rw [hcast, colSum, hE 0, hE 1, EReal.coe_add]
    refine (congr (congrArg Ideal.div A) B).trans ?_
    rw [hE 0, Ideal.div_coe hpos, ← EReal.coe_mul]
    rfl
  exact fin _ _ _ (hex _ _)

/-- Each gated head's lower bounds. -/
theorem lbh_val (I : Inp) (hI : I.Fine) (x7 : FVec Ideal S2x512 .f32) (h7 : ∀ k i, x7 (ix2 k i) = I.lb (ix2 k i)) (h : Fin 4) (d : Fin 128) :
    lbh x7 h (ix2 0 d) = ((lbr I (lane h d) : ℝ) : EReal) := by
  refine Eq.trans ?_ (lbs_val I hI x7 h7 (lane h d))
  fin_cases h
  · exact extractStridedSlice_apply (s := S1x512) (t := S1x128) ![0, 0] (lbs x7) slices_S1x512_o0_0_S1x128 (ix2 0 d) _ (fun a => match a with
      | ⟨0, _⟩ => rfl
      | ⟨1, _⟩ => by show 128 * 0 + d.val = 0 + d.val; omega)
  · exact extractStridedSlice_apply (s := S1x512) (t := S1x128) ![0, 128] (lbs x7) slices_S1x512_o0_128_S1x128 (ix2 0 d) _ (fun a => match a with
      | ⟨0, _⟩ => rfl
      | ⟨1, _⟩ => by show 128 * 1 + d.val = 128 + d.val; omega)
  · exact extractStridedSlice_apply (s := S1x512) (t := S1x128) ![0, 256] (lbs x7) slices_S1x512_o0_256_S1x128 (ix2 0 d) _ (fun a => match a with
      | ⟨0, _⟩ => rfl
      | ⟨1, _⟩ => by show 128 * 2 + d.val = 256 + d.val; omega)
  · exact extractStridedSlice_apply (s := S1x512) (t := S1x128) ![0, 384] (lbs x7) slices_S1x512_o0_384_S1x128 (ix2 0 d) _ (fun a => match a with
      | ⟨0, _⟩ => rfl
      | ⟨1, _⟩ => by show 128 * 3 + d.val = 384 + d.val; omega)

/-! ### A grid point -/

/-- Rows carried on from a state are rows after the state's. -/
theorem H_shift (K V G : ℕ → Fin 128 → ℝ) (S : Fin 128 → Fin 128 → ℝ) (m n : ℕ) :
    H (fun t => K (m + t)) (fun t => V (m + t)) (fun t => G (m + t)) (H K V G S m) n = H K V G S (m + n) := by
  induction n with
  | zero => rfl
  | succ n ih =>
    show (fun e d => Real.exp (G (m + n) d) * H (fun t => K (m + t)) (fun t => V (m + t)) (fun t => G (m + t)) (H K V G S m) n e d + V (m + n) e * K (m + n) d) = _
    rw [ih]
    rfl

/-- The blocks that sequence `b`'s `j`-th group of rows sees. -/
structure Sees (I : Inp) (b : Fin 8) (n : ℕ) (hn : n + 256 ≤ 2048) (x0 : FVec Ideal S1x256x1024 .f32) (x1 : FVec Ideal S1x1024 .f32) (x2 : FVec Ideal S1024x4096 .bf16)
    (x3 x4 : FVec Ideal S256x128 .f32) (x5 x6 : FVec Ideal S1x128 .f32) (x7 : FVec Ideal S2x512 .f32) (x8 : FVec Ideal S1024x1024 .bf16) : Prop where
  /-- Activations. -/
  h0 : ∀ (r : Fin 256) (k : Fin 1024), x0 (ix3 0 r k) = I.x (ix3 b ⟨n + r.val, by omega⟩ k)
  /-- Norm weights. -/
  h1 : ∀ k : Fin 1024, x1 (ix2 0 k) = I.nw (ix2 0 k)
  /-- Projection. -/
  h2 : ∀ (k : Fin 1024) (c : Fin 4096), x2 (ix2 k c) = I.wi (ix3 0 k c)
  /-- Cosines. -/
  h3 : ∀ (r : Fin 256) (d : Fin 128), x3 (ix2 r d) = ((Real.cos (ang (n + r.val) (d.val % 64)) : ℝ) : EReal)
  /-- Signed sines. -/
  h4 : ∀ (r : Fin 256) (d : Fin 128), x4 (ix2 r d) = (((if d.val < 64 then -Real.sin (ang (n + r.val) (d.val % 64)) else Real.sin (ang (n + r.val) (d.val % 64)) : ℝ)) : EReal)
  /-- Retention heads' norm weights. -/
  h5 : ∀ e : Fin 128, x5 (ix2 0 e) = I.rw (ix2 0 e)
  /-- Gated heads' norm weights. -/
  h6 : ∀ e : Fin 128, x6 (ix2 0 e) = I.hw (ix2 0 e)
  /-- Lower-bound logits. -/
  h7 : ∀ (k : Fin 2) (i : Fin 512), x7 (ix2 k i) = I.lb (ix2 k i)
  /-- Output projection. -/
  h8 : ∀ k c : Fin 1024, x8 (ix2 k c) = I.wo (ix3 0 k c)

section
variable (I : Inp) (hI : I.Fine) (b : Fin 8) (n : ℕ) (hn : n + 256 ≤ 2048) (x0 : FVec Ideal S1x256x1024 .f32) (x1 : FVec Ideal S1x1024 .f32) (x2 : FVec Ideal S1024x4096 .bf16)
    (x3 x4 : FVec Ideal S256x128 .f32) (x5 x6 : FVec Ideal S1x128 .f32) (x7 : FVec Ideal S2x512 .f32) (x8 : FVec Ideal S1024x1024 .bf16)
    (h : Sees I b n hn x0 x1 x2 x3 x4 x5 x6 x7 x8)
include hI h

/-- The projection's column groups. -/
theorem pcol_cb (j : Fin 32) : pcol x0 x1 x2 j = cb (fun t => pr I b j (n + t)) := by
  have key (r : Fin 256) (d : Fin 128) : pcol x0 x1 x2 j (ix2 r d) = ((pr I b j (n + r.val) d : ℝ) : EReal) := by
    refine Eq.trans ?_ (proj_eq I hI b ⟨n + r.val, by omega⟩ j d)
    show ∑ k : Fin 1024, normed x0 x1 r k * x2 (ix2 k ⟨128 * j.val + d.val, by omega⟩) = _
    unfold proj normed
    have e0 : (fun k : Fin 1024 => x0 (ix3 0 r k)) = fun k => I.x (ix3 b ⟨n + r.val, by omega⟩ k) := funext fun k => h.h0 r k
    have e1 : (fun k : Fin 1024 => x1 (ix2 0 k)) = fun k => I.nw (ix2 0 k) := funext h.h1
    rw [e0, e1]
    exact Finset.sum_congr rfl fun k _ => by rw [h.h2]
  funext y
  rw [eq_ix2 y]
  exact key (y 0) (y 1)

/-- The retention heads' next states. -/
theorem nR_eq (k : Fin 4) : nR x0 x1 x2 x3 x4 (fun k => cs (SR I b k n)) k = cs (SR I b k (n + 256)) := by
  have e := pcol_cb I hI b n hn x0 x1 x2 x3 x4 x5 x6 x7 x8 h
  unfold nR sR
  rw [e, e, rot_cb x3 x4 n h.h3 h.h4, rs_cb _ _ _ (lgs_val k) (gns_val k)]
  exact congrArg cs (H_shift (fun t d => kR I b k t d * sc) (vR I b k) (fun _ _ => Real.log (gam k)) (fun _ _ => 0) n 256)

/-- The forget gates' block. -/
theorem gate_cb (k : Fin 4) : hf (lbh x7 k) (pcol x0 x1 x2 (cix 20 (by norm_num) k)) = cb (fun t d => fG I b k (n + t) d) := by
  rw [pcol_cb I hI b n hn x0 x1 x2 x3 x4 x5 x6 x7 x8 h, hf_cb _ _ (lbh_val I hI x7 h.h7 k)]
  rfl

/-- The gated heads' next states. -/
theorem nG_eq (k : Fin 4) : nG x0 x1 x2 x7 (fun k => cs (SG I b k n)) k = cs (SG I b k (n + 256)) := by
  have e := pcol_cb I hI b n hn x0 x1 x2 x3 x4 x5 x6 x7 x8 h
  unfold nG sG
  have g := gate_cb I hI b n hn x0 x1 x2 x3 x4 x5 x6 x7 x8 h k
  show hs (hk (hf (lbh x7 k) (pcol x0 x1 x2 (cix 20 (by norm_num) k)))) (log (hf (lbh x7 k) (pcol x0 x1 x2 (cix 20 (by norm_num) k)))) (pcol x0 x1 x2 (cix 24 (by norm_num) k)) (cs (SG I b k n)) = _
  rw [g, e, hk_cb, log_cb _ (fun t d => fG_pos I b k (n + t) d), hs_cb]
  exact congrArg cs (H_shift (fun t d => 1 - fG I b k t d) (vG I b k) (fun t d => Real.log (fG I b k t d)) (fun _ _ => 0) n 256)

/-- The retention heads' rows. -/
theorem hR_eq (k : Fin 4) (r : Fin 256) (d : Fin 128) : hR x0 x1 x2 x3 x4 x5 (fun k => cs (SR I b k n)) k (ix2 r d) = hdR I b k (n + r.val) d := by
  have e := pcol_cb I hI b n hn x0 x1 x2 x3 x4 x5 x6 x7 x8 h
  unfold hR oR
  rw [e, e, e, e, rot_cb x3 x4 n h.h3 h.h4, rot_cb x3 x4 n h.h3 h.h4, ro_cb _ _ (lgs_val k), out_apply]
  unfold hdR
  have e5 : (fun e : Fin 128 => x5 (ix2 0 e)) = fun e => I.rw (ix2 0 e) := funext h.h5
  rw [e5]
  refine congrArg (fun f => hd f _ _ d) (funext fun e => Finset.sum_congr rfl fun d _ => ?_)
  refine congrArg (fun s : Fin 128 → Fin 128 → ℝ => qR I b k (n + r.val) d * s e d) ?_
  exact H_shift (fun t d => kR I b k t d * sc) (vR I b k) (fun _ _ => Real.log (gam k)) (fun _ _ => 0) n (r.val + 1)

/-- The gated heads' rows. -/
theorem hG_eq (k : Fin 4) (r : Fin 256) (d : Fin 128) : hG x0 x1 x2 x6 x7 (fun k => cs (SG I b k n)) k (ix2 r d) = hdG I b k (n + r.val) d := by
  have e := pcol_cb I hI b n hn x0 x1 x2 x3 x4 x5 x6 x7 x8 h
  have g := gate_cb I hI b n hn x0 x1 x2 x3 x4 x5 x6 x7 x8 h k
  unfold hG oG
  show out (ho (hq (pcol x0 x1 x2 (cix 16 (by norm_num) k))) (hk (hf (lbh x7 k) (pcol x0 x1 x2 (cix 20 (by norm_num) k)))) (log (hf (lbh x7 k) (pcol x0 x1 x2 (cix 20 (by norm_num) k)))) (pcol x0 x1 x2 (cix 24 (by norm_num) k)) (cs (SG I b k n))) x6 (pcol x0 x1 x2 (cix 28 (by norm_num) k)) (ix2 r d) = _
  rw [g, e, e, e, hq_cb, hk_cb, log_cb _ (fun t d => fG_pos I b k (n + t) d), ho_cb, out_apply]
  unfold hdG
  have e6 : (fun e : Fin 128 => x6 (ix2 0 e)) = fun e => I.hw (ix2 0 e) := funext h.h6
  rw [e6]
  refine congrArg (fun f => hd f _ _ d) (funext fun e => Finset.sum_congr rfl fun d _ => ?_)
  refine congrArg (fun s : Fin 128 → Fin 128 → ℝ => qG I b k (n + r.val) d * s e d) ?_
  exact H_shift (fun t d => 1 - fG I b k t d) (vG I b k) (fun t d => Real.log (fG I b k t d)) (fun _ _ => 0) n (r.val + 1)

/-- The block's rows. -/
theorem nY_eq (r : Fin 256) (c : Fin 1024) :
    nY x0 x1 x2 x3 x4 x5 x6 x7 x8 (fun k => cs (SR I b k n)) (fun k => cs (SG I b k n)) (ix3 0 r c) = yrow I b ⟨n + r.val, by omega⟩ c := by
  unfold nY k0_pay270
  rw [shapeCast_self]
  refine (shapeCast_apply (s := S256x1024) _ shapeCasts_S256x1024_S1x256x1024 (ix3 0 r c) (ix2 r c) (by
    rw [Shape.rowMajor_val_two, Shape.rowMajor_val_three]; show r.val * 1024 + c.val = (0 * 256 + r.val) * 1024 + c.val; omega)).trans ?_
  show shapeCast S256x1024 x0 shapeCasts_S1x256x1024_S256x1024 (ix2 r c) + matmul dot_S256x1024_S1024x1024_S256x1024_1_0_0_1_n_n none _ x8 (constant S256x1024 .f32 0x00000000#32) (ix2 r c) = _
  rw [shapeCast_apply (s := S1x256x1024) x0 _ (ix2 r c) (ix3 0 r c) (by
    rw [Shape.rowMajor_val_two, Shape.rowMajor_val_three]; show (0 * 256 + r.val) * 1024 + c.val = r.val * 1024 + c.val; omega), h.h0]
  unfold yrow
  refine congrArg (I.x (ix3 b ⟨n + r.val, by omega⟩ c) + ·) ?_
  refine (dot_apply (M := 256) (K := 1024) (N := 1024) none _ x8 r c).trans ?_
  refine Finset.sum_congr rfl fun k _ => ?_
  rw [h.h8]
  refine congrArg (· * I.wo (ix3 0 k c)) ?_
  unfold hdA
  have hk := k.isLt
  show h8 x0 x1 x2 x3 x4 x5 x6 x7 (fun k => cs (SR I b k n)) (fun k => cs (SG I b k n)) ⟨k.val / 128, _⟩ (ix2 r ⟨k.val % 128, _⟩) = _
  unfold h8
  by_cases hc : k.val < 512
  · have hc' : k.val / 128 < 4 := by omega
    rw [dif_pos hc, dif_pos hc']
    exact hR_eq I hI b n hn x0 x1 x2 x3 x4 x5 x6 x7 x8 h _ r _
  · have hc' : ¬ k.val / 128 < 4 := by omega
    rw [dif_neg hc, dif_neg hc']
    exact hG_eq I hI b n hn x0 x1 x2 x3 x4 x5 x6 x7 x8 h _ r _
end

end Cert.Proof.Prompt

end
-- ==== Proof.PromptArray.lean ====
/-
  The blocks the mixing layer's call works on, entry by entry: what each window shows at a grid point is the layer's inputs and the
  rotary tables.
-/
module

public import proofs.«01_k».proof.Proof.PromptHeads
public import proofs.«01_k».proof.Proof.Gen.PromptIdeal.Value

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx Idealize.ShloMosaic.StableHlo
open scoped BigOperators

namespace Cert.Proof.PromptArray

open Cert.Proof.Base Cert.Proof.Prompt Cert.PromptIdeal Cert.PromptIdeal.Gen

/-- A whole number below 2048 read back from its word. -/
theorem word_val (n : ℕ) (hn : n < 2048) : (((BitVec.ofNat 32 n).toInt : ℝ) : EReal) = (((n : ℕ) : ℝ) : EReal) := by
  have e : (BitVec.ofNat 32 n).toNat = n := by rw [BitVec.toNat_ofNat]; exact Nat.mod_eq_of_lt (by omega)
  have h : (BitVec.ofNat 32 n).toInt = (n : ℤ) := by
    rw [BitVec.toInt_eq_toNat_of_lt (by rw [e]; omega), e]
  rw [h]; norm_num

/-- The table of rotary angles: positions times frequencies. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- An entry of the table of angles. -/
theorem angles_val (t : Fin 2048) (i : Fin 64) : angles (ix2 t i) = ((ang t.val i.val : ℝ) : EReal) := by
  have hp : Ideal.pow (Ideal.ofBits .f32 0x461C4000#32) (Ideal.div (-(((BitVec.ofNat 32 i.val).toInt : ℝ) : EReal)) (Ideal.ofBits .f32 0x42800000#32))
      = ((Real.rpow 10000 (-(i.val : ℝ) * (1 / 64)) : ℝ) : EReal) := by
    rw [word_val i.val (by omega), lit64_val, lit10000_val, Ideal.div_coe (by norm_num), ← EReal.coe_neg, ← EReal.coe_mul]
    rfl
  have hA : broadcastInDim S2048x64 ![0, 1] bcast_S2048x1_S2048x64_0_1 (broadcastInDim S2048x1 ![0] bcast_S2048_S2048x1_0 (sitofp (F := Ideal) .f32 (iotaInDim S2048 32 0))) (ix2 t i)
      = (((t.val : ℕ) : ℝ) : EReal) :=
    ((broadcastInDim_apply _ _ _ _ (ix2 t (0 : Fin 1)) (fun a => match a with
      | ⟨0, _⟩ => rfl
      | ⟨1, _⟩ => rfl)).trans (broadcastInDim_apply _ _ _ _ (ix1 t) (fun a => match a with
      | ⟨0, _⟩ => rfl))).trans (word_val t.val t.isLt)
  have hB : broadcastInDim S2048x64 ![0, 1] bcast_S1x64_S2048x64_0_1 (broadcastInDim S1x64 ![1] bcast_S64_S1x64_1
      (Host.powf (F := Ideal) (broadcastInDim S64 ![] bcast_S_S64 (constant S_ .f32 0x461C4000#32))
        (Host.divf (Host.negf (sitofp .f32 (iotaInDim S64 32 0))) (broadcastInDim S64 ![] bcast_S_S64 (constant S_ .f32 0x42800000#32))))) (ix2 t i)
      = ((Real.rpow 10000 (-(i.val : ℝ) * (1 / 64)) : ℝ) : EReal) :=
    ((broadcastInDim_apply _ _ _ _ (ix2 (0 : Fin 1) i) (fun a => match a with
      | ⟨0, _⟩ => rfl
      | ⟨1, _⟩ => rfl)).trans (broadcastInDim_apply _ _ _ _ (ix1 i) (fun a => match a with
      | ⟨0, _⟩ => rfl))).trans hp
  unfold ang
  rw [EReal.coe_mul]
  exact congr (congrArg (fun a b : EReal => a * b) hA) hB

/-- Two tables of 64 columns side by side. -/
theorem beside (X Y : FVec Ideal S2048x64 .f32) (t : Fin 2048) (d : Fin 128) :
    concatenate S2048x128 1 [⟨S2048x64, X⟩, ⟨S2048x64, Y⟩] concatenates_S2048x64_S2048x64_S2048x128_d1 (ix2 t d)
      = if d.val < 64 then X (ix2 t ⟨d.val % 64, Nat.mod_lt _ (by decide)⟩) else Y (ix2 t ⟨d.val % 64, Nat.mod_lt _ (by decide)⟩) := by
  by_cases h : d.val < 64
  · refine Eq.trans ?_ (if_pos h).symm
    refine concatenate_pair_apply_left (t := S2048x128) (s₁ := S2048x64) (s₂ := S2048x64) 1 _ _ _ _ rfl (ix2 t ⟨d.val % 64, Nat.mod_lt _ (by decide)⟩) (fun a => match a with
      | ⟨0, _⟩ => rfl
      | ⟨1, _⟩ => (Nat.mod_eq_of_lt h))
  · refine Eq.trans ?_ (if_neg h).symm
    refine concatenate_pair_apply_right (t := S2048x128) (s₁ := S2048x64) (s₂ := S2048x64) 1 _ _ _ _ rfl rfl (ix2 t ⟨d.val % 64, Nat.mod_lt _ (by decide)⟩) (fun a => match a with
      | ⟨0, _⟩ => fun _ => rfl
      | ⟨1, _⟩ => fun ha => absurd rfl ha) (by
        show d.val % 64 + 64 = d.val
        have := d.isLt
        omega)

variable (m : (ℓ : Loc nD τ sig) → Buf (Elt Ideal) ℓ) (c : Dev nD)

/-- The layer's inputs as the memory holds them. -/
def inp : Inp where
  x := m ((c.tc : Thread nD τ).loc main_arg0)
  nw := m ((c.tc : Thread nD τ).loc main_arg1)
  wi := m ((c.tc : Thread nD τ).loc main_arg2)
  rw := m ((c.tc : Thread nD τ).loc main_arg3)
  hw := m ((c.tc : Thread nD τ).loc main_arg4)
  lb := m ((c.tc : Thread nD τ).loc main_arg5)
  wo := m ((c.tc : Thread nD τ).loc main_arg6)

/-- The norm's weights as the call finds them. -/
theorem arr_nw (k : Fin 1024) : V m c main_v1 (ix2 0 k) = (inp m c).nw (ix2 0 k) := by
  have e : V m c main_v1 = shapeCast S1x1024 (shapeCast S1024 (m ((c.tc : Thread nD τ).loc main_arg1)) shapeCasts_S1x1024_S1024) shapeCasts_S1024_S1x1024 := by
    unfold V; after_results_simp <;> rfl
  rw [e]
  refine (shapeCast_apply _ _ _ (ix1 k) ?_).trans (shapeCast_apply _ _ _ (ix2 0 k) ?_)
  · rw [Shape.rowMajor_val_two, Shape.rowMajor_val_one]; show k.val = 0 * 1024 + k.val; omega
  · rw [Shape.rowMajor_val_two, Shape.rowMajor_val_one]; show 0 * 1024 + k.val = k.val; omega

/-- The projection in as the call finds it. -/
theorem arr_wi (k : Fin 1024) (n : Fin 4096) : V m c main_v3 (ix2 k n) = (inp m c).wi (ix3 0 k n) := by
  have e : V m c main_v3 = truncf (F := Ideal) .bf16 (shapeCast S1024x4096 (m ((c.tc : Thread nD τ).loc main_arg2)) shapeCasts_S1x1024x4096_S1024x4096) bitsLt_bf16_f32 := by
    unfold V; after_results_simp <;> rfl
  rw [e]
  refine shapeCast_apply (s := S1x1024x4096) _ _ _ (ix3 0 k n) ?_
  rw [Shape.rowMajor_val_three, Shape.rowMajor_val_two]
  show (0 * 1024 + k.val) * 4096 + n.val = k.val * 4096 + n.val
  omega

/-- The projection out as the call finds it. -/
theorem arr_wo (k n : Fin 1024) : V m c main_v5 (ix2 k n) = (inp m c).wo (ix3 0 k n) := by
  have e : V m c main_v5 = truncf (F := Ideal) .bf16 (shapeCast S1024x1024 (m ((c.tc : Thread nD τ).loc main_arg6)) shapeCasts_S1x1024x1024_S1024x1024) bitsLt_bf16_f32 := by
    unfold V; after_results_simp <;> rfl
  rw [e]
  refine shapeCast_apply (s := S1x1024x1024) _ _ _ (ix3 0 k n) ?_
  rw [Shape.rowMajor_val_three, Shape.rowMajor_val_two]
  show (0 * 1024 + k.val) * 1024 + n.val = k.val * 1024 + n.val
  omega

/-- The retention heads' norm weights as the call finds them. -/
theorem arr_rw (k : Fin 128) : V m c main_v7 (ix2 0 k) = (inp m c).rw (ix2 0 k) := by
  have e : V m c main_v7 = shapeCast S1x128 (shapeCast S128 (m ((c.tc : Thread nD τ).loc main_arg3)) shapeCasts_S1x128_S128) shapeCasts_S128_S1x128 := by
    unfold V; after_results_simp <;> rfl
  rw [e]
  refine (shapeCast_apply _ _ _ (ix1 k) ?_).trans (shapeCast_apply _ _ _ (ix2 0 k) ?_)
  · rw [Shape.rowMajor_val_two, Shape.rowMajor_val_one]; show k.val = 0 * 128 + k.val; omega
  · rw [Shape.rowMajor_val_two, Shape.rowMajor_val_one]; show 0 * 128 + k.val = k.val; omega

/-- The gated heads' norm weights as the call finds them. -/
theorem arr_hw (k : Fin 128) : V m c main_v9 (ix2 0 k) = (inp m c).hw (ix2 0 k) := by
  have e : V m c main_v9 = shapeCast S1x128 (shapeCast S128 (m ((c.tc : Thread nD τ).loc main_arg4)) shapeCasts_S1x128_S128) shapeCasts_S128_S1x128 := by
    unfold V; after_results_simp <;> rfl
  rw [e]
  refine (shapeCast_apply _ _ _ (ix1 k) ?_).trans (shapeCast_apply _ _ _ (ix2 0 k) ?_)
  · rw [Shape.rowMajor_val_two, Shape.rowMajor_val_one]; show k.val = 0 * 128 + k.val; omega
  · rw [Shape.rowMajor_val_two, Shape.rowMajor_val_one]; show 0 * 128 + k.val = k.val; omega

/-- The table of cosines as the call finds it. -/
theorem arr_cos (t : Fin 2048) (d : Fin 128) : V m c main_v25 (ix2 t d) = ((Real.cos (ang t.val (d.val % 64)) : ℝ) : EReal) := by
  have e : V m c main_v25 = concatenate S2048x128 1 [⟨S2048x64, Host.cos (F := Ideal) angles⟩, ⟨S2048x64, Host.cos (F := Ideal) angles⟩] concatenates_S2048x64_S2048x64_S2048x128_d1 := by
    unfold V; after_results_simp <;> rfl
  have hc (i : Fin 64) : Host.cos (F := Ideal) angles (ix2 t i) = ((Real.cos (ang t.val i.val) : ℝ) : EReal) :=
    congrArg Ideal.cos (angles_val t i)
  rw [e]
  refine (beside _ _ t d).trans ?_
  rw [hc, ite_self]

/-- The table of signed sines as the call finds it. -/
theorem arr_sin (t : Fin 2048) (d : Fin 128) : V m c main_v27 (ix2 t d)
    = ((if d.val < 64 then -Real.sin (ang t.val (d.val % 64)) else Real.sin (ang t.val (d.val % 64)) : ℝ) : EReal) := by
  have e : V m c main_v27 = concatenate S2048x128 1 [⟨S2048x64, Host.negf (Host.sin (F := Ideal) angles)⟩, ⟨S2048x64, Host.sin (F := Ideal) angles⟩] concatenates_S2048x64_S2048x64_S2048x128_d1 := by
    unfold V; after_results_simp <;> rfl
  have hs (i : Fin 64) : Host.sin (F := Ideal) angles (ix2 t i) = ((Real.sin (ang t.val i.val) : ℝ) : EReal) :=
    congrArg Ideal.sin (angles_val t i)
  have hn (i : Fin 64) : Host.negf (Host.sin (F := Ideal) angles) (ix2 t i) = ((-Real.sin (ang t.val i.val) : ℝ) : EReal) :=
    (congrArg (fun a : EReal => -a) (hs i)).trans (EReal.coe_neg _).symm
  rw [e]
  refine (beside _ _ t d).trans ?_
  rw [hn, hs]
  split <;> rfl

/-- Which block each window shows at a point: the activations' by sequence and row group, the tables' by row group, the weights' only one. -/
theorem index_facts : ∀ t : Fin cfg0.N, win0_0.index t = ![t.val / 8, t.val % 8, 0]
    ∧ win0_1.index t = ![0, 0]
    ∧ win0_2.index t = ![0, 0]
    ∧ win0_3.index t = ![t.val % 8, 0]
    ∧ win0_4.index t = ![t.val % 8, 0]
    ∧ win0_5.index t = ![0, 0]
    ∧ win0_6.index t = ![0, 0]
    ∧ win0_7.index t = ![0, 0]
    ∧ win0_8.index t = ![0, 0] :=
  (by decide +kernel : ∀ t : Fin grid0.N, win0_0.index t = ![t.val / 8, t.val % 8, 0]
    ∧ win0_1.index t = ![0, 0]
    ∧ win0_2.index t = ![0, 0]
    ∧ win0_3.index t = ![t.val % 8, 0]
    ∧ win0_4.index t = ![t.val % 8, 0]
    ∧ win0_5.index t = ![0, 0]
    ∧ win0_6.index t = ![0, 0]
    ∧ win0_7.index t = ![0, 0]
    ∧ win0_8.index t = ![0, 0])

/-- The activations' block at a point. -/
theorem block0 (t : Fin cfg0.N) (ht : t.val < 64) (r : Fin 256) (k : Fin 1024) : iblk m c 0 t (ix3 0 r k) = V m c main_arg0 (ix3 (⟨t.val / 8, by omega⟩ : Fin 8) (⟨256 * (t.val % 8) + r.val, by omega⟩ : Fin 2048) k) := by
  refine congrArg (V m c main_arg0) (funext fun a => Fin.ext ?_)
  refine (Pipeline.Window.rect_emb_val (cfg0.win 0) t _ a).trans ?_
  have e : win0_0.index t = ![t.val / 8, t.val % 8, 0] := (index_facts t).1
  show win0_0.index t a * _ + _ = _
  rw [e]
  match a with
  | ⟨0, _⟩ => show t.val / 8 * 1 + 0 = t.val / 8; omega
  | ⟨1, _⟩ => show t.val % 8 * 256 + r.val = 256 * (t.val % 8) + r.val; omega
  | ⟨2, _⟩ => show 0 * 1024 + k.val = k.val; omega

/-- The norm's weights at a point. -/
theorem block1 (t : Fin cfg0.N) (i : Fin 1) (j : Fin 1024) : iblk m c 1 t (ix2 i j) = V m c main_v1 (ix2 i j) := by
  refine congrArg (V m c main_v1) (funext fun a => Fin.ext ?_)
  refine (Pipeline.Window.rect_emb_val (cfg0.win 1) t _ a).trans ?_
  have e : win0_1.index t = ![0, 0] := (index_facts t).2.1
  show win0_1.index t a * _ + _ = _
  rw [e]
  match a with
  | ⟨0, _⟩ => show 0 * 1 + i.val = i.val; omega
  | ⟨1, _⟩ => show 0 * 1024 + j.val = j.val; omega

/-- The projection in at a point. -/
theorem block2 (t : Fin cfg0.N) (i : Fin 1024) (j : Fin 4096) : iblk m c 2 t (ix2 i j) = V m c main_v3 (ix2 i j) := by
  refine congrArg (V m c main_v3) (funext fun a => Fin.ext ?_)
  refine (Pipeline.Window.rect_emb_val (cfg0.win 2) t _ a).trans ?_
  have e : win0_2.index t = ![0, 0] := (index_facts t).2.2.1
  show win0_2.index t a * _ + _ = _
  rw [e]
  match a with
  | ⟨0, _⟩ => show 0 * 1024 + i.val = i.val; omega
  | ⟨1, _⟩ => show 0 * 4096 + j.val = j.val; omega

/-- The cosines at a point. -/
theorem block3 (t : Fin cfg0.N) (r : Fin 256) (d : Fin 128) (n : ℕ) (hn : n = 256 * (t.val % 8) + r.val) (hn' : n < 2048) : iblk m c 3 t (ix2 r d) = V m c main_v25 (ix2 (⟨n, hn'⟩ : Fin 2048) d) := by
  refine congrArg (V m c main_v25) (funext fun a => Fin.ext ?_)
  refine (Pipeline.Window.rect_emb_val (cfg0.win 3) t _ a).trans ?_
  have e : win0_3.index t = ![t.val % 8, 0] := (index_facts t).2.2.2.1
  show win0_3.index t a * _ + _ = _
  rw [e]
  match a with
  | ⟨0, _⟩ => show t.val % 8 * 256 + r.val = n; omega
  | ⟨1, _⟩ => show 0 * 128 + d.val = d.val; omega

/-- The signed sines at a point. -/
theorem block4 (t : Fin cfg0.N) (r : Fin 256) (d : Fin 128) (n : ℕ) (hn : n = 256 * (t.val % 8) + r.val) (hn' : n < 2048) : iblk m c 4 t (ix2 r d) = V m c main_v27 (ix2 (⟨n, hn'⟩ : Fin 2048) d) := by
  refine congrArg (V m c main_v27) (funext fun a => Fin.ext ?_)
  refine (Pipeline.Window.rect_emb_val (cfg0.win 4) t _ a).trans ?_
  have e : win0_4.index t = ![t.val % 8, 0] := (index_facts t).2.2.2.2.1
  show win0_4.index t a * _ + _ = _
  rw [e]
  match a with
  | ⟨0, _⟩ => show t.val % 8 * 256 + r.val = n; omega
  | ⟨1, _⟩ => show 0 * 128 + d.val = d.val; omega

/-- The retention heads' norm weights at a point. -/
theorem block5 (t : Fin cfg0.N) (i : Fin 1) (j : Fin 128) : iblk m c 5 t (ix2 i j) = V m c main_v7 (ix2 i j) := by
  refine congrArg (V m c main_v7) (funext fun a => Fin.ext ?_)
  refine (Pipeline.Window.rect_emb_val (cfg0.win 5) t _ a).trans ?_
  have e : win0_5.index t = ![0, 0] := (index_facts t).2.2.2.2.2.1
  show win0_5.index t a * _ + _ = _
  rw [e]
  match a with
  | ⟨0, _⟩ => show 0 * 1 + i.val = i.val; omega
  | ⟨1, _⟩ => show 0 * 128 + j.val = j.val; omega

/-- The gated heads' norm weights at a point. -/
theorem block6 (t : Fin cfg0.N) (i : Fin 1) (j : Fin 128) : iblk m c 6 t (ix2 i j) = V m c main_v9 (ix2 i j) := by
  refine congrArg (V m c main_v9) (funext fun a => Fin.ext ?_)
  refine (Pipeline.Window.rect_emb_val (cfg0.win 6) t _ a).trans ?_
  have e : win0_6.index t = ![0, 0] := (index_facts t).2.2.2.2.2.2.1
  show win0_6.index t a * _ + _ = _
  rw [e]
  match a with
  | ⟨0, _⟩ => show 0 * 1 + i.val = i.val; omega
  | ⟨1, _⟩ => show 0 * 128 + j.val = j.val; omega

/-- The lower-bound logits at a point. -/
theorem block7 (t : Fin cfg0.N) (i : Fin 2) (j : Fin 512) : iblk m c 7 t (ix2 i j) = V m c main_arg5 (ix2 i j) := by
  refine congrArg (V m c main_arg5) (funext fun a => Fin.ext ?_)
  refine (Pipeline.Window.rect_emb_val (cfg0.win 7) t _ a).trans ?_
  have e : win0_7.index t = ![0, 0] := (index_facts t).2.2.2.2.2.2.2.1
  show win0_7.index t a * _ + _ = _
  rw [e]
  match a with
  | ⟨0, _⟩ => show 0 * 2 + i.val = i.val; omega
  | ⟨1, _⟩ => show 0 * 512 + j.val = j.val; omega

/-- The projection out at a point. -/
theorem block8 (t : Fin cfg0.N) (i : Fin 1024) (j : Fin 1024) : iblk m c 8 t (ix2 i j) = V m c main_v5 (ix2 i j) := by
  refine congrArg (V m c main_v5) (funext fun a => Fin.ext ?_)
  refine (Pipeline.Window.rect_emb_val (cfg0.win 8) t _ a).trans ?_
  have e : win0_8.index t = ![0, 0] := (index_facts t).2.2.2.2.2.2.2.2
  show win0_8.index t a * _ + _ = _
  rw [e]
  match a with
  | ⟨0, _⟩ => show 0 * 1024 + i.val = i.val; omega
  | ⟨1, _⟩ => show 0 * 1024 + j.val = j.val; omega

/-- A grid point's blocks show the layer's inputs from row `n` of its sequence on. -/
theorem sees (t : Fin cfg0.N) (b : Fin 8) (n : ℕ) (hb : t.val / 8 = b.val) (hn : n = 256 * (t.val % 8)) (hn' : n + 256 ≤ 2048) :
    Sees (inp m c) b n hn' (iblk m c 0 t) (iblk m c 1 t) (iblk m c 2 t) (iblk m c 3 t) (iblk m c 4 t) (iblk m c 5 t) (iblk m c 6 t) (iblk m c 7 t) (iblk m c 8 t) where
  h0 r k := by
    have ht : t.val < 64 := lt_of_lt_of_eq t.isLt (show cfg0.N = 64 from N_0)
    refine (block0 m c t ht r k).trans ?_
    rw [V_main_arg0]
    show (inp m c).x _ = (inp m c).x _
    have e0 : (⟨t.val / 8, by omega⟩ : Fin 8) = b := Fin.ext hb
    have e1 : (⟨256 * (t.val % 8) + r.val, by omega⟩ : Fin 2048) = ⟨n + r.val, by omega⟩ := Fin.ext (by show 256 * (t.val % 8) + r.val = n + r.val; omega)
    rw [e0, e1]
  h1 k := (block1 m c t 0 k).trans (arr_nw m c k)
  h2 k j := (block2 m c t k j).trans (arr_wi m c k j)
  h3 r d := (block3 m c t r d (n + r.val) (by omega) (by omega)).trans (arr_cos m c _ d)
  h4 r d := (block4 m c t r d (n + r.val) (by omega) (by omega)).trans (arr_sin m c _ d)
  h5 e := (block5 m c t 0 e).trans (arr_rw m c e)
  h6 e := (block6 m c t 0 e).trans (arr_hw m c e)
  h7 k i := (block7 m c t k i).trans (congrFun (V_main_arg5 m c) (ix2 k i))
  h8 k j := (block8 m c t k j).trans (arr_wo m c k j)

end Cert.Proof.PromptArray

end
-- ==== Proof.PromptKernel.lean ====
/-
  The arrays the mixing layer's call returns, entry by entry: the rows are the layer's rows, and the states are the recurrences' states
  after all rows.
-/
module

public import proofs.«01_k».proof.Proof.PromptArray

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx Idealize.ShloMosaic.StableHlo
open scoped BigOperators

namespace Cert.Proof.PromptKernel

open Cert.Proof.Base Cert.Proof.Prompt Cert.Proof.PromptArray Cert.PromptIdeal Cert.PromptIdeal.Gen Cert.PromptIdeal.Value

variable (m : (ℓ : Loc nD τ sig) → Buf (Elt Ideal) ℓ) (c : Dev nD)

/-- A head's state out of the carried array of states. -/
theorem slc_of_stk (f : Fin 4 → FVec Ideal S128x128 .f32) : slc (stk f) = f := by
  funext h y
  exact congrArg (f h) (eq_ix2 y).symm

/-- What the carried blocks hold after a grid point: the states after the point's rows, the rows themselves and, at the last point of a
    sequence, the states laid out. -/
structure After (I : Inp) (b : Fin 8) (n : ℕ) (hn : n + 256 ≤ 2048) (o : Vec Ideal S1x256x1024 .f32 × Vec Ideal S1x4x128x128 .f32 × Vec Ideal S1x4x128x128 .f32 × Vec Ideal S4x128x128 .f32 × Vec Ideal S4x128x128 .f32) : Prop where
  /-- The rows. -/
  rows : ∀ (r : Fin 256) (k : Fin 1024), o.1 (ix3 0 r k) = yrow I b ⟨n + r.val, by omega⟩ k
  /-- The retention heads' states. -/
  ret : o.2.2.2.1 = stk (fun k => cs (SR I b k (n + 256)))
  /-- The gated heads' states. -/
  gat : o.2.2.2.2 = stk (fun k => cs (SG I b k (n + 256)))
  /-- The retention heads' states laid out. -/
  retOut : n + 256 = 2048 → ∀ (h : Fin 4) (d e : Fin 128), o.2.1 (ix4 0 h d e) = ((SR I b h 2048 e d : ℝ) : EReal)
  /-- The gated heads' states laid out. -/
  gatOut : n + 256 = 2048 → ∀ (h : Fin 4) (d e : Fin 128), o.2.2.1 (ix4 0 h d e) = ((SG I b h 2048 e d : ℝ) : EReal)

/-- The retention states before the first row. -/
theorem zero_ret (I : Inp) (b : Fin 8) : (fun _ => zst : Fin 4 → FVec Ideal S128x128 .f32) = fun k => cs (SR I b k 0) := rfl

/-- The gated states before the first row. -/
theorem zero_gat (I : Inp) (b : Fin 8) : (fun _ => zst : Fin 4 → FVec Ideal S128x128 .f32) = fun k => cs (SG I b k 0) := rfl

/-- The rows at the first point of a sequence. -/
theorem at_out9_A (t : Fin cfg0.N) (h0 : t.val % 8 = 0) (h1 : ¬t.val % 8 = 7) : (outsAt0 m c t.val t.isLt).1 = nY (iblk m c 0 t) (iblk m c 1 t) (iblk m c 2 t) (iblk m c 3 t) (iblk m c 4 t) (iblk m c 5 t) (iblk m c 6 t) (iblk m c 7 t) (iblk m c 8 t) (fun _ => zst) (fun _ => zst) := by
  have e := congrArg (fun o => o.1) (outsAt0_A m c t h0 h1)
  dsimp only at e
  exact e.trans (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))

/-- The retention states at the first point of a sequence. -/
theorem at_sout2_A (t : Fin cfg0.N) (h0 : t.val % 8 = 0) (h1 : ¬t.val % 8 = 7) : (outsAt0 m c t.val t.isLt).2.2.2.1 = stk (nR (iblk m c 0 t) (iblk m c 1 t) (iblk m c 2 t) (iblk m c 3 t) (iblk m c 4 t) (fun _ => zst)) := by
  have e := congrArg (fun o => o.2.2.2.1) (outsAt0_A m c t h0 h1)
  dsimp only at e
  exact e.trans (sout2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))

/-- The gated states at the first point of a sequence. -/
theorem at_sout3_A (t : Fin cfg0.N) (h0 : t.val % 8 = 0) (h1 : ¬t.val % 8 = 7) : (outsAt0 m c t.val t.isLt).2.2.2.2 = stk (nG (iblk m c 0 t) (iblk m c 1 t) (iblk m c 2 t) (iblk m c 7 t) (fun _ => zst)) := by
  have e := congrArg (fun o => o.2.2.2.2) (outsAt0_A m c t h0 h1)
  dsimp only at e
  exact e.trans (sout3_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))

/-- The rows at a middle point of a sequence. -/
theorem at_out9_B (t : Fin cfg0.N) (h0 : ¬t.val % 8 = 0) (h1 : ¬t.val % 8 = 7) : (outsAt0 m c t.val t.isLt).1 = nY (iblk m c 0 t) (iblk m c 1 t) (iblk m c 2 t) (iblk m c 3 t) (iblk m c 4 t) (iblk m c 5 t) (iblk m c 6 t) (iblk m c 7 t) (iblk m c 8 t) (slc (outsAt0 m c (t.val - 1) (Nat.lt_of_le_of_lt (Nat.sub_le _ _) t.isLt)).2.2.2.1) (slc (outsAt0 m c (t.val - 1) (Nat.lt_of_le_of_lt (Nat.sub_le _ _) t.isLt)).2.2.2.2) := by
  have e := congrArg (fun o => o.1) (outsAt0_B m c t h0 h1)
  dsimp only at e
  exact e.trans (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The retention states at a middle point of a sequence. -/
theorem at_sout2_B (t : Fin cfg0.N) (h0 : ¬t.val % 8 = 0) (h1 : ¬t.val % 8 = 7) : (outsAt0 m c t.val t.isLt).2.2.2.1 = stk (nR (iblk m c 0 t) (iblk m c 1 t) (iblk m c 2 t) (iblk m c 3 t) (iblk m c 4 t) (slc (outsAt0 m c (t.val - 1) (Nat.lt_of_le_of_lt (Nat.sub_le _ _) t.isLt)).2.2.2.1)) := by
  have e := congrArg (fun o => o.2.2.2.1) (outsAt0_B m c t h0 h1)
  dsimp only at e
  exact e.trans (sout2_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The gated states at a middle point of a sequence. -/
theorem at_sout3_B (t : Fin cfg0.N) (h0 : ¬t.val % 8 = 0) (h1 : ¬t.val % 8 = 7) : (outsAt0 m c t.val t.isLt).2.2.2.2 = stk (nG (iblk m c 0 t) (iblk m c 1 t) (iblk m c 2 t) (iblk m c 7 t) (slc (outsAt0 m c (t.val - 1) (Nat.lt_of_le_of_lt (Nat.sub_le _ _) t.isLt)).2.2.2.2)) := by
  have e := congrArg (fun o => o.2.2.2.2) (outsAt0_B m c t h0 h1)
  dsimp only at e
  exact e.trans (sout3_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The rows at the last point of a sequence. -/
theorem at_out9_C (t : Fin cfg0.N) (h0 : ¬t.val % 8 = 0) (h1 : t.val % 8 = 7) : (outsAt0 m c t.val t.isLt).1 = nY (iblk m c 0 t) (iblk m c 1 t) (iblk m c 2 t) (iblk m c 3 t) (iblk m c 4 t) (iblk m c 5 t) (iblk m c 6 t) (iblk m c 7 t) (iblk m c 8 t) (slc (outsAt0 m c (t.val - 1) (Nat.lt_of_le_of_lt (Nat.sub_le _ _) t.isLt)).2.2.2.1) (slc (outsAt0 m c (t.val - 1) (Nat.lt_of_le_of_lt (Nat.sub_le _ _) t.isLt)).2.2.2.2) := by
  have e := congrArg (fun o => o.1) (outsAt0_C m c t h0 h1)
  dsimp only at e
  exact e.trans (out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The retention states at the last point of a sequence. -/
theorem at_sout2_C (t : Fin cfg0.N) (h0 : ¬t.val % 8 = 0) (h1 : t.val % 8 = 7) : (outsAt0 m c t.val t.isLt).2.2.2.1 = stk (nR (iblk m c 0 t) (iblk m c 1 t) (iblk m c 2 t) (iblk m c 3 t) (iblk m c 4 t) (slc (outsAt0 m c (t.val - 1) (Nat.lt_of_le_of_lt (Nat.sub_le _ _) t.isLt)).2.2.2.1)) := by
  have e := congrArg (fun o => o.2.2.2.1) (outsAt0_C m c t h0 h1)
  dsimp only at e
  exact e.trans (sout2_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The gated states at the last point of a sequence. -/
theorem at_sout3_C (t : Fin cfg0.N) (h0 : ¬t.val % 8 = 0) (h1 : t.val % 8 = 7) : (outsAt0 m c t.val t.isLt).2.2.2.2 = stk (nG (iblk m c 0 t) (iblk m c 1 t) (iblk m c 2 t) (iblk m c 7 t) (slc (outsAt0 m c (t.val - 1) (Nat.lt_of_le_of_lt (Nat.sub_le _ _) t.isLt)).2.2.2.2)) := by
  have e := congrArg (fun o => o.2.2.2.2) (outsAt0_C m c t h0 h1)
  dsimp only at e
  exact e.trans (sout3_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The retention states laid out at the last point of a sequence. -/
theorem at_out10_C (t : Fin cfg0.N) (h0 : ¬t.val % 8 = 0) (h1 : t.val % 8 = 7) : (outsAt0 m c t.val t.isLt).2.1 = fun y => (nR (iblk m c 0 t) (iblk m c 1 t) (iblk m c 2 t) (iblk m c 3 t) (iblk m c 4 t) (slc (outsAt0 m c (t.val - 1) (Nat.lt_of_le_of_lt (Nat.sub_le _ _) t.isLt)).2.2.2.1)) (y 1) (ix2 (y 3) (y 2)) := by
  have e := congrArg (fun o => o.2.1) (outsAt0_C m c t h0 h1)
  dsimp only at e
  exact e.trans (out10_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

/-- The gated states laid out at the last point of a sequence. -/
theorem at_out11_C (t : Fin cfg0.N) (h0 : ¬t.val % 8 = 0) (h1 : t.val % 8 = 7) : (outsAt0 m c t.val t.isLt).2.2.1 = fun y => (nG (iblk m c 0 t) (iblk m c 1 t) (iblk m c 2 t) (iblk m c 7 t) (slc (outsAt0 m c (t.val - 1) (Nat.lt_of_le_of_lt (Nat.sub_le _ _) t.isLt)).2.2.2.2)) (y 1) (ix2 (y 3) (y 2)) := by
  have e := congrArg (fun o => o.2.2.1) (outsAt0_C m c t h0 h1)
  dsimp only at e
  exact e.trans (out11_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2)

section
variable (hI : (inp m c).Fine) (t : Fin cfg0.N) (b : Fin 8) (hb : t.val / 8 = b.val)
include hI hb

/-- The first point of a sequence. -/
theorem after_first (h0 : t.val % 8 = 0) : After (inp m c) b 0 (by decide) (outsAt0 m c t.val t.isLt) := by
  have h1 : ¬ t.val % 8 = 7 := by omega
  have s := sees m c t b 0 hb (by omega) (by decide)
  have hR := nR_eq (inp m c) hI b 0 (by decide) _ _ _ _ _ _ _ _ _ s
  have hG := nG_eq (inp m c) hI b 0 (by decide) _ _ _ _ _ _ _ _ _ s
  have hY := nY_eq (inp m c) hI b 0 (by decide) _ _ _ _ _ _ _ _ _ s
  refine ⟨fun r k => ?_, ?_, ?_, fun h => absurd h (by decide), fun h => absurd h (by decide)⟩
  · refine (congrFun (at_out9_A m c t h0 h1) (ix3 0 r k)).trans ?_
    exact hY r k
  · refine (at_sout2_A m c t h0 h1).trans ?_
    exact congrArg stk (funext fun k => hR k)
  · refine (at_sout3_A m c t h0 h1).trans ?_
    exact congrArg stk (funext fun k => hG k)

/-- A later point of a sequence. -/
theorem after_next (h0 : ¬ t.val % 8 = 0) (n : ℕ) (hn : n + 256 ≤ 2048) (ht : n = 256 * (t.val % 8)) (hp : t.val - 1 < cfg0.N)
    (h2 : (outsAt0 m c (t.val - 1) hp).2.2.2.1 = stk (fun k => cs (SR (inp m c) b k n)))
    (h3 : (outsAt0 m c (t.val - 1) hp).2.2.2.2 = stk (fun k => cs (SG (inp m c) b k n))) :
    After (inp m c) b n hn (outsAt0 m c t.val t.isLt) := by
  have s := sees m c t b n hb ht hn
  have hR := nR_eq (inp m c) hI b n hn _ _ _ _ _ _ _ _ _ s
  have hG := nG_eq (inp m c) hI b n hn _ _ _ _ _ _ _ _ _ s
  have hY := nY_eq (inp m c) hI b n hn _ _ _ _ _ _ _ _ _ s
  by_cases h1 : t.val % 8 = 7
  · refine ⟨fun r k => ?_, ?_, ?_, fun he h d e => ?_, fun he h d e => ?_⟩
    · refine (congrFun (at_out9_C m c t h0 h1) (ix3 0 r k)).trans ?_
      rw [h2, h3, slc_of_stk, slc_of_stk]
      exact hY r k
    · refine (at_sout2_C m c t h0 h1).trans ?_
      rw [h2, slc_of_stk]
      exact congrArg stk (funext fun k => hR k)
    · refine (at_sout3_C m c t h0 h1).trans ?_
      rw [h3, slc_of_stk]
      exact congrArg stk (funext fun k => hG k)
    · refine (congrFun (at_out10_C m c t h0 h1) (ix4 0 h d e)).trans ?_
      rw [h2, slc_of_stk, ← he]
      exact congrFun (hR h) (ix2 e d)
    · refine (congrFun (at_out11_C m c t h0 h1) (ix4 0 h d e)).trans ?_
      rw [h3, slc_of_stk, ← he]
      exact congrFun (hG h) (ix2 e d)
  · refine ⟨fun r k => ?_, ?_, ?_, fun he => absurd he (by omega), fun he => absurd he (by omega)⟩
    · refine (congrFun (at_out9_B m c t h0 h1) (ix3 0 r k)).trans ?_
      rw [h2, h3, slc_of_stk, slc_of_stk]
      exact hY r k
    · refine (at_sout2_B m c t h0 h1).trans ?_
      rw [h2, slc_of_stk]
      exact congrArg stk (funext fun k => hR k)
    · refine (at_sout3_B m c t h0 h1).trans ?_
      rw [h3, slc_of_stk]
      exact congrArg stk (funext fun k => hG k)
end

/-- Every point of every sequence. -/
theorem after_all (hI : (inp m c).Fine) : ∀ (p : ℕ) (hp : p < cfg0.N) (b : Fin 8) (hb : p / 8 = b.val) (n : ℕ) (hn : n + 256 ≤ 2048) (ht : n = 256 * (p % 8)),
    After (inp m c) b n hn (outsAt0 m c p hp)
  | 0, hp, b, hb, n, hn, ht => by
    obtain rfl : n = 0 := by omega
    exact after_first m c hI ⟨0, hp⟩ b hb rfl
  | p + 1, hp, b, hb, n, hn, ht => by
    by_cases h0 : (p + 1) % 8 = 0
    · obtain rfl : n = 0 := by omega
      exact after_first m c hI ⟨p + 1, hp⟩ b hb h0
    · have ih := after_all hI p (by omega) b (by omega) (256 * (p % 8)) (by omega) rfl
      have e : 256 * (p % 8) + 256 = n := by omega
      have h2 := ih.ret
      have h3 := ih.gat
      rw [e] at h2 h3
      exact after_next m c hI ⟨p + 1, hp⟩ b hb h0 n hn ht (by show p + 1 - 1 < cfg0.N; omega) h2 h3

/-- The rows the call returns. -/
theorem rows_apply (hI : (inp m c).Fine) (b : Fin 8) (t : Fin 2048) (k : Fin 1024) :
    (dats m 0 c).arrAt 9 cfg0.N (ix3 b t k) = yrow (inp m c) b t k := by
  have hp : pt9Of (ix3 b t k) = 8 * b.val + t.val / 256 := by
    show 8 * (b.val / 1 - 0) + 1 * (t.val / 256 - 0) + 1 * (k.val / 1024 - 0) = _
    omega
  have hN : cfg0.N = 64 := N_0
  have hlt : pt9Of (ix3 b t k) < cfg0.N := by rw [hp, hN]; omega
  have hl : loc9Of (ix3 b t k) = (ix3 0 ⟨t.val % 256, Nat.mod_lt _ (by decide)⟩ k : S1x256x1024.Idx) := by
    funext a
    match a with
    | ⟨0, _⟩ => exact Fin.ext (by show b.val % 1 = 0; omega)
    | ⟨1, _⟩ => rfl
    | ⟨2, _⟩ => exact Fin.ext (by show k.val % 1024 = k.val; omega)
  refine (congrFun (final9 m c) (ix3 b t k)).trans ?_
  refine (dif_pos hlt).trans ?_
  rw [← outsAt0_sweep m c _ hlt, hl]
  have h := (after_all m c hI _ hlt b (by rw [hp]; omega) (256 * (t.val / 256)) (by omega) (by rw [hp]; omega)).rows ⟨t.val % 256, Nat.mod_lt _ (by decide)⟩ k
  refine h.trans ?_
  exact congrArg (fun u => yrow (inp m c) b u k) (Fin.ext (by show 256 * (t.val / 256) + t.val % 256 = t.val; omega))

/-- The retention states the call returns. -/
theorem ret_apply (hI : (inp m c).Fine) (b : Fin 8) (h : Fin 4) (d e : Fin 128) :
    (dats m 0 c).arrAt 10 cfg0.N (ix4 b h d e) = ((SR (inp m c) b h 2048 e d : ℝ) : EReal) := by
  have hp : pt10Of (ix4 b h d e) = 8 * b.val + 7 := by
    show 8 * (1 * (b.val / 1 - 0) + 1 * (h.val / 4 - 0) + 1 * (d.val / 128 - 0) + 1 * (e.val / 128 - 0)) + 7 = _
    omega
  have hN : cfg0.N = 64 := N_0
  have hlt : pt10Of (ix4 b h d e) < cfg0.N := by rw [hp, hN]; omega
  have hl : loc10Of (ix4 b h d e) = (ix4 0 h d e : S1x4x128x128.Idx) := by
    funext a
    match a with
    | ⟨0, _⟩ => exact Fin.ext (by show b.val % 1 = 0; omega)
    | ⟨1, _⟩ => exact Fin.ext (by show h.val % 4 = h.val; omega)
    | ⟨2, _⟩ => exact Fin.ext (by show d.val % 128 = d.val; omega)
    | ⟨3, _⟩ => exact Fin.ext (by show e.val % 128 = e.val; omega)
  refine (congrFun (final10 m c) (ix4 b h d e)).trans ?_
  refine (dif_pos hlt).trans ?_
  rw [← outsAt0_sweep m c _ hlt, hl]
  exact (after_all m c hI _ hlt b (by rw [hp]; omega) 1792 (by decide) (by rw [hp]; omega)).retOut rfl h d e

/-- The gated states the call returns. -/
theorem gat_apply (hI : (inp m c).Fine) (b : Fin 8) (h : Fin 4) (d e : Fin 128) :
    (dats m 0 c).arrAt 11 cfg0.N (ix4 b h d e) = ((SG (inp m c) b h 2048 e d : ℝ) : EReal) := by
  have hp : pt11Of (ix4 b h d e) = 8 * b.val + 7 := by
    show 8 * (1 * (b.val / 1 - 0) + 1 * (h.val / 4 - 0) + 1 * (d.val / 128 - 0) + 1 * (e.val / 128 - 0)) + 7 = _
    omega
  have hN : cfg0.N = 64 := N_0
  have hlt : pt11Of (ix4 b h d e) < cfg0.N := by rw [hp, hN]; omega
  have hl : loc11Of (ix4 b h d e) = (ix4 0 h d e : S1x4x128x128.Idx) := by
    funext a
    match a with
    | ⟨0, _⟩ => exact Fin.ext (by show b.val % 1 = 0; omega)
    | ⟨1, _⟩ => exact Fin.ext (by show h.val % 4 = h.val; omega)
    | ⟨2, _⟩ => exact Fin.ext (by show d.val % 128 = d.val; omega)
    | ⟨3, _⟩ => exact Fin.ext (by show e.val % 128 = e.val; omega)
  refine (congrFun (final11 m c) (ix4 b h d e)).trans ?_
  refine (dif_pos hlt).trans ?_
  rw [← outsAt0_sweep m c _ hlt, hl]
  exact (after_all m c hI _ hlt b (by rw [hp]; omega) 1792 (by decide) (by rw [hp]; omega)).gatOut rfl h d e

end Cert.Proof.PromptKernel

end
-- ==== Proof.PromptSteps.lean ====
/-
  The reference's scan run to its end: a memory that holds a state's values keeps holding them with one more trip applied, and the
  results are read off the state after the last trip.
-/
module

public import proofs.«01_k».proof.Proof.Gen.PromptRefIdeal.Run
public import proofs.«01_k».proof.Proof.Gen.PromptRefIdeal.Step

@[expose] public section

set_option maxRecDepth 65536

noncomputable section

namespace Cert.PromptRefIdeal.StepRun2

open Idealize.ShloMosaic Idealize.ShloMosaic.TcCoe Idealize.SL.Sem Idealize.ShloMosaic.StableHlo
open Cert.PromptRefIdeal Cert.PromptRefIdeal.Gen Cert.PromptRefIdeal.Value
open Cert.PromptRefIdeal.Step (State step init)

/-- What a buffer of the reference holds. -/
abbrev At (F : FTy → Type) (r : Ref sig .tc) := (Proc.devRef .tc r : DevRef τ sig).ty.Contents (Elt F)

variable {F : FTy → Type} [FloatOps F]

variable (V0 : Valuation τ sig (Elt F)) (s : State F) (j : ℕ)

/-- The valuation holds the state, the set-up values and the trip's number. -/
structure Holds : Prop where
  f_9 : V0 (Proc.devRef .tc main_v20_9) = s.main_v20_9
  f_10 : V0 (Proc.devRef .tc main_v20_10) = s.main_v20_10
  f_11 : V0 (Proc.devRef .tc main_v20_11) = s.main_v20_11
  f_0 : V0 (Proc.devRef .tc main_v20_0) = s.main_v20_0
  f_2 : V0 (Proc.devRef .tc main_v20_2) = s.main_v20_2
  f_3 : V0 (Proc.devRef .tc main_v20_3) = s.main_v20_3
  f_4 : V0 (Proc.devRef .tc main_v20_4) = s.main_v20_4
  f_5 : V0 (Proc.devRef .tc main_v20_5) = s.main_v20_5
  f_6 : V0 (Proc.devRef .tc main_v20_6) = s.main_v20_6
  f_7 : V0 (Proc.devRef .tc main_v20_7) = s.main_v20_7
  n_8 : V0 (Proc.devRef .tc main_v20_8) = constantI S_ 32 (BitVec.ofNat 32 j)
  k_1 : V0 (Proc.devRef .tc main_v20_1) = Step.K_main_v17 (F := F)

variable {V0 s j}

theorem al_0 (h : Holds V0 s j) : (constantI S_ 32 0#32 : At F main_while0b_call1_c) = Step.b0 j s := by
  unfold Step.b0
  rfl
theorem al_1 (h : Holds V0 s j) : (constantI S_ 32 0#32 : At F main_while0b_call1_c_0) = Step.b1 j s := by
  unfold Step.b1
  rfl
theorem al_2 (h : Holds V0 s j) : (Host.dynamicSlice S1x8x1024 (V0 (Proc.devRef .tc main_v20_0)) (fun k => (((![V0 (Proc.devRef .tc main_v20_8), constantI S_ 32 0#32, constantI S_ 32 0#32] : Fin 3 → (⟨S_, .i32⟩ : BufTy).Contents (Elt F))) k (Shape.Idx.first h_S_)).toInt) sliceFits_S2048x8x1024_S1x8x1024 : At F main_while0b_call1_v0) = Step.b2 j s := by
  unfold Step.b2
  rw [← al_0 h, ← al_1 h, h.f_0, h.n_8]
  try rfl
theorem al_3 (h : Holds V0 s j) : (res_main_while0b_v22 V0 : At F main_while0b_v22) = Step.b3 j s := by
  unfold res_main_while0b_v22 Step.b3
  rw [← al_2 h]
  try rfl
theorem al_4 (h : Holds V0 s j) : (Host.dynamicSlice S1 (V0 (Proc.devRef .tc main_v20_1)) (fun k => (((![V0 (Proc.devRef .tc main_v20_8)] : Fin 1 → (⟨S_, .i32⟩ : BufTy).Contents (Elt F))) k (Shape.Idx.first h_S_)).toInt) sliceFits_S2048_S1 : At F main_while0b_call2_v0) = Step.b4 j s := by
  unfold Step.b4
  rw [h.k_1, h.n_8]
  try rfl
theorem al_5 (h : Holds V0 s j) : (res_main_while0b_v23 V0 : At F main_while0b_v23) = Step.b5 j s := by
  unfold res_main_while0b_v23 Step.b5
  rw [← al_4 h]
  try rfl
theorem al_6 (h : Holds V0 s j) : (shapeCast S1024 (V0 (Proc.devRef .tc main_v20_2)) shapeCasts_S1x1024_S1024 : At F main_while0b_v24) = Step.b6 j s := by
  unfold Step.b6
  rw [h.f_2]
  try rfl
theorem al_7 (h : Holds V0 s j) : (mulf (res_main_while0b_v22 V0) (res_main_while0b_v22 V0) : At F main_while0b_v25) = Step.b7 j s := by
  unfold Step.b7
  rw [← al_3 h]
  try rfl
theorem al_8 (h : Holds V0 s j) : (constant S_ .f32 0x00000000#32 : At F main_while0b_cst_16) = Step.b8 j s := by
  unfold Step.b8
  rfl
theorem al_9 (h : Holds V0 s j) : (Host.reduceAdd (mulf (res_main_while0b_v22 V0) (res_main_while0b_v22 V0)) (constant S_ .f32 0x00000000#32) reducesTo_S8x1024_S8_d1 h_S_ : At F main_while0b_v26) = Step.b9 j s := by
  unfold Step.b9
  rw [← al_7 h, ← al_8 h]
  try rfl
theorem al_10 (h : Holds V0 s j) : (broadcastInDim S8x1 ![0] bcast_S8_S8x1_0 (Host.reduceAdd (mulf (res_main_while0b_v22 V0) (res_main_while0b_v22 V0)) (constant S_ .f32 0x00000000#32) reducesTo_S8x1024_S8_d1 h_S_) : At F main_while0b_v27) = Step.b10 j s := by
  unfold Step.b10
  rw [← al_9 h]
  try rfl
theorem al_11 (h : Holds V0 s j) : (constant S_ .f32 0x44800000#32 : At F main_while0b_cst_17) = Step.b11 j s := by
  unfold Step.b11
  rfl
theorem al_12 (h : Holds V0 s j) : (broadcastInDim S8x1 ![] bcast_S_S8x1 (constant S_ .f32 0x44800000#32) : At F main_while0b_v28) = Step.b12 j s := by
  unfold Step.b12
  rw [← al_11 h]
  try rfl
theorem al_13 (h : Holds V0 s j) : (Host.divf (broadcastInDim S8x1 ![0] bcast_S8_S8x1_0 (Host.reduceAdd (mulf (res_main_while0b_v22 V0) (res_main_while0b_v22 V0)) (constant S_ .f32 0x00000000#32) reducesTo_S8x1024_S8_d1 h_S_)) (broadcastInDim S8x1 ![] bcast_S_S8x1 (constant S_ .f32 0x44800000#32)) : At F main_while0b_v29) = Step.b13 j s := by
  unfold Step.b13
  rw [← al_10 h, ← al_12 h]
  try rfl
theorem al_14 (h : Holds V0 s j) : (constant S_ .f32 0x358637BD#32 : At F main_while0b_cst_18) = Step.b14 j s := by
  unfold Step.b14
  rfl
theorem al_15 (h : Holds V0 s j) : (broadcastInDim S8x1 ![] bcast_S_S8x1 (constant S_ .f32 0x358637BD#32) : At F main_while0b_v30) = Step.b15 j s := by
  unfold Step.b15
  rw [← al_14 h]
  try rfl
theorem al_16 (h : Holds V0 s j) : (addf (Host.divf (broadcastInDim S8x1 ![0] bcast_S8_S8x1_0 (Host.reduceAdd (mulf (res_main_while0b_v22 V0) (res_main_while0b_v22 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)) : At F main_while0b_v31) = Step.b16 j s := by
  unfold Step.b16
  rw [← al_13 h, ← al_15 h]
  try rfl
theorem al_17 (h : Holds V0 s j) : (Host.rsqrt (addf (Host.divf (broadcastInDim S8x1 ![0] bcast_S8_S8x1_0 (Host.reduceAdd (mulf (res_main_while0b_v22 V0) (res_main_while0b_v22 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))) : At F main_while0b_v32) = Step.b17 j s := by
  unfold Step.b17
  rw [← al_16 h]
  try rfl
theorem al_18 (h : Holds V0 s j) : (broadcastInDim S8x1024 ![0, 1] bcast_S8x1_S8x1024_0_1 (Host.rsqrt (addf (Host.divf (broadcastInDim S8x1 ![0] bcast_S8_S8x1_0 (Host.reduceAdd (mulf (res_main_while0b_v22 V0) (res_main_while0b_v22 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))) : At F main_while0b_v33) = Step.b18 j s := by
  unfold Step.b18
  rw [← al_17 h]
  try rfl
theorem al_19 (h : Holds V0 s j) : (mulf (res_main_while0b_v22 V0) (broadcastInDim S8x1024 ![0, 1] bcast_S8x1_S8x1024_0_1 (Host.rsqrt (addf (Host.divf (broadcastInDim S8x1 ![0] bcast_S8_S8x1_0 (Host.reduceAdd (mulf (res_main_while0b_v22 V0) (res_main_while0b_v22 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32))))) : At F main_while0b_v34) = Step.b19 j s := by
  unfold Step.b19
  rw [← al_3 h, ← al_18 h]
  try rfl
theorem al_20 (h : Holds V0 s j) : (broadcastInDim S1x1024 ![1] bcast_S1024_S1x1024_1 (shapeCast S1024 (V0 (Proc.devRef .tc main_v20_2)) shapeCasts_S1x1024_S1024) : At F main_while0b_v35) = Step.b20 j s := by
  unfold Step.b20
  rw [← al_6 h]
  try rfl
theorem al_21 (h : Holds V0 s j) : (broadcastInDim S8x1024 ![0, 1] bcast_S1x1024_S8x1024_0_1 (broadcastInDim S1x1024 ![1] bcast_S1024_S1x1024_1 (shapeCast S1024 (V0 (Proc.devRef .tc main_v20_2)) shapeCasts_S1x1024_S1024)) : At F main_while0b_v36) = Step.b21 j s := by
  unfold Step.b21
  rw [← al_20 h]
  try rfl
theorem al_22 (h : Holds V0 s j) : (mulf (mulf (res_main_while0b_v22 V0) (broadcastInDim S8x1024 ![0, 1] bcast_S8x1_S8x1024_0_1 (Host.rsqrt (addf (Host.divf (broadcastInDim S8x1 ![0] bcast_S8_S8x1_0 (Host.reduceAdd (mulf (res_main_while0b_v22 V0) (res_main_while0b_v22 V0)) (constant S_ .f32 0x00000000#32) reducesTo_S8x1024_S8_d1 h_S_)) (broadcastInDim S8x1 ![] bcast_S_S8x1 (constant S_ .f32 0x44800000#32))) (broadcastInDim S8x1 ![] bcast_S_S8x1 (constant S_ .f32 0x358637BD#32)))))) (broadcastInDim S8x1024 ![0, 1] bcast_S1x1024_S8x1024_0_1 (broadcastInDim S1x1024 ![1] bcast_S1024_S1x1024_1 (shapeCast S1024 (V0 (Proc.devRef .tc main_v20_2)) shapeCasts_S1x1024_S1024))) : At F main_while0b_v37) = Step.b22 j s := by
  unfold Step.b22
  rw [← al_19 h, ← al_21 h]
  try rfl
theorem al_23 (h : Holds V0 s j) : (shapeCast S1024x4096 (V0 (Proc.devRef .tc main_v20_3)) shapeCasts_S1x1024x4096_S1024x4096 : At F main_while0b_v38) = Step.b23 j s := by
  unfold Step.b23
  rw [h.f_3]
  try rfl
theorem al_24 (h : Holds V0 s j) : (shapeCast S128 (V0 (Proc.devRef .tc main_v20_4)) shapeCasts_S1x128_S128 : At F main_while0b_v39) = Step.b24 j s := by
  unfold Step.b24
  rw [h.f_4]
  try rfl
theorem al_25 (h : Holds V0 s j) : (shapeCast S128 (V0 (Proc.devRef .tc main_v20_5)) shapeCasts_S1x128_S128 : At F main_while0b_v40) = Step.b25 j s := by
  unfold Step.b25
  rw [h.f_5]
  try rfl
theorem al_26 (h : Holds V0 s j) : (shapeCast S1024x1024 (V0 (Proc.devRef .tc main_v20_6)) shapeCasts_S1x1024x1024_S1024x1024 : At F main_while0b_v41) = Step.b26 j s := by
  unfold Step.b26
  rw [h.f_6]
  try rfl
theorem al_27 (h : Holds V0 s j) : (res_main_while0b_v42 V0 : At F main_while0b_v42) = Step.b27 j s := by
  unfold res_main_while0b_v42 Step.b27
  rw [← al_22 h, ← al_23 h]
  try rfl
theorem al_28 (h : Holds V0 s j) : (extractStridedSlice S8x512 ![0, 0] (res_main_while0b_v42 V0) slices_S8x4096_S8x512_0_0 : At F main_while0b_v43) = Step.b28 j s := by
  unfold Step.b28
  rw [← al_27 h]
  try rfl
theorem al_29 (h : Holds V0 s j) : (extractStridedSlice S8x512 ![0, 512] (res_main_while0b_v42 V0) slices_S8x4096_S8x512_0_512 : At F main_while0b_v44) = Step.b29 j s := by
  unfold Step.b29
  rw [← al_27 h]
  try rfl
theorem al_30 (h : Holds V0 s j) : (extractStridedSlice S8x512 ![0, 1024] (res_main_while0b_v42 V0) slices_S8x4096_S8x512_0_1024 : At F main_while0b_v45) = Step.b30 j s := by
  unfold Step.b30
  rw [← al_27 h]
  try rfl
theorem al_31 (h : Holds V0 s j) : (res_main_while0b_v46 V0 : At F main_while0b_v46) = Step.b31 j s := by
  unfold res_main_while0b_v46 Step.b31
  rw [← al_27 h]
  try rfl
theorem al_32 (h : Holds V0 s j) : (res_main_while0b_v47 V0 : At F main_while0b_v47) = Step.b32 j s := by
  unfold res_main_while0b_v47 Step.b32
  rw [← al_27 h]
  try rfl
theorem al_33 (h : Holds V0 s j) : (extractStridedSlice S8x512 ![0, 2560] (res_main_while0b_v42 V0) slices_S8x4096_S8x512_0_2560 : At F main_while0b_v48) = Step.b33 j s := by
  unfold Step.b33
  rw [← al_27 h]
  try rfl
theorem al_34 (h : Holds V0 s j) : (extractStridedSlice S8x512 ![0, 3072] (res_main_while0b_v42 V0) slices_S8x4096_S8x512_0_3072 : At F main_while0b_v49) = Step.b34 j s := by
  unfold Step.b34
  rw [← al_27 h]
  try rfl
theorem al_35 (h : Holds V0 s j) : (res_main_while0b_v50 V0 : At F main_while0b_v50) = Step.b35 j s := by
  unfold res_main_while0b_v50 Step.b35
  rw [← al_27 h]
  try rfl
theorem al_36 (h : Holds V0 s j) : (res_main_while0b_v51 V0 : At F main_while0b_v51) = Step.b36 j s := by
  unfold res_main_while0b_v51 Step.b36
  rw [← al_28 h]
  try rfl
theorem al_37 (h : Holds V0 s j) : (sitofp .f32 (iotaInDim S64 32 0) : At F main_while0b_v52) = Step.b37 j s := by
  unfold Step.b37
  rfl
theorem al_38 (h : Holds V0 s j) : (Host.negf (sitofp .f32 (iotaInDim S64 32 0)) : At F main_while0b_v53) = Step.b38 j s := by
  unfold Step.b38
  rw [← al_37 h]
  try rfl
theorem al_39 (h : Holds V0 s j) : (constant S_ .f32 0x42800000#32 : At F main_while0b_cst_19) = Step.b39 j s := by
  unfold Step.b39
  rfl
theorem al_40 (h : Holds V0 s j) : (broadcastInDim S64 ![] bcast_S_S64 (constant S_ .f32 0x42800000#32) : At F main_while0b_v54) = Step.b40 j s := by
  unfold Step.b40
  rw [← al_39 h]
  try rfl
theorem al_41 (h : Holds V0 s j) : (Host.divf (Host.negf (sitofp .f32 (iotaInDim S64 32 0))) (broadcastInDim S64 ![] bcast_S_S64 (constant S_ .f32 0x42800000#32)) : At F main_while0b_v55) = Step.b41 j s := by
  unfold Step.b41
  rw [← al_38 h, ← al_40 h]
  try rfl
theorem al_42 (h : Holds V0 s j) : (constant S_ .f32 0x461C4000#32 : At F main_while0b_cst_20) = Step.b42 j s := by
  unfold Step.b42
  rfl
theorem al_43 (h : Holds V0 s j) : (broadcastInDim S64 ![] bcast_S_S64 (constant S_ .f32 0x461C4000#32) : At F main_while0b_v56) = Step.b43 j s := by
  unfold Step.b43
  rw [← al_42 h]
  try rfl
theorem al_44 (h : Holds V0 s j) : (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))) : At F main_while0b_v57) = Step.b44 j s := by
  unfold Step.b44
  rw [← al_43 h, ← al_41 h]
  try rfl
theorem al_45 (h : Holds V0 s j) : (sitofp .f32 (res_main_while0b_v23 V0) : At F main_while0b_v58) = Step.b45 j s := by
  unfold Step.b45
  rw [← al_5 h]
  try rfl
theorem al_46 (h : Holds V0 s j) : (broadcastInDim S64 ![] bcast_S_S64 (sitofp .f32 (res_main_while0b_v23 V0)) : At F main_while0b_v59) = Step.b46 j s := by
  unfold Step.b46
  rw [← al_45 h]
  try rfl
theorem al_47 (h : Holds V0 s j) : (res_main_while0b_v60 V0 : At F main_while0b_v60) = Step.b47 j s := by
  unfold res_main_while0b_v60 Step.b47
  rw [← al_46 h, ← al_44 h]
  try rfl
theorem al_48 (h : Holds V0 s j) : (Host.cos (res_main_while0b_v60 V0) : At F main_while0b_v61) = Step.b48 j s := by
  unfold Step.b48
  rw [← al_47 h]
  try rfl
theorem al_49 (h : Holds V0 s j) : (res_main_while0b_v62 V0 : At F main_while0b_v62) = Step.b49 j s := by
  unfold res_main_while0b_v62 Step.b49
  rw [← al_48 h]
  try rfl
theorem al_50 (h : Holds V0 s j) : (Host.sin (res_main_while0b_v60 V0) : At F main_while0b_v63) = Step.b50 j s := by
  unfold Step.b50
  rw [← al_47 h]
  try rfl
theorem al_51 (h : Holds V0 s j) : (res_main_while0b_v64 V0 : At F main_while0b_v64) = Step.b51 j s := by
  unfold res_main_while0b_v64 Step.b51
  rw [← al_50 h]
  try rfl
theorem al_52 (h : Holds V0 s j) : (res_main_while0b_v65 V0 : At F main_while0b_v65) = Step.b52 j s := by
  unfold res_main_while0b_v65 Step.b52
  rw [← al_36 h]
  try rfl
theorem al_53 (h : Holds V0 s j) : (res_main_while0b_v66 V0 : At F main_while0b_v66) = Step.b53 j s := by
  unfold res_main_while0b_v66 Step.b53
  rw [← al_36 h]
  try rfl
theorem al_54 (h : Holds V0 s j) : (broadcastInDim S8x4x64 ![0, 1, 2] bcast_S1x1x64_S8x4x64_0_1_2 (res_main_while0b_v62 V0) : At F main_while0b_v67) = Step.b54 j s := by
  unfold Step.b54
  rw [← al_49 h]
  try rfl
theorem al_55 (h : Holds V0 s j) : (mulf (res_main_while0b_v65 V0) (broadcastInDim S8x4x64 ![0, 1, 2] bcast_S1x1x64_S8x4x64_0_1_2 (res_main_while0b_v62 V0)) : At F main_while0b_v68) = Step.b55 j s := by
  unfold Step.b55
  rw [← al_52 h, ← al_54 h]
  try rfl
theorem al_56 (h : Holds V0 s j) : (broadcastInDim S8x4x64 ![0, 1, 2] bcast_S1x1x64_S8x4x64_0_1_2 (res_main_while0b_v64 V0) : At F main_while0b_v69) = Step.b56 j s := by
  unfold Step.b56
  rw [← al_51 h]
  try rfl
theorem al_57 (h : Holds V0 s j) : (mulf (res_main_while0b_v66 V0) (broadcastInDim S8x4x64 ![0, 1, 2] bcast_S1x1x64_S8x4x64_0_1_2 (res_main_while0b_v64 V0)) : At F main_while0b_v70) = Step.b57 j s := by
  unfold Step.b57
  rw [← al_53 h, ← al_56 h]
  try rfl
theorem al_58 (h : Holds V0 s j) : (subf (mulf (res_main_while0b_v65 V0) (broadcastInDim S8x4x64 ![0, 1, 2] bcast_S1x1x64_S8x4x64_0_1_2 (res_main_while0b_v62 V0))) (mulf (res_main_while0b_v66 V0) (broadcastInDim S8x4x64 ![0, 1, 2] bcast_S1x1x64_S8x4x64_0_1_2 (res_main_while0b_v64 V0))) : At F main_while0b_v71) = Step.b58 j s := by
  unfold Step.b58
  rw [← al_55 h, ← al_57 h]
  try rfl
theorem al_59 (h : Holds V0 s j) : (broadcastInDim S8x4x64 ![0, 1, 2] bcast_S1x1x64_S8x4x64_0_1_2 (res_main_while0b_v64 V0) : At F main_while0b_v72) = Step.b59 j s := by
  unfold Step.b59
  rw [← al_51 h]
  try rfl
theorem al_60 (h : Holds V0 s j) : (mulf (res_main_while0b_v65 V0) (broadcastInDim S8x4x64 ![0, 1, 2] bcast_S1x1x64_S8x4x64_0_1_2 (res_main_while0b_v64 V0)) : At F main_while0b_v73) = Step.b60 j s := by
  unfold Step.b60
  rw [← al_52 h, ← al_59 h]
  try rfl
theorem al_61 (h : Holds V0 s j) : (broadcastInDim S8x4x64 ![0, 1, 2] bcast_S1x1x64_S8x4x64_0_1_2 (res_main_while0b_v62 V0) : At F main_while0b_v74) = Step.b61 j s := by
  unfold Step.b61
  rw [← al_49 h]
  try rfl
theorem al_62 (h : Holds V0 s j) : (mulf (res_main_while0b_v66 V0) (broadcastInDim S8x4x64 ![0, 1, 2] bcast_S1x1x64_S8x4x64_0_1_2 (res_main_while0b_v62 V0)) : At F main_while0b_v75) = Step.b62 j s := by
  unfold Step.b62
  rw [← al_53 h, ← al_61 h]
  try rfl
theorem al_63 (h : Holds V0 s j) : (addf (mulf (res_main_while0b_v65 V0) (broadcastInDim S8x4x64 ![0, 1, 2] bcast_S1x1x64_S8x4x64_0_1_2 (res_main_while0b_v64 V0))) (mulf (res_main_while0b_v66 V0) (broadcastInDim S8x4x64 ![0, 1, 2] bcast_S1x1x64_S8x4x64_0_1_2 (res_main_while0b_v62 V0))) : At F main_while0b_v76) = Step.b63 j s := by
  unfold Step.b63
  rw [← al_60 h, ← al_62 h]
  try rfl
theorem al_64 (h : Holds V0 s j) : (concatenate S8x4x128 2 [⟨S8x4x64, (subf (mulf (res_main_while0b_v65 V0) (broadcastInDim S8x4x64 ![0, 1, 2] bcast_S1x1x64_S8x4x64_0_1_2 (res_main_while0b_v62 V0))) (mulf (res_main_while0b_v66 V0) (broadcastInDim S8x4x64 ![0, 1, 2] bcast_S1x1x64_S8x4x64_0_1_2 (res_main_while0b_v64 V0))))⟩, ⟨S8x4x64, (addf (mulf (res_main_while0b_v65 V0) (broadcastInDim S8x4x64 ![0, 1, 2] bcast_S1x1x64_S8x4x64_0_1_2 (res_main_while0b_v64 V0))) (mulf (res_main_while0b_v66 V0) (broadcastInDim S8x4x64 ![0, 1, 2] bcast_S1x1x64_S8x4x64_0_1_2 (res_main_while0b_v62 V0))))⟩] concatenates_S8x4x64_S8x4x64_S8x4x128_d2 : At F main_while0b_v77) = Step.b64 j s := by
  unfold Step.b64
  rw [← al_58 h, ← al_63 h]
  try rfl
theorem al_65 (h : Holds V0 s j) : (res_main_while0b_v78 V0 : At F main_while0b_v78) = Step.b65 j s := by
  unfold res_main_while0b_v78 Step.b65
  rw [← al_29 h]
  try rfl
theorem al_66 (h : Holds V0 s j) : (sitofp .f32 (iotaInDim S64 32 0) : At F main_while0b_v79) = Step.b66 j s := by
  unfold Step.b66
  rfl
theorem al_67 (h : Holds V0 s j) : (Host.negf (sitofp .f32 (iotaInDim S64 32 0)) : At F main_while0b_v80) = Step.b67 j s := by
  unfold Step.b67
  rw [← al_66 h]
  try rfl
theorem al_68 (h : Holds V0 s j) : (constant S_ .f32 0x42800000#32 : At F main_while0b_cst_21) = Step.b68 j s := by
  unfold Step.b68
  rfl
theorem al_69 (h : Holds V0 s j) : (broadcastInDim S64 ![] bcast_S_S64 (constant S_ .f32 0x42800000#32) : At F main_while0b_v81) = Step.b69 j s := by
  unfold Step.b69
  rw [← al_68 h]
  try rfl
theorem al_70 (h : Holds V0 s j) : (Host.divf (Host.negf (sitofp .f32 (iotaInDim S64 32 0))) (broadcastInDim S64 ![] bcast_S_S64 (constant S_ .f32 0x42800000#32)) : At F main_while0b_v82) = Step.b70 j s := by
  unfold Step.b70
  rw [← al_67 h, ← al_69 h]
  try rfl
theorem al_71 (h : Holds V0 s j) : (constant S_ .f32 0x461C4000#32 : At F main_while0b_cst_22) = Step.b71 j s := by
  unfold Step.b71
  rfl
theorem al_72 (h : Holds V0 s j) : (broadcastInDim S64 ![] bcast_S_S64 (constant S_ .f32 0x461C4000#32) : At F main_while0b_v83) = Step.b72 j s := by
  unfold Step.b72
  rw [← al_71 h]
  try rfl
theorem al_73 (h : Holds V0 s j) : (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))) : At F main_while0b_v84) = Step.b73 j s := by
  unfold Step.b73
  rw [← al_72 h, ← al_70 h]
  try rfl
theorem al_74 (h : Holds V0 s j) : (sitofp .f32 (res_main_while0b_v23 V0) : At F main_while0b_v85) = Step.b74 j s := by
  unfold Step.b74
  rw [← al_5 h]
  try rfl
theorem al_75 (h : Holds V0 s j) : (broadcastInDim S64 ![] bcast_S_S64 (sitofp .f32 (res_main_while0b_v23 V0)) : At F main_while0b_v86) = Step.b75 j s := by
  unfold Step.b75
  rw [← al_74 h]
  try rfl
theorem al_76 (h : Holds V0 s j) : (res_main_while0b_v87 V0 : At F main_while0b_v87) = Step.b76 j s := by
  unfold res_main_while0b_v87 Step.b76
  rw [← al_75 h, ← al_73 h]
  try rfl
theorem al_77 (h : Holds V0 s j) : (Host.cos (res_main_while0b_v87 V0) : At F main_while0b_v88) = Step.b77 j s := by
  unfold Step.b77
  rw [← al_76 h]
  try rfl
theorem al_78 (h : Holds V0 s j) : (res_main_while0b_v89 V0 : At F main_while0b_v89) = Step.b78 j s := by
  unfold res_main_while0b_v89 Step.b78
  rw [← al_77 h]
  try rfl
theorem al_79 (h : Holds V0 s j) : (Host.sin (res_main_while0b_v87 V0) : At F main_while0b_v90) = Step.b79 j s := by
  unfold Step.b79
  rw [← al_76 h]
  try rfl
theorem al_80 (h : Holds V0 s j) : (res_main_while0b_v91 V0 : At F main_while0b_v91) = Step.b80 j s := by
  unfold res_main_while0b_v91 Step.b80
  rw [← al_79 h]
  try rfl
theorem al_81 (h : Holds V0 s j) : (res_main_while0b_v92 V0 : At F main_while0b_v92) = Step.b81 j s := by
  unfold res_main_while0b_v92 Step.b81
  rw [← al_65 h]
  try rfl
theorem al_82 (h : Holds V0 s j) : (res_main_while0b_v93 V0 : At F main_while0b_v93) = Step.b82 j s := by
  unfold res_main_while0b_v93 Step.b82
  rw [← al_65 h]
  try rfl
theorem al_83 (h : Holds V0 s j) : (broadcastInDim S8x4x64 ![0, 1, 2] bcast_S1x1x64_S8x4x64_0_1_2 (res_main_while0b_v89 V0) : At F main_while0b_v94) = Step.b83 j s := by
  unfold Step.b83
  rw [← al_78 h]
  try rfl
theorem al_84 (h : Holds V0 s j) : (mulf (res_main_while0b_v92 V0) (broadcastInDim S8x4x64 ![0, 1, 2] bcast_S1x1x64_S8x4x64_0_1_2 (res_main_while0b_v89 V0)) : At F main_while0b_v95) = Step.b84 j s := by
  unfold Step.b84
  rw [← al_81 h, ← al_83 h]
  try rfl
theorem al_85 (h : Holds V0 s j) : (broadcastInDim S8x4x64 ![0, 1, 2] bcast_S1x1x64_S8x4x64_0_1_2 (res_main_while0b_v91 V0) : At F main_while0b_v96) = Step.b85 j s := by
  unfold Step.b85
  rw [← al_80 h]
  try rfl
theorem al_86 (h : Holds V0 s j) : (mulf (res_main_while0b_v93 V0) (broadcastInDim S8x4x64 ![0, 1, 2] bcast_S1x1x64_S8x4x64_0_1_2 (res_main_while0b_v91 V0)) : At F main_while0b_v97) = Step.b86 j s := by
  unfold Step.b86
  rw [← al_82 h, ← al_85 h]
  try rfl
theorem al_87 (h : Holds V0 s j) : (subf (mulf (res_main_while0b_v92 V0) (broadcastInDim S8x4x64 ![0, 1, 2] bcast_S1x1x64_S8x4x64_0_1_2 (res_main_while0b_v89 V0))) (mulf (res_main_while0b_v93 V0) (broadcastInDim S8x4x64 ![0, 1, 2] bcast_S1x1x64_S8x4x64_0_1_2 (res_main_while0b_v91 V0))) : At F main_while0b_v98) = Step.b87 j s := by
  unfold Step.b87
  rw [← al_84 h, ← al_86 h]
  try rfl
theorem al_88 (h : Holds V0 s j) : (broadcastInDim S8x4x64 ![0, 1, 2] bcast_S1x1x64_S8x4x64_0_1_2 (res_main_while0b_v91 V0) : At F main_while0b_v99) = Step.b88 j s := by
  unfold Step.b88
  rw [← al_80 h]
  try rfl
theorem al_89 (h : Holds V0 s j) : (mulf (res_main_while0b_v92 V0) (broadcastInDim S8x4x64 ![0, 1, 2] bcast_S1x1x64_S8x4x64_0_1_2 (res_main_while0b_v91 V0)) : At F main_while0b_v100) = Step.b89 j s := by
  unfold Step.b89
  rw [← al_81 h, ← al_88 h]
  try rfl
theorem al_90 (h : Holds V0 s j) : (broadcastInDim S8x4x64 ![0, 1, 2] bcast_S1x1x64_S8x4x64_0_1_2 (res_main_while0b_v89 V0) : At F main_while0b_v101) = Step.b90 j s := by
  unfold Step.b90
  rw [← al_78 h]
  try rfl
theorem al_91 (h : Holds V0 s j) : (mulf (res_main_while0b_v93 V0) (broadcastInDim S8x4x64 ![0, 1, 2] bcast_S1x1x64_S8x4x64_0_1_2 (res_main_while0b_v89 V0)) : At F main_while0b_v102) = Step.b91 j s := by
  unfold Step.b91
  rw [← al_82 h, ← al_90 h]
  try rfl
theorem al_92 (h : Holds V0 s j) : (addf (mulf (res_main_while0b_v92 V0) (broadcastInDim S8x4x64 ![0, 1, 2] bcast_S1x1x64_S8x4x64_0_1_2 (res_main_while0b_v91 V0))) (mulf (res_main_while0b_v93 V0) (broadcastInDim S8x4x64 ![0, 1, 2] bcast_S1x1x64_S8x4x64_0_1_2 (res_main_while0b_v89 V0))) : At F main_while0b_v103) = Step.b92 j s := by
  unfold Step.b92
  rw [← al_89 h, ← al_91 h]
  try rfl
theorem al_93 (h : Holds V0 s j) : (concatenate S8x4x128 2 [⟨S8x4x64, (subf (mulf (res_main_while0b_v92 V0) (broadcastInDim S8x4x64 ![0, 1, 2] bcast_S1x1x64_S8x4x64_0_1_2 (res_main_while0b_v89 V0))) (mulf (res_main_while0b_v93 V0) (broadcastInDim S8x4x64 ![0, 1, 2] bcast_S1x1x64_S8x4x64_0_1_2 (res_main_while0b_v91 V0))))⟩, ⟨S8x4x64, (addf (mulf (res_main_while0b_v92 V0) (broadcastInDim S8x4x64 ![0, 1, 2] bcast_S1x1x64_S8x4x64_0_1_2 (res_main_while0b_v91 V0))) (mulf (res_main_while0b_v93 V0) (broadcastInDim S8x4x64 ![0, 1, 2] bcast_S1x1x64_S8x4x64_0_1_2 (res_main_while0b_v89 V0))))⟩] concatenates_S8x4x64_S8x4x64_S8x4x128_d2 : At F main_while0b_v104) = Step.b93 j s := by
  unfold Step.b93
  rw [← al_87 h, ← al_92 h]
  try rfl
theorem al_94 (h : Holds V0 s j) : (constant S_ .f32 0x3DB504F3#32 : At F main_while0b_cst_23) = Step.b94 j s := by
  unfold Step.b94
  rfl
theorem al_95 (h : Holds V0 s j) : (broadcastInDim S8x4x128 ![] bcast_S_S8x4x128 (constant S_ .f32 0x3DB504F3#32) : At F main_while0b_v105) = Step.b95 j s := by
  unfold Step.b95
  rw [← al_94 h]
  try rfl
theorem al_96 (h : Holds V0 s j) : (mulf (concatenate S8x4x128 2 [⟨S8x4x64, (subf (mulf (res_main_while0b_v92 V0) (broadcastInDim S8x4x64 ![0, 1, 2] bcast_S1x1x64_S8x4x64_0_1_2 (res_main_while0b_v89 V0))) (mulf (res_main_while0b_v93 V0) (broadcastInDim S8x4x64 ![0, 1, 2] bcast_S1x1x64_S8x4x64_0_1_2 (res_main_while0b_v91 V0))))⟩, ⟨S8x4x64, (addf (mulf (res_main_while0b_v92 V0) (broadcastInDim S8x4x64 ![0, 1, 2] bcast_S1x1x64_S8x4x64_0_1_2 (res_main_while0b_v91 V0))) (mulf (res_main_while0b_v93 V0) (broadcastInDim S8x4x64 ![0, 1, 2] bcast_S1x1x64_S8x4x64_0_1_2 (res_main_while0b_v89 V0))))⟩] concatenates_S8x4x64_S8x4x64_S8x4x128_d2) (broadcastInDim S8x4x128 ![] bcast_S_S8x4x128 (constant S_ .f32 0x3DB504F3#32)) : At F main_while0b_v106) = Step.b96 j s := by
  unfold Step.b96
  rw [← al_93 h, ← al_95 h]
  try rfl
theorem al_97 (h : Holds V0 s j) : (shapeCast S8x4x128 (extractStridedSlice S8x512 ![0, 1024] (res_main_while0b_v42 V0) slices_S8x4096_S8x512_0_1024) shapeCasts_S8x512_S8x4x128 : At F main_while0b_v107) = Step.b97 j s := by
  unfold Step.b97
  rw [← al_30 h]
  try rfl
theorem al_98 (h : Holds V0 s j) : (sitofp .f32 (iotaInDim S4 32 0) : At F main_while0b_v108) = Step.b98 j s := by
  unfold Step.b98
  rfl
theorem al_99 (h : Holds V0 s j) : (constant S_ .f32 0xC0A00000#32 : At F main_while0b_cst_24) = Step.b99 j s := by
  unfold Step.b99
  rfl
theorem al_100 (h : Holds V0 s j) : (broadcastInDim S4 ![] bcast_S_S4 (constant S_ .f32 0xC0A00000#32) : At F main_while0b_v109) = Step.b100 j s := by
  unfold Step.b100
  rw [← al_99 h]
  try rfl
theorem al_101 (h : Holds V0 s j) : (subf (broadcastInDim S4 ![] bcast_S_S4 (constant S_ .f32 0xC0A00000#32)) (sitofp .f32 (iotaInDim S4 32 0)) : At F main_while0b_v110) = Step.b101 j s := by
  unfold Step.b101
  rw [← al_100 h, ← al_98 h]
  try rfl
theorem al_102 (h : Holds V0 s j) : (constant S_ .f32 0x40000000#32 : At F main_while0b_cst_25) = Step.b102 j s := by
  unfold Step.b102
  rfl
theorem al_103 (h : Holds V0 s j) : (broadcastInDim S4 ![] bcast_S_S4 (constant S_ .f32 0x40000000#32) : At F main_while0b_v111) = Step.b103 j s := by
  unfold Step.b103
  rw [← al_102 h]
  try rfl
theorem al_104 (h : Holds V0 s j) : (Host.powf (broadcastInDim S4 ![] bcast_S_S4 (constant S_ .f32 0x40000000#32)) (subf (broadcastInDim S4 ![] bcast_S_S4 (constant S_ .f32 0xC0A00000#32)) (sitofp .f32 (iotaInDim S4 32 0))) : At F main_while0b_v112) = Step.b104 j s := by
  unfold Step.b104
  rw [← al_103 h, ← al_101 h]
  try rfl
theorem al_105 (h : Holds V0 s j) : (constant S_ .f32 0x3F800000#32 : At F main_while0b_cst_26) = Step.b105 j s := by
  unfold Step.b105
  rfl
theorem al_106 (h : Holds V0 s j) : (broadcastInDim S4 ![] bcast_S_S4 (constant S_ .f32 0x3F800000#32) : At F main_while0b_v113) = Step.b106 j s := by
  unfold Step.b106
  rw [← al_105 h]
  try rfl
theorem al_107 (h : Holds V0 s j) : (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))) : At F main_while0b_v114) = Step.b107 j s := by
  unfold Step.b107
  rw [← al_106 h, ← al_104 h]
  try rfl
theorem al_108 (h : Holds V0 s j) : (broadcastInDim S1x4x1 ![1] bcast_S4_S1x4x1_1 (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0))))) : At F main_while0b_v115) = Step.b108 j s := by
  unfold Step.b108
  rw [← al_107 h]
  try rfl
theorem al_109 (h : Holds V0 s j) : (broadcastInDim S8x4x128 ![0, 1, 2] bcast_S1x4x1_S8x4x128_0_1_2 (broadcastInDim S1x4x1 ![1] bcast_S4_S1x4x1_1 (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))) : At F main_while0b_v116) = Step.b109 j s := by
  unfold Step.b109
  rw [← al_108 h]
  try rfl
theorem al_110 (h : Holds V0 s j) : (Host.negf (res_main_while0b_v47 V0) : At F main_while0b_call3_v0) = Step.b110 j s := by
  unfold Step.b110
  rw [← al_32 h]
  try rfl
theorem al_111 (h : Holds V0 s j) : (Host.exp (Host.negf (res_main_while0b_v47 V0)) : At F main_while0b_call3_v1) = Step.b111 j s := by
  unfold Step.b111
  rw [← al_110 h]
  try rfl
theorem al_112 (h : Holds V0 s j) : (constant S_ .f32 0x3F800000#32 : At F main_while0b_call3_cst) = Step.b112 j s := by
  unfold Step.b112
  rfl
theorem al_113 (h : Holds V0 s j) : (broadcastInDim S8x512 ![] bcast_S_S8x512 (constant S_ .f32 0x3F800000#32) : At F main_while0b_call3_v2) = Step.b113 j s := by
  unfold Step.b113
  rw [← al_112 h]
  try rfl
theorem al_114 (h : Holds V0 s j) : (addf (broadcastInDim S8x512 ![] bcast_S_S8x512 (constant S_ .f32 0x3F800000#32)) (Host.exp (Host.negf (res_main_while0b_v47 V0))) : At F main_while0b_call3_v3) = Step.b114 j s := by
  unfold Step.b114
  rw [← al_113 h, ← al_111 h]
  try rfl
theorem al_115 (h : Holds V0 s j) : (constant S_ .f32 0x3F800000#32 : At F main_while0b_call3_cst_0) = Step.b115 j s := by
  unfold Step.b115
  rfl
theorem al_116 (h : Holds V0 s j) : (broadcastInDim S8x512 ![] bcast_S_S8x512 (constant S_ .f32 0x3F800000#32) : At F main_while0b_call3_v4) = Step.b116 j s := by
  unfold Step.b116
  rw [← al_115 h]
  try rfl
theorem al_117 (h : Holds V0 s j) : (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v47 V0)))) : At F main_while0b_call3_v5) = Step.b117 j s := by
  unfold Step.b117
  rw [← al_116 h, ← al_114 h]
  try rfl
theorem al_118 (h : Holds V0 s j) : (mulf (res_main_while0b_v47 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v47 V0))))) : At F main_while0b_v117) = Step.b118 j s := by
  unfold Step.b118
  rw [← al_32 h, ← al_117 h]
  try rfl
theorem al_119 (h : Holds V0 s j) : (shapeCast S8x4x128 (mulf (res_main_while0b_v47 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v47 V0)))))) shapeCasts_S8x512_S8x4x128 : At F main_while0b_v118) = Step.b119 j s := by
  unfold Step.b119
  rw [← al_118 h]
  try rfl
theorem al_120 (h : Holds V0 s j) : (constant S_ .f32 0x3DB504F3#32 : At F main_while0b_cst_27) = Step.b120 j s := by
  unfold Step.b120
  rfl
theorem al_121 (h : Holds V0 s j) : (broadcastInDim S8x4x128 ![] bcast_S_S8x4x128 (constant S_ .f32 0x3DB504F3#32) : At F main_while0b_v119) = Step.b121 j s := by
  unfold Step.b121
  rw [← al_120 h]
  try rfl
theorem al_122 (h : Holds V0 s j) : (mulf (shapeCast S8x4x128 (mulf (res_main_while0b_v47 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v47 V0)))))) shapeCasts_S8x512_S8x4x128) (broadcastInDim S8x4x128 ![] bcast_S_S8x4x128 (constant S_ .f32 0x3DB504F3#32)) : At F main_while0b_v120) = Step.b122 j s := by
  unfold Step.b122
  rw [← al_119 h, ← al_121 h]
  try rfl
theorem al_123 (h : Holds V0 s j) : (res_main_while0b_v121 V0 : At F main_while0b_v121) = Step.b123 j s := by
  unfold res_main_while0b_v121 Step.b123
  rw [h.f_7]
  try rfl
theorem al_124 (h : Holds V0 s j) : (constant S_ .f32 0x3F800000#32 : At F main_while0b_cst_28) = Step.b124 j s := by
  unfold Step.b124
  rfl
theorem al_125 (h : Holds V0 s j) : (broadcastInDim S4x128 ![] bcast_S_S4x128 (constant S_ .f32 0x3F800000#32) : At F main_while0b_v122) = Step.b125 j s := by
  unfold Step.b125
  rw [← al_124 h]
  try rfl
theorem al_126 (h : Holds V0 s j) : (subf (broadcastInDim S4x128 ![] bcast_S_S4x128 (constant S_ .f32 0x3F800000#32)) (res_main_while0b_v121 V0) : At F main_while0b_v123) = Step.b126 j s := by
  unfold Step.b126
  rw [← al_125 h, ← al_123 h]
  try rfl
theorem al_127 (h : Holds V0 s j) : (shapeCast S8x4x128 (extractStridedSlice S8x512 ![0, 2560] (res_main_while0b_v42 V0) slices_S8x4096_S8x512_0_2560) shapeCasts_S8x512_S8x4x128 : At F main_while0b_v124) = Step.b127 j s := by
  unfold Step.b127
  rw [← al_33 h]
  try rfl
theorem al_128 (h : Holds V0 s j) : (Host.negf (shapeCast S8x4x128 (extractStridedSlice S8x512 ![0, 2560] (res_main_while0b_v42 V0) slices_S8x4096_S8x512_0_2560) shapeCasts_S8x512_S8x4x128) : At F main_while0b_v125) = Step.b128 j s := by
  unfold Step.b128
  rw [← al_127 h]
  try rfl
theorem al_129 (h : Holds V0 s j) : (Host.exp (Host.negf (shapeCast S8x4x128 (extractStridedSlice S8x512 ![0, 2560] (res_main_while0b_v42 V0) slices_S8x4096_S8x512_0_2560) shapeCasts_S8x512_S8x4x128)) : At F main_while0b_v126) = Step.b129 j s := by
  unfold Step.b129
  rw [← al_128 h]
  try rfl
theorem al_130 (h : Holds V0 s j) : (constant S_ .f32 0x3F800000#32 : At F main_while0b_cst_29) = Step.b130 j s := by
  unfold Step.b130
  rfl
theorem al_131 (h : Holds V0 s j) : (broadcastInDim S8x4x128 ![] bcast_S_S8x4x128 (constant S_ .f32 0x3F800000#32) : At F main_while0b_v127) = Step.b131 j s := by
  unfold Step.b131
  rw [← al_130 h]
  try rfl
theorem al_132 (h : Holds V0 s j) : (addf (broadcastInDim S8x4x128 ![] bcast_S_S8x4x128 (constant S_ .f32 0x3F800000#32)) (Host.exp (Host.negf (shapeCast S8x4x128 (extractStridedSlice S8x512 ![0, 2560] (res_main_while0b_v42 V0) slices_S8x4096_S8x512_0_2560) shapeCasts_S8x512_S8x4x128))) : At F main_while0b_v128) = Step.b132 j s := by
  unfold Step.b132
  rw [← al_131 h, ← al_129 h]
  try rfl
theorem al_133 (h : Holds V0 s j) : (constant S_ .f32 0x3F800000#32 : At F main_while0b_cst_30) = Step.b133 j s := by
  unfold Step.b133
  rfl
theorem al_134 (h : Holds V0 s j) : (broadcastInDim S8x4x128 ![] bcast_S_S8x4x128 (constant S_ .f32 0x3F800000#32) : At F main_while0b_v129) = Step.b134 j s := by
  unfold Step.b134
  rw [← al_133 h]
  try rfl
theorem al_135 (h : Holds V0 s j) : (Host.divf (broadcastInDim S8x4x128 ![] bcast_S_S8x4x128 (constant S_ .f32 0x3F800000#32)) (addf (broadcastInDim S8x4x128 ![] bcast_S_S8x4x128 (constant S_ .f32 0x3F800000#32)) (Host.exp (Host.negf (shapeCast S8x4x128 (extractStridedSlice S8x512 ![0, 2560] (res_main_while0b_v42 V0) slices_S8x4096_S8x512_0_2560) shapeCasts_S8x512_S8x4x128)))) : At F main_while0b_v130) = Step.b135 j s := by
  unfold Step.b135
  rw [← al_134 h, ← al_132 h]
  try rfl
theorem al_136 (h : Holds V0 s j) : (broadcastInDim S1x4x128 ![1, 2] bcast_S4x128_S1x4x128_1_2 (subf (broadcastInDim S4x128 ![] bcast_S_S4x128 (constant S_ .f32 0x3F800000#32)) (res_main_while0b_v121 V0)) : At F main_while0b_v131) = Step.b136 j s := by
  unfold Step.b136
  rw [← al_126 h]
  try rfl
theorem al_137 (h : Holds V0 s j) : (broadcastInDim S8x4x128 ![0, 1, 2] bcast_S1x4x128_S8x4x128_0_1_2 (broadcastInDim S1x4x128 ![1, 2] bcast_S4x128_S1x4x128_1_2 (subf (broadcastInDim S4x128 ![] bcast_S_S4x128 (constant S_ .f32 0x3F800000#32)) (res_main_while0b_v121 V0))) : At F main_while0b_v132) = Step.b137 j s := by
  unfold Step.b137
  rw [← al_136 h]
  try rfl
theorem al_138 (h : Holds V0 s j) : (mulf (broadcastInDim S8x4x128 ![0, 1, 2] bcast_S1x4x128_S8x4x128_0_1_2 (broadcastInDim S1x4x128 ![1, 2] bcast_S4x128_S1x4x128_1_2 (subf (broadcastInDim S4x128 ![] bcast_S_S4x128 (constant S_ .f32 0x3F800000#32)) (res_main_while0b_v121 V0)))) (Host.divf (broadcastInDim S8x4x128 ![] bcast_S_S8x4x128 (constant S_ .f32 0x3F800000#32)) (addf (broadcastInDim S8x4x128 ![] bcast_S_S8x4x128 (constant S_ .f32 0x3F800000#32)) (Host.exp (Host.negf (shapeCast S8x4x128 (extractStridedSlice S8x512 ![0, 2560] (res_main_while0b_v42 V0) slices_S8x4096_S8x512_0_2560) shapeCasts_S8x512_S8x4x128))))) : At F main_while0b_v133) = Step.b138 j s := by
  unfold Step.b138
  rw [← al_137 h, ← al_135 h]
  try rfl
theorem al_139 (h : Holds V0 s j) : (broadcastInDim S1x4x128 ![1, 2] bcast_S4x128_S1x4x128_1_2 (res_main_while0b_v121 V0) : At F main_while0b_v134) = Step.b139 j s := by
  unfold Step.b139
  rw [← al_123 h]
  try rfl
theorem al_140 (h : Holds V0 s j) : (broadcastInDim S8x4x128 ![0, 1, 2] bcast_S1x4x128_S8x4x128_0_1_2 (broadcastInDim S1x4x128 ![1, 2] bcast_S4x128_S1x4x128_1_2 (res_main_while0b_v121 V0)) : At F main_while0b_v135) = Step.b140 j s := by
  unfold Step.b140
  rw [← al_139 h]
  try rfl
theorem al_141 (h : Holds V0 s j) : (res_main_while0b_v136 V0 : At F main_while0b_v136) = Step.b141 j s := by
  unfold res_main_while0b_v136 Step.b141
  rw [← al_140 h, ← al_138 h]
  try rfl
theorem al_142 (h : Holds V0 s j) : (shapeCast S8x4x128 (extractStridedSlice S8x512 ![0, 3072] (res_main_while0b_v42 V0) slices_S8x4096_S8x512_0_3072) shapeCasts_S8x512_S8x4x128 : At F main_while0b_v137) = Step.b142 j s := by
  unfold Step.b142
  rw [← al_34 h]
  try rfl
theorem al_143 (h : Holds V0 s j) : (broadcastInDim S8x4x128x1 ![0, 1, 2] bcast_S8x4x128_S8x4x128x1_0_1_2 (broadcastInDim S8x4x128 ![0, 1, 2] bcast_S1x4x1_S8x4x128_0_1_2 (broadcastInDim S1x4x1 ![1] bcast_S4_S1x4x1_1 (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0))))))) : At F main_while0b_v138) = Step.b143 j s := by
  unfold Step.b143
  rw [← al_109 h]
  try rfl
theorem al_144 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (broadcastInDim S8x4x128 ![0, 1, 2] bcast_S1x4x1_S8x4x128_0_1_2 (broadcastInDim S1x4x1 ![1] bcast_S4_S1x4x1_1 (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) : At F main_while0b_v139) = Step.b144 j s := by
  unfold Step.b144
  rw [← al_143 h]
  try rfl
theorem al_145 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (broadcastInDim S8x4x128 ![0, 1, 2] bcast_S1x4x1_S8x4x128_0_1_2 (broadcastInDim S1x4x1 ![1] bcast_S4_S1x4x1_1 (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0))))))))) (V0 (Proc.devRef .tc main_v20_9)) : At F main_while0b_v140) = Step.b145 j s := by
  unfold Step.b145
  rw [← al_144 h, h.f_9]
  try rfl
theorem al_146 (h : Holds V0 s j) : (broadcastInDim S8x4x128x1 ![0, 1, 2] bcast_S8x4x128_S8x4x128x1_0_1_2 (mulf (concatenate S8x4x128 2 [⟨S8x4x64, (subf (mulf (res_main_while0b_v92 V0) (broadcastInDim S8x4x64 ![0, 1, 2] bcast_S1x1x64_S8x4x64_0_1_2 (res_main_while0b_v89 V0))) (mulf (res_main_while0b_v93 V0) (broadcastInDim S8x4x64 ![0, 1, 2] bcast_S1x1x64_S8x4x64_0_1_2 (res_main_while0b_v91 V0))))⟩, ⟨S8x4x64, (addf (mulf (res_main_while0b_v92 V0) (broadcastInDim S8x4x64 ![0, 1, 2] bcast_S1x1x64_S8x4x64_0_1_2 (res_main_while0b_v91 V0))) (mulf (res_main_while0b_v93 V0) (broadcastInDim S8x4x64 ![0, 1, 2] bcast_S1x1x64_S8x4x64_0_1_2 (res_main_while0b_v89 V0))))⟩] concatenates_S8x4x64_S8x4x64_S8x4x128_d2) (broadcastInDim S8x4x128 ![] bcast_S_S8x4x128 (constant S_ .f32 0x3DB504F3#32))) : At F main_while0b_v141) = Step.b146 j s := by
  unfold Step.b146
  rw [← al_96 h]
  try rfl
theorem al_147 (h : Holds V0 s j) : (broadcastInDim S8x4x1x128 ![0, 1, 3] bcast_S8x4x128_S8x4x1x128_0_1_3 (shapeCast S8x4x128 (extractStridedSlice S8x512 ![0, 1024] (res_main_while0b_v42 V0) slices_S8x4096_S8x512_0_1024) shapeCasts_S8x512_S8x4x128) : At F main_while0b_v142) = Step.b147 j s := by
  unfold Step.b147
  rw [← al_97 h]
  try rfl
theorem al_148 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (mulf (concatenate S8x4x128 2 [⟨S8x4x64, (subf (mulf (res_main_while0b_v92 V0) (broadcastInDim S8x4x64 ![0, 1, 2] bcast_S1x1x64_S8x4x64_0_1_2 (res_main_while0b_v89 V0))) (mulf (res_main_while0b_v93 V0) (broadcastInDim S8x4x64 ![0, 1, 2] bcast_S1x1x64_S8x4x64_0_1_2 (res_main_while0b_v91 V0))))⟩, ⟨S8x4x64, (addf (mulf (res_main_while0b_v92 V0) (broadcastInDim S8x4x64 ![0, 1, 2] bcast_S1x1x64_S8x4x64_0_1_2 (res_main_while0b_v91 V0))) (mulf (res_main_while0b_v93 V0) (broadcastInDim S8x4x64 ![0, 1, 2] bcast_S1x1x64_S8x4x64_0_1_2 (res_main_while0b_v89 V0))))⟩] concatenates_S8x4x64_S8x4x64_S8x4x128_d2) (broadcastInDim S8x4x128 ![] bcast_S_S8x4x128 (constant S_ .f32 0x3DB504F3#32)))) : At F main_while0b_v143) = Step.b148 j s := by
  unfold Step.b148
  rw [← al_146 h]
  try rfl
theorem al_149 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (extractStridedSlice S8x512 ![0, 1024] (res_main_while0b_v42 V0) slices_S8x4096_S8x512_0_1024) shapeCasts_S8x512_S8x4x128)) : At F main_while0b_v144) = Step.b149 j s := by
  unfold Step.b149
  rw [← al_147 h]
  try rfl
theorem al_150 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (mulf (concatenate S8x4x128 2 [⟨S8x4x64, (subf (mulf (res_main_while0b_v92 V0) (broadcastInDim S8x4x64 ![0, 1, 2] bcast_S1x1x64_S8x4x64_0_1_2 (res_main_while0b_v89 V0))) (mulf (res_main_while0b_v93 V0) (broadcastInDim S8x4x64 ![0, 1, 2] bcast_S1x1x64_S8x4x64_0_1_2 (res_main_while0b_v91 V0))))⟩, ⟨S8x4x64, (addf (mulf (res_main_while0b_v92 V0) (broadcastInDim S8x4x64 ![0, 1, 2] bcast_S1x1x64_S8x4x64_0_1_2 (res_main_while0b_v91 V0))) (mulf (res_main_while0b_v93 V0) (broadcastInDim S8x4x64 ![0, 1, 2] bcast_S1x1x64_S8x4x64_0_1_2 (res_main_while0b_v89 V0))))⟩] concatenates_S8x4x64_S8x4x64_S8x4x128_d2) (broadcastInDim S8x4x128 ![] bcast_S_S8x4x128 (constant S_ .f32 0x3DB504F3#32))))) (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (extractStridedSlice S8x512 ![0, 1024] (res_main_while0b_v42 V0) slices_S8x4096_S8x512_0_1024) shapeCasts_S8x512_S8x4x128))) : At F main_while0b_v145) = Step.b150 j s := by
  unfold Step.b150
  rw [← al_148 h, ← al_149 h]
  try rfl
theorem al_151 (h : Holds V0 s j) : (res_main_while0b_v146 V0 : At F main_while0b_v146) = Step.b151 j s := by
  unfold res_main_while0b_v146 Step.b151
  rw [← al_145 h, ← al_150 h]
  try rfl
theorem al_152 (h : Holds V0 s j) : (res_main_while0b_v147 V0 : At F main_while0b_v147) = Step.b152 j s := by
  unfold res_main_while0b_v147 Step.b152
  rw [← al_64 h, ← al_151 h]
  try rfl
theorem al_153 (h : Holds V0 s j) : (constant S_ .f32 0x3F800000#32 : At F main_while0b_cst_31) = Step.b153 j s := by
  unfold Step.b153
  rfl
theorem al_154 (h : Holds V0 s j) : (broadcastInDim S8x4x128 ![] bcast_S_S8x4x128 (constant S_ .f32 0x3F800000#32) : At F main_while0b_v148) = Step.b154 j s := by
  unfold Step.b154
  rw [← al_153 h]
  try rfl
theorem al_155 (h : Holds V0 s j) : (subf (broadcastInDim S8x4x128 ![] bcast_S_S8x4x128 (constant S_ .f32 0x3F800000#32)) (res_main_while0b_v136 V0) : At F main_while0b_v149) = Step.b155 j s := by
  unfold Step.b155
  rw [← al_154 h, ← al_141 h]
  try rfl
theorem al_156 (h : Holds V0 s j) : (broadcastInDim S8x4x128x1 ![0, 1, 2] bcast_S8x4x128_S8x4x128x1_0_1_2 (res_main_while0b_v136 V0) : At F main_while0b_v150) = Step.b156 j s := by
  unfold Step.b156
  rw [← al_141 h]
  try rfl
theorem al_157 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v136 V0)) : At F main_while0b_v151) = Step.b157 j s := by
  unfold Step.b157
  rw [← al_156 h]
  try rfl
theorem al_158 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v136 V0))) (V0 (Proc.devRef .tc main_v20_10)) : At F main_while0b_v152) = Step.b158 j s := by
  unfold Step.b158
  rw [← al_157 h, h.f_10]
  try rfl
theorem al_159 (h : Holds V0 s j) : (broadcastInDim S8x4x128x1 ![0, 1, 2] bcast_S8x4x128_S8x4x128x1_0_1_2 (subf (broadcastInDim S8x4x128 ![] bcast_S_S8x4x128 (constant S_ .f32 0x3F800000#32)) (res_main_while0b_v136 V0)) : At F main_while0b_v153) = Step.b159 j s := by
  unfold Step.b159
  rw [← al_155 h]
  try rfl
theorem al_160 (h : Holds V0 s j) : (broadcastInDim S8x4x1x128 ![0, 1, 3] bcast_S8x4x128_S8x4x1x128_0_1_3 (shapeCast S8x4x128 (extractStridedSlice S8x512 ![0, 3072] (res_main_while0b_v42 V0) slices_S8x4096_S8x512_0_3072) shapeCasts_S8x512_S8x4x128) : At F main_while0b_v154) = Step.b160 j s := by
  unfold Step.b160
  rw [← al_142 h]
  try rfl
theorem al_161 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (subf (broadcastInDim S8x4x128 ![] bcast_S_S8x4x128 (constant S_ .f32 0x3F800000#32)) (res_main_while0b_v136 V0))) : At F main_while0b_v155) = Step.b161 j s := by
  unfold Step.b161
  rw [← al_159 h]
  try rfl
theorem al_162 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (extractStridedSlice S8x512 ![0, 3072] (res_main_while0b_v42 V0) slices_S8x4096_S8x512_0_3072) shapeCasts_S8x512_S8x4x128)) : At F main_while0b_v156) = Step.b162 j s := by
  unfold Step.b162
  rw [← al_160 h]
  try rfl
theorem al_163 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (subf (broadcastInDim S8x4x128 ![] bcast_S_S8x4x128 (constant S_ .f32 0x3F800000#32)) (res_main_while0b_v136 V0)))) (broadcastInDim S8x4x128x128 ![0, 1, 2, 3] bcast_S8x4x1x128_S8x4x128x128_0_1_2_3 (broadcastInDim S8x4x1x128 ![0, 1, 3] bcast_S8x4x128_S8x4x1x128_0_1_3 (shapeCast S8x4x128 (extractStridedSlice S8x512 ![0, 3072] (res_main_while0b_v42 V0) slices_S8x4096_S8x512_0_3072) shapeCasts_S8x512_S8x4x128))) : At F main_while0b_v157) = Step.b163 j s := by
  unfold Step.b163
  rw [← al_161 h, ← al_162 h]
  try rfl
theorem al_164 (h : Holds V0 s j) : (res_main_while0b_v158 V0 : At F main_while0b_v158) = Step.b164 j s := by
  unfold res_main_while0b_v158 Step.b164
  rw [← al_158 h, ← al_163 h]
  try rfl
theorem al_165 (h : Holds V0 s j) : (res_main_while0b_v159 V0 : At F main_while0b_v159) = Step.b165 j s := by
  unfold res_main_while0b_v159 Step.b165
  rw [← al_122 h, ← al_164 h]
  try rfl
theorem al_166 (h : Holds V0 s j) : (Host.negf (res_main_while0b_v46 V0) : At F main_while0b_call4_v0) = Step.b166 j s := by
  unfold Step.b166
  rw [← al_31 h]
  try rfl
theorem al_167 (h : Holds V0 s j) : (Host.exp (Host.negf (res_main_while0b_v46 V0)) : At F main_while0b_call4_v1) = Step.b167 j s := by
  unfold Step.b167
  rw [← al_166 h]
  try rfl
theorem al_168 (h : Holds V0 s j) : (constant S_ .f32 0x3F800000#32 : At F main_while0b_call4_cst) = Step.b168 j s := by
  unfold Step.b168
  rfl
theorem al_169 (h : Holds V0 s j) : (broadcastInDim S8x512 ![] bcast_S_S8x512 (constant S_ .f32 0x3F800000#32) : At F main_while0b_call4_v2) = Step.b169 j s := by
  unfold Step.b169
  rw [← al_168 h]
  try rfl
theorem al_170 (h : Holds V0 s j) : (addf (broadcastInDim S8x512 ![] bcast_S_S8x512 (constant S_ .f32 0x3F800000#32)) (Host.exp (Host.negf (res_main_while0b_v46 V0))) : At F main_while0b_call4_v3) = Step.b170 j s := by
  unfold Step.b170
  rw [← al_169 h, ← al_167 h]
  try rfl
theorem al_171 (h : Holds V0 s j) : (constant S_ .f32 0x3F800000#32 : At F main_while0b_call4_cst_0) = Step.b171 j s := by
  unfold Step.b171
  rfl
theorem al_172 (h : Holds V0 s j) : (broadcastInDim S8x512 ![] bcast_S_S8x512 (constant S_ .f32 0x3F800000#32) : At F main_while0b_call4_v4) = Step.b172 j s := by
  unfold Step.b172
  rw [← al_171 h]
  try rfl
theorem al_173 (h : Holds V0 s j) : (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))) : At F main_while0b_call4_v5) = Step.b173 j s := by
  unfold Step.b173
  rw [← al_172 h, ← al_170 h]
  try rfl
theorem al_174 (h : Holds V0 s j) : (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0))))) : At F main_while0b_v160) = Step.b174 j s := by
  unfold Step.b174
  rw [← al_31 h, ← al_173 h]
  try rfl
theorem al_175 (h : Holds V0 s j) : (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128 : At F main_while0b_v161) = Step.b175 j s := by
  unfold Step.b175
  rw [← al_174 h]
  try rfl
theorem al_176 (h : Holds V0 s j) : (mulf (res_main_while0b_v147 V0) (res_main_while0b_v147 V0) : At F main_while0b_v162) = Step.b176 j s := by
  unfold Step.b176
  rw [← al_152 h]
  try rfl
theorem al_177 (h : Holds V0 s j) : (constant S_ .f32 0x00000000#32 : At F main_while0b_cst_32) = Step.b177 j s := by
  unfold Step.b177
  rfl
theorem al_178 (h : Holds V0 s j) : (Host.reduceAdd (mulf (res_main_while0b_v147 V0) (res_main_while0b_v147 V0)) (constant S_ .f32 0x00000000#32) reducesTo_S8x4x128_S8x4_d2 h_S_ : At F main_while0b_v163) = Step.b178 j s := by
  unfold Step.b178
  rw [← al_176 h, ← al_177 h]
  try rfl
theorem al_179 (h : Holds V0 s j) : (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_) : At F main_while0b_v164) = Step.b179 j s := by
  unfold Step.b179
  rw [← al_178 h]
  try rfl
theorem al_180 (h : Holds V0 s j) : (constant S_ .f32 0x43000000#32 : At F main_while0b_cst_33) = Step.b180 j s := by
  unfold Step.b180
  rfl
theorem al_181 (h : Holds V0 s j) : (broadcastInDim S8x4x1 ![] bcast_S_S8x4x1 (constant S_ .f32 0x43000000#32) : At F main_while0b_v165) = Step.b181 j s := by
  unfold Step.b181
  rw [← al_180 h]
  try rfl
theorem al_182 (h : Holds V0 s j) : (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32)) : At F main_while0b_v166) = Step.b182 j s := by
  unfold Step.b182
  rw [← al_179 h, ← al_181 h]
  try rfl
theorem al_183 (h : Holds V0 s j) : (constant S_ .f32 0x358637BD#32 : At F main_while0b_cst_34) = Step.b183 j s := by
  unfold Step.b183
  rfl
theorem al_184 (h : Holds V0 s j) : (broadcastInDim S8x4x1 ![] bcast_S_S8x4x1 (constant S_ .f32 0x358637BD#32) : At F main_while0b_v167) = Step.b184 j s := by
  unfold Step.b184
  rw [← al_183 h]
  try rfl
theorem al_185 (h : Holds V0 s j) : (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)) : At F main_while0b_v168) = Step.b185 j s := by
  unfold Step.b185
  rw [← al_182 h, ← al_184 h]
  try rfl
theorem al_186 (h : Holds V0 s j) : (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32))) : At F main_while0b_v169) = Step.b186 j s := by
  unfold Step.b186
  rw [← al_185 h]
  try rfl
theorem al_187 (h : Holds V0 s j) : (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))) : At F main_while0b_v170) = Step.b187 j s := by
  unfold Step.b187
  rw [← al_186 h]
  try rfl
theorem al_188 (h : Holds V0 s j) : (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32))))) : At F main_while0b_v171) = Step.b188 j s := by
  unfold Step.b188
  rw [← al_152 h, ← al_187 h]
  try rfl
theorem al_189 (h : Holds V0 s j) : (broadcastInDim S1x1x128 ![2] bcast_S128_S1x1x128_2 (shapeCast S128 (V0 (Proc.devRef .tc main_v20_4)) shapeCasts_S1x128_S128) : At F main_while0b_v172) = Step.b189 j s := by
  unfold Step.b189
  rw [← al_24 h]
  try rfl
theorem al_190 (h : Holds V0 s j) : (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)) : At F main_while0b_v173) = Step.b190 j s := by
  unfold Step.b190
  rw [← al_189 h]
  try rfl
theorem al_191 (h : Holds V0 s j) : (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128))) : At F main_while0b_v174) = Step.b191 j s := by
  unfold Step.b191
  rw [← al_188 h, ← al_190 h]
  try rfl
theorem al_192 (h : Holds V0 s j) : (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128) : At F main_while0b_v175) = Step.b192 j s := by
  unfold Step.b192
  rw [← al_191 h, ← al_175 h]
  try rfl
theorem al_193 (h : Holds V0 s j) : (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512 : At F main_while0b_v176) = Step.b193 j s := by
  unfold Step.b193
  rw [← al_192 h]
  try rfl
theorem al_194 (h : Holds V0 s j) : (Host.negf (res_main_while0b_v50 V0) : At F main_while0b_call5_v0) = Step.b194 j s := by
  unfold Step.b194
  rw [← al_35 h]
  try rfl
theorem al_195 (h : Holds V0 s j) : (Host.exp (Host.negf (res_main_while0b_v50 V0)) : At F main_while0b_call5_v1) = Step.b195 j s := by
  unfold Step.b195
  rw [← al_194 h]
  try rfl
theorem al_196 (h : Holds V0 s j) : (constant S_ .f32 0x3F800000#32 : At F main_while0b_call5_cst) = Step.b196 j s := by
  unfold Step.b196
  rfl
theorem al_197 (h : Holds V0 s j) : (broadcastInDim S8x512 ![] bcast_S_S8x512 (constant S_ .f32 0x3F800000#32) : At F main_while0b_call5_v2) = Step.b197 j s := by
  unfold Step.b197
  rw [← al_196 h]
  try rfl
theorem al_198 (h : Holds V0 s j) : (addf (broadcastInDim S8x512 ![] bcast_S_S8x512 (constant S_ .f32 0x3F800000#32)) (Host.exp (Host.negf (res_main_while0b_v50 V0))) : At F main_while0b_call5_v3) = Step.b198 j s := by
  unfold Step.b198
  rw [← al_197 h, ← al_195 h]
  try rfl
theorem al_199 (h : Holds V0 s j) : (constant S_ .f32 0x3F800000#32 : At F main_while0b_call5_cst_0) = Step.b199 j s := by
  unfold Step.b199
  rfl
theorem al_200 (h : Holds V0 s j) : (broadcastInDim S8x512 ![] bcast_S_S8x512 (constant S_ .f32 0x3F800000#32) : At F main_while0b_call5_v4) = Step.b200 j s := by
  unfold Step.b200
  rw [← al_199 h]
  try rfl
theorem al_201 (h : Holds V0 s j) : (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))) : At F main_while0b_call5_v5) = Step.b201 j s := by
  unfold Step.b201
  rw [← al_200 h, ← al_198 h]
  try rfl
theorem al_202 (h : Holds V0 s j) : (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0))))) : At F main_while0b_v177) = Step.b202 j s := by
  unfold Step.b202
  rw [← al_35 h, ← al_201 h]
  try rfl
theorem al_203 (h : Holds V0 s j) : (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128 : At F main_while0b_v178) = Step.b203 j s := by
  unfold Step.b203
  rw [← al_202 h]
  try rfl
theorem al_204 (h : Holds V0 s j) : (mulf (res_main_while0b_v159 V0) (res_main_while0b_v159 V0) : At F main_while0b_v179) = Step.b204 j s := by
  unfold Step.b204
  rw [← al_165 h]
  try rfl
theorem al_205 (h : Holds V0 s j) : (constant S_ .f32 0x00000000#32 : At F main_while0b_cst_35) = Step.b205 j s := by
  unfold Step.b205
  rfl
theorem al_206 (h : Holds V0 s j) : (Host.reduceAdd (mulf (res_main_while0b_v159 V0) (res_main_while0b_v159 V0)) (constant S_ .f32 0x00000000#32) reducesTo_S8x4x128_S8x4_d2 h_S_ : At F main_while0b_v180) = Step.b206 j s := by
  unfold Step.b206
  rw [← al_204 h, ← al_205 h]
  try rfl
theorem al_207 (h : Holds V0 s j) : (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_) : At F main_while0b_v181) = Step.b207 j s := by
  unfold Step.b207
  rw [← al_206 h]
  try rfl
theorem al_208 (h : Holds V0 s j) : (constant S_ .f32 0x43000000#32 : At F main_while0b_cst_36) = Step.b208 j s := by
  unfold Step.b208
  rfl
theorem al_209 (h : Holds V0 s j) : (broadcastInDim S8x4x1 ![] bcast_S_S8x4x1 (constant S_ .f32 0x43000000#32) : At F main_while0b_v182) = Step.b209 j s := by
  unfold Step.b209
  rw [← al_208 h]
  try rfl
theorem al_210 (h : Holds V0 s j) : (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32)) : At F main_while0b_v183) = Step.b210 j s := by
  unfold Step.b210
  rw [← al_207 h, ← al_209 h]
  try rfl
theorem al_211 (h : Holds V0 s j) : (constant S_ .f32 0x358637BD#32 : At F main_while0b_cst_37) = Step.b211 j s := by
  unfold Step.b211
  rfl
theorem al_212 (h : Holds V0 s j) : (broadcastInDim S8x4x1 ![] bcast_S_S8x4x1 (constant S_ .f32 0x358637BD#32) : At F main_while0b_v184) = Step.b212 j s := by
  unfold Step.b212
  rw [← al_211 h]
  try rfl
theorem al_213 (h : Holds V0 s j) : (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)) : At F main_while0b_v185) = Step.b213 j s := by
  unfold Step.b213
  rw [← al_210 h, ← al_212 h]
  try rfl
theorem al_214 (h : Holds V0 s j) : (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32))) : At F main_while0b_v186) = Step.b214 j s := by
  unfold Step.b214
  rw [← al_213 h]
  try rfl
theorem al_215 (h : Holds V0 s j) : (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))) : At F main_while0b_v187) = Step.b215 j s := by
  unfold Step.b215
  rw [← al_214 h]
  try rfl
theorem al_216 (h : Holds V0 s j) : (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32))))) : At F main_while0b_v188) = Step.b216 j s := by
  unfold Step.b216
  rw [← al_165 h, ← al_215 h]
  try rfl
theorem al_217 (h : Holds V0 s j) : (broadcastInDim S1x1x128 ![2] bcast_S128_S1x1x128_2 (shapeCast S128 (V0 (Proc.devRef .tc main_v20_5)) shapeCasts_S1x128_S128) : At F main_while0b_v189) = Step.b217 j s := by
  unfold Step.b217
  rw [← al_25 h]
  try rfl
theorem al_218 (h : Holds V0 s j) : (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)) : At F main_while0b_v190) = Step.b218 j s := by
  unfold Step.b218
  rw [← al_217 h]
  try rfl
theorem al_219 (h : Holds V0 s j) : (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128))) : At F main_while0b_v191) = Step.b219 j s := by
  unfold Step.b219
  rw [← al_216 h, ← al_218 h]
  try rfl
theorem al_220 (h : Holds V0 s j) : (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128) : At F main_while0b_v192) = Step.b220 j s := by
  unfold Step.b220
  rw [← al_219 h, ← al_203 h]
  try rfl
theorem al_221 (h : Holds V0 s j) : (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512 : At F main_while0b_v193) = Step.b221 j s := by
  unfold Step.b221
  rw [← al_220 h]
  try rfl
theorem al_222 (h : Holds V0 s j) : (concatenate S8x1024 1 [⟨S8x512, (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512)⟩, ⟨S8x512, (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512)⟩] concatenates_S8x512_S8x512_S8x1024_d1 : At F main_while0b_v194) = Step.b222 j s := by
  unfold Step.b222
  rw [← al_193 h, ← al_221 h]
  try rfl
theorem al_223 (h : Holds V0 s j) : (Host.dotGeneral dot_S8x1024_S1024x1024_S8x1024_1_0_0_1_n_n none (concatenate S8x1024 1 [⟨S8x512, (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512)⟩, ⟨S8x512, (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512)⟩] concatenates_S8x512_S8x512_S8x1024_d1) (shapeCast S1024x1024 (V0 (Proc.devRef .tc main_v20_6)) shapeCasts_S1x1024x1024_S1024x1024) : At F main_while0b_v195) = Step.b223 j s := by
  unfold Step.b223
  rw [← al_222 h, ← al_26 h]
  try rfl
theorem al_224 (h : Holds V0 s j) : (addf (res_main_while0b_v22 V0) (Host.dotGeneral dot_S8x1024_S1024x1024_S8x1024_1_0_0_1_n_n none (concatenate S8x1024 1 [⟨S8x512, (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512)⟩, ⟨S8x512, (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512)⟩] concatenates_S8x512_S8x512_S8x1024_d1) (shapeCast S1024x1024 (V0 (Proc.devRef .tc main_v20_6)) shapeCasts_S1x1024x1024_S1024x1024)) : At F main_while0b_v196) = Step.b224 j s := by
  unfold Step.b224
  rw [← al_3 h, ← al_223 h]
  try rfl
theorem al_225 (h : Holds V0 s j) : (broadcastInDim S1x8x1024 ![1, 2] bcast_S8x1024_S1x8x1024_1_2 (addf (res_main_while0b_v22 V0) (Host.dotGeneral dot_S8x1024_S1024x1024_S8x1024_1_0_0_1_n_n none (concatenate S8x1024 1 [⟨S8x512, (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512)⟩, ⟨S8x512, (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512)⟩] concatenates_S8x512_S8x512_S8x1024_d1) (shapeCast S1024x1024 (V0 (Proc.devRef .tc main_v20_6)) shapeCasts_S1x1024x1024_S1024x1024))) : At F main_while0b_call6_v0) = Step.b225 j s := by
  unfold Step.b225
  rw [← al_224 h]
  try rfl
theorem al_226 (h : Holds V0 s j) : (constantI S_ 32 0#32 : At F main_while0b_call6_c) = Step.b226 j s := by
  unfold Step.b226
  rfl
theorem al_227 (h : Holds V0 s j) : (constantI S_ 32 0#32 : At F main_while0b_call6_c_0) = Step.b227 j s := by
  unfold Step.b227
  rfl
theorem al_228 (h : Holds V0 s j) : (Host.dynamicUpdateSlice (V0 (Proc.devRef .tc main_v20_11)) (broadcastInDim S1x8x1024 ![1, 2] bcast_S8x1024_S1x8x1024_1_2 (addf (res_main_while0b_v22 V0) (Host.dotGeneral dot_S8x1024_S1024x1024_S8x1024_1_0_0_1_n_n none (concatenate S8x1024 1 [⟨S8x512, (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512)⟩, ⟨S8x512, (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512)⟩] concatenates_S8x512_S8x512_S8x1024_d1) (shapeCast S1024x1024 (V0 (Proc.devRef .tc main_v20_6)) shapeCasts_S1x1024x1024_S1024x1024)))) (fun k => (((![V0 (Proc.devRef .tc main_v20_8), constantI S_ 32 0#32, constantI S_ 32 0#32] : Fin 3 → (⟨S_, .i32⟩ : BufTy).Contents (Elt F))) k (Shape.Idx.first h_S_)).toInt) updateFits_S2048x8x1024_S1x8x1024 : At F main_while0b_v197) = Step.b228 j s := by
  unfold Step.b228
  rw [← al_225 h, ← al_226 h, ← al_227 h, h.f_11, h.n_8]
  try rfl

/-! One trip's step of the carried values is `step`, field by field; a counter steps to the next number. -/

theorem step_9 (h : Holds V0 s j) : step_main_v20_9 V0 = (step j s).main_v20_9 := by
  unfold step_main_v20_9 Step.step
  show id (res_main_while0b_v146 V0) = _
  rw [al_151 h]
  try rfl
theorem step_10 (h : Holds V0 s j) : step_main_v20_10 V0 = (step j s).main_v20_10 := by
  unfold step_main_v20_10 Step.step
  show id (res_main_while0b_v158 V0) = _
  rw [al_164 h]
  try rfl
theorem step_11 (h : Holds V0 s j) : step_main_v20_11 V0 = (step j s).main_v20_11 := by
  unfold step_main_v20_11 Step.step
  show id (Host.dynamicUpdateSlice (V0 (Proc.devRef .tc main_v20_11)) (broadcastInDim S1x8x1024 ![1, 2] bcast_S8x1024_S1x8x1024_1_2 (addf (res_main_while0b_v22 V0) (Host.dotGeneral dot_S8x1024_S1024x1024_S8x1024_1_0_0_1_n_n none (concatenate S8x1024 1 [⟨S8x512, (shapeCast S8x512 (mulf (mulf (mulf (res_main_while0b_v147 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v147 V0) (res_main_while0b_v147 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_4)) shapeCasts_S1x128_S128)))) (shapeCast S8x4x128 (mulf (res_main_while0b_v46 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v46 V0)))))) shapeCasts_S8x512_S8x4x128)) shapeCasts_S8x4x128_S8x512)⟩, ⟨S8x512, (shapeCast S8x512 (mulf (mulf (mulf (res_main_while0b_v159 V0) (broadcastInDim S8x4x128 ![0, 1, 2] bcast_S8x4x1_S8x4x128_0_1_2 (Host.rsqrt (addf (Host.divf (broadcastInDim S8x4x1 ![0, 1] bcast_S8x4_S8x4x1_0_1 (Host.reduceAdd (mulf (res_main_while0b_v159 V0) (res_main_while0b_v159 V0)) (constant S_ .f32 0x00000000#32) reducesTo_S8x4x128_S8x4_d2 h_S_)) (broadcastInDim S8x4x1 ![] bcast_S_S8x4x1 (constant S_ .f32 0x43000000#32))) (broadcastInDim S8x4x1 ![] bcast_S_S8x4x1 (constant S_ .f32 0x358637BD#32)))))) (broadcastInDim S8x4x128 ![0, 1, 2] bcast_S1x1x128_S8x4x128_0_1_2 (broadcastInDim S1x1x128 ![2] bcast_S128_S1x1x128_2 (shapeCast S128 (V0 (Proc.devRef .tc main_v20_5)) shapeCasts_S1x128_S128)))) (shapeCast S8x4x128 (mulf (res_main_while0b_v50 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v50 V0)))))) shapeCasts_S8x512_S8x4x128)) shapeCasts_S8x4x128_S8x512)⟩] concatenates_S8x512_S8x512_S8x1024_d1) (shapeCast S1024x1024 (V0 (Proc.devRef .tc main_v20_6)) shapeCasts_S1x1024x1024_S1024x1024)))) (fun k => (((![V0 (Proc.devRef .tc main_v20_8), constantI S_ 32 0#32, constantI S_ 32 0#32] : Fin 3 → (⟨S_, .i32⟩ : BufTy).Contents (Elt F))) k (Shape.Idx.first h_S_)).toInt) updateFits_S2048x8x1024_S1x8x1024) = _
  exact al_228 h
theorem step_8 (h : Holds V0 s j) : step_main_v20_8 V0 = constantI S_ 32 (BitVec.ofNat 32 (j + 1)) := by
  unfold step_main_v20_8
  rw [h.n_8]
  funext i
  show BitVec.ofNat 32 j + 1#32 = BitVec.ofNat 32 (j + 1)
  simp only [BitVec.ofNat_add]

theorem out_main_v21_holds (h : Holds V0 s j) : out_main_v21 V0 = Step.R_main_v21 s := by
  unfold out_main_v21 Step.R_main_v21
  rw [h.f_11]
  try rfl

/-- One trip keeps the valuation holding: `step` of the state, the same set-up values, the next number. -/
theorem holds_step (h : Holds V0 s j) : Holds (STEP V0) (step j s) (j + 1) where
  f_9 := (STEP_main_v20_9 V0).trans (step_9 h)
  f_10 := (STEP_main_v20_10 V0).trans (step_10 h)
  f_11 := (STEP_main_v20_11 V0).trans (step_11 h)
  n_8 := (STEP_main_v20_8 V0).trans (step_8 h)
  k_1 := (STEP_main_v20_1 V0).trans h.k_1
  f_0 := (STEP_main_v20_0 V0).trans h.f_0
  f_2 := (STEP_main_v20_2 V0).trans h.f_2
  f_3 := (STEP_main_v20_3 V0).trans h.f_3
  f_4 := (STEP_main_v20_4 V0).trans h.f_4
  f_5 := (STEP_main_v20_5 V0).trans h.f_5
  f_6 := (STEP_main_v20_6 V0).trans h.f_6
  f_7 := (STEP_main_v20_7 V0).trans h.f_7

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg0)) (m ((c.tc : Thread nD τ).loc main_arg5))

variable (m : (ℓ : Loc nD τ sig) → Buf (Elt F) ℓ) (c : Dev nD)

set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `PromptRefIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v21) = Step.R_main_v21 (it c 2048)
      ∧ r.2.mem ((c.tc : Thread nD τ).loc main_v20_9) = (it c 2048).main_v20_9
      ∧ r.2.mem ((c.tc : Thread nD τ).loc main_v20_10) = (it c 2048).main_v20_10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 2048
    ⟨(h c).1.trans (out_main_v21_holds hk), (h c).2.1.trans hk.f_9, (h c).2.2.1.trans hk.f_10, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.PromptRefIdeal.StepRun2

end
-- ==== Proof.PromptReference.lean ====
/-
  The reference's scan over the layer's numbers: after `n` trips the states carried are the recurrences' states after `n` rows and the
  rows written are the layer's rows.
-/
module

public import proofs.«01_k».proof.Proof.Base
public import proofs.«01_k».proof.Proof.PromptLayer
public import proofs.«01_k».proof.Proof.Gen.PromptRefIdeal.Step
public import proofs.«01_k».proof.Proof.PromptSteps
public import Idealize.ShloMosaic.Lib.Pointwise.Reduce
public import Idealize.ShloMosaic.Lib.Pointwise.ShapeOpsCore
public import Idealize.ShloMosaic.Lib.StackMember
public import Idealize.ShloMosaic.Lib.KernelVsHost

@[expose] public section

set_option synthInstance.maxSize 4096

noncomputable section

open Idealize.ShloMosaic hiding ix1 ix2 ix3 ix4 eq_ix2 eq_ix3
open Idealize.ShloMosaic.TcCoe Idealize.SL.Sem Idealize.ShloMosaic.ValueIdx
open scoped BigOperators

namespace Cert.Proof.PromptReference

open Idealize.ShloMosaic.StackMember Cert.Proof.Base Cert.Proof.Prompt Cert.PromptRefIdeal Cert.PromptRefIdeal.Gen Cert.PromptRefIdeal.Step

/-- What the scan holds after `n` trips. -/
structure Held (I : Inp) (n : ℕ) (s : State Ideal) : Prop where
  /-- The rows that come in. -/
  x : ∀ t b k, s.main_v20_0 (ix3 t b k) = I.x (ix3 b t k)
  /-- The norm's weights. -/
  nw : ∀ k, s.main_v20_2 (ix2 0 k) = I.nw (ix2 0 k)
  /-- The projection in. -/
  wi : ∀ k c, s.main_v20_3 (ix3 0 k c) = I.wi (ix3 0 k c)
  /-- The retention heads' norm weights. -/
  rw : ∀ e, s.main_v20_4 (ix2 0 e) = I.rw (ix2 0 e)
  /-- The gated heads' norm weights. -/
  hw : ∀ e, s.main_v20_5 (ix2 0 e) = I.hw (ix2 0 e)
  /-- The projection out. -/
  wo : ∀ k c, s.main_v20_6 (ix3 0 k c) = I.wo (ix3 0 k c)
  /-- The gates' lower bounds. -/
  lb : ∀ i, s.main_v20_7 (ix1 i) = ((lbr I i : ℝ) : EReal)
  /-- The retention states. -/
  sr : ∀ b h d e, s.main_v20_9 (ix4 b h d e) = ((SR I b h n e d : ℝ) : EReal)
  /-- The gated states. -/
  sg : ∀ b h d e, s.main_v20_10 (ix4 b h d e) = ((SG I b h n e d : ℝ) : EReal)
  /-- The rows that came out. -/
  ys : ∀ (t : Fin 2048) b c, t.val < n → s.main_v20_11 (ix3 t b c) = yrow I b t c

/-- A small word's number. -/
theorem toInt_small (n : ℕ) (hn : n < 2048) : (BitVec.ofNat 32 n).toInt = (n : Int) := by
  have h : (BitVec.ofNat 32 n).toNat = n := by rw [BitVec.toNat_ofNat]; exact Nat.mod_eq_of_lt (by omega)
  rw [BitVec.toInt_eq_toNat_of_lt (by omega), h]

/-- Heads cut out of lanes. -/
theorem heads (x : FVec Ideal S8x512 .f32) (hc : S8x512.ShapeCasts S8x4x128) (b : Fin 8) (h : Fin 4) (d : Fin 128) :
    shapeCast S8x4x128 x hc (ix3 b h d) = x (ix2 b (lane h d)) :=
  shapeCast_apply (s := S8x512) x _ _ _ (by
    rw [Shape.rowMajor_val_two, Shape.rowMajor_val_three]
    show b.val * 512 + (128 * h.val + d.val) = (b.val * 4 + h.val) * 128 + d.val
    omega)

/-- Heads laid side by side. -/
theorem lanes (x : FVec Ideal S8x4x128 .f32) (hc : S8x4x128.ShapeCasts S8x512) (b : Fin 8) (h : Fin 4) (d : Fin 128) :
    shapeCast S8x512 x hc (ix2 b (lane h d)) = x (ix3 b h d) :=
  shapeCast_apply (s := S8x4x128) x _ _ _ (by
    rw [Shape.rowMajor_val_two, Shape.rowMajor_val_three]
    show (b.val * 4 + h.val) * 128 + d.val = b.val * 512 + (128 * h.val + d.val)
    omega)

/-- Queries against states. -/
theorem readState (q : FVec Ideal S8x4x128 .f32) (S : FVec Ideal S8x4x128x128 .f32) (b : Fin 8) (h : Fin 4) (e : Fin 128) :
    Host.dotGeneral dot_S8x4x128_S8x4x128x128_S8x4x128_2_2_n_3_01_01 none q S (ix3 b h e) = ∑ d : Fin 128, q (ix3 b h d) * S (ix4 b h d e) := by
  show FloatOps.dotGeneral _ none _ q S _ = _
  rw [Ideal.dotGeneral_apply, ← Equiv.sum_comp (contrEquiv1 dot_S8x4x128_S8x4x128x128_S8x4x128_2_2_n_3_01_01 128 rfl rfl).symm]
  refine Finset.sum_congr rfl fun d _ => ?_
  have c3 := contrEquiv1_symm_val dot_S8x4x128_S8x4x128x128_S8x4x128_2_2_n_3_01_01 128 rfl rfl d
  refine congr (congrArg (fun a b : EReal => a * b) (congrArg q ?_)) (congrArg S ?_)
  · funext ax
    apply Fin.ext
    match ax with
    | ⟨0, _⟩ => rfl
    | ⟨1, _⟩ => rfl
    | ⟨2, _⟩ => exact c3
  · funext ax
    apply Fin.ext
    match ax with
    | ⟨0, _⟩ => rfl
    | ⟨1, _⟩ => rfl
    | ⟨2, _⟩ => exact c3
    | ⟨3, _⟩ => rfl

/-- A row's table over the heads. -/
theorem table (C : FVec Ideal S64 .f32) (b : Fin 8) (h : Fin 4) (i : Fin 64) :
    broadcastInDim S8x4x64 ![0, 1, 2] bcast_S1x1x64_S8x4x64_0_1_2 (broadcastInDim S1x1x64 ![2] bcast_S64_S1x1x64_2 C) (ix3 b h i) = C (ix1 i) := by
  refine (broadcastInDim_apply _ _ _ _ (ix3 0 0 i) fun a => ?_).trans (broadcastInDim_apply _ _ _ _ (ix1 i) fun a => ?_)
  · match a with
    | ⟨0, _⟩ => rfl
    | ⟨1, _⟩ => rfl
    | ⟨2, _⟩ => rfl
  · match a with
    | ⟨0, _⟩ => rfl

/-- The rotary turn of every head. -/
theorem turn_val (X : FVec Ideal S8x4x128 .f32) (C S : FVec Ideal S64 .f32) (f : Fin 128 → ℝ) (n : ℕ) (b : Fin 8) (h : Fin 4)
    (hX : ∀ d, X (ix3 b h d) = ((f d : ℝ) : EReal)) (hC : ∀ i : Fin 64, C (ix1 i) = ((Real.cos (ang n i.val) : ℝ) : EReal))
    (hS : ∀ i : Fin 64, S (ix1 i) = ((Real.sin (ang n i.val) : ℝ) : EReal)) (d : Fin 128) :
    concatenate S8x4x128 2 [⟨S8x4x64, subf (mulf (extractStridedSlice S8x4x64 ![0, 0, 0] X slices_S8x4x128_S8x4x64_0_0_0) (broadcastInDim S8x4x64 ![0, 1, 2] bcast_S1x1x64_S8x4x64_0_1_2 (broadcastInDim S1x1x64 ![2] bcast_S64_S1x1x64_2 C)))
        (mulf (extractStridedSlice S8x4x64 ![0, 0, 64] X slices_S8x4x128_S8x4x64_0_0_64) (broadcastInDim S8x4x64 ![0, 1, 2] bcast_S1x1x64_S8x4x64_0_1_2 (broadcastInDim S1x1x64 ![2] bcast_S64_S1x1x64_2 S)))⟩,
      ⟨S8x4x64, addf (mulf (extractStridedSlice S8x4x64 ![0, 0, 0] X slices_S8x4x128_S8x4x64_0_0_0) (broadcastInDim S8x4x64 ![0, 1, 2] bcast_S1x1x64_S8x4x64_0_1_2 (broadcastInDim S1x1x64 ![2] bcast_S64_S1x1x64_2 S)))
        (mulf (extractStridedSlice S8x4x64 ![0, 0, 64] X slices_S8x4x128_S8x4x64_0_0_64) (broadcastInDim S8x4x64 ![0, 1, 2] bcast_S1x1x64_S8x4x64_0_1_2 (broadcastInDim S1x1x64 ![2] bcast_S64_S1x1x64_2 C)))⟩]
      concatenates_S8x4x64_S8x4x64_S8x4x128_d2 (ix3 b h d) = ((turn f n d : ℝ) : EReal) := by
  have lo (i : Fin 64) : extractStridedSlice S8x4x64 ![0, 0, 0] X slices_S8x4x128_S8x4x64_0_0_0 (ix3 b h i) = ((f ⟨i.val, by omega⟩ : ℝ) : EReal) :=
    (extractStridedSlice_apply (s := S8x4x128) (t := S8x4x64) _ X _ _ (ix3 b h ⟨i.val, by omega⟩) (fun a => match a with
      | ⟨0, _⟩ => (Nat.zero_add _).symm
      | ⟨1, _⟩ => (Nat.zero_add _).symm
      | ⟨2, _⟩ => (Nat.zero_add _).symm)).trans (hX _)
  have hi (i : Fin 64) : extractStridedSlice S8x4x64 ![0, 0, 64] X slices_S8x4x128_S8x4x64_0_0_64 (ix3 b h i) = ((f ⟨i.val + 64, by omega⟩ : ℝ) : EReal) :=
    (extractStridedSlice_apply (s := S8x4x128) (t := S8x4x64) _ X _ _ (ix3 b h ⟨i.val + 64, by omega⟩) (fun a => match a with
      | ⟨0, _⟩ => (Nat.zero_add _).symm
      | ⟨1, _⟩ => (Nat.zero_add _).symm
      | ⟨2, _⟩ => Nat.add_comm _ _)).trans (hX _)
  unfold turn
  by_cases hd : d.val < 64
  · rw [dif_pos hd]
    refine (concatenate_pair_apply_left (t := S8x4x128) (s₁ := S8x4x64) (s₂ := S8x4x64) 2 _ _ _ _ rfl (ix3 b h ⟨d.val, hd⟩) (fun a => match a with
      | ⟨0, _⟩ => rfl
      | ⟨1, _⟩ => rfl
      | ⟨2, _⟩ => rfl)).trans ?_
    show extractStridedSlice S8x4x64 ![0, 0, 0] X slices_S8x4x128_S8x4x64_0_0_0 (ix3 b h ⟨d.val, hd⟩) * broadcastInDim S8x4x64 ![0, 1, 2] bcast_S1x1x64_S8x4x64_0_1_2 (broadcastInDim S1x1x64 ![2] bcast_S64_S1x1x64_2 C) (ix3 b h ⟨d.val, hd⟩)
      - extractStridedSlice S8x4x64 ![0, 0, 64] X slices_S8x4x128_S8x4x64_0_0_64 (ix3 b h ⟨d.val, hd⟩) * broadcastInDim S8x4x64 ![0, 1, 2] bcast_S1x1x64_S8x4x64_0_1_2 (broadcastInDim S1x1x64 ![2] bcast_S64_S1x1x64_2 S) (ix3 b h ⟨d.val, hd⟩) = _
    rw [lo, hi, table, table, hC, hS, EReal.coe_sub, EReal.coe_mul, EReal.coe_mul]
  · rw [dif_neg hd]
    refine (concatenate_pair_apply_right (t := S8x4x128) (s₁ := S8x4x64) (s₂ := S8x4x64) 2 _ _ _ _ rfl rfl (ix3 b h ⟨d.val - 64, by omega⟩) (fun a => match a with
      | ⟨0, _⟩ => fun _ => rfl
      | ⟨1, _⟩ => fun _ => rfl
      | ⟨2, _⟩ => fun hne => absurd rfl hne) (by show d.val - 64 + 64 = d.val; omega)).trans ?_
    show extractStridedSlice S8x4x64 ![0, 0, 0] X slices_S8x4x128_S8x4x64_0_0_0 (ix3 b h ⟨d.val - 64, _⟩) * broadcastInDim S8x4x64 ![0, 1, 2] bcast_S1x1x64_S8x4x64_0_1_2 (broadcastInDim S1x1x64 ![2] bcast_S64_S1x1x64_2 S) (ix3 b h ⟨d.val - 64, _⟩)
      + extractStridedSlice S8x4x64 ![0, 0, 64] X slices_S8x4x128_S8x4x64_0_0_64 (ix3 b h ⟨d.val - 64, _⟩) * broadcastInDim S8x4x64 ![0, 1, 2] bcast_S1x1x64_S8x4x64_0_1_2 (broadcastInDim S1x1x64 ![2] bcast_S64_S1x1x64_2 C) (ix3 b h ⟨d.val - 64, _⟩) = _
    rw [lo, hi, table, table, hC, hS, EReal.coe_add, EReal.coe_mul, EReal.coe_mul]
    refine congrArg (fun k : Fin 128 => ((f ⟨d.val - 64, by omega⟩ : ℝ) : EReal) * _ + ((f k : ℝ) : EReal) * _) (Fin.ext ?_)
    show d.val - 64 + 64 = d.val
    omega

/-- A head's row under its norm. -/
theorem norm_val (o : FVec Ideal S8x4x128 .f32) (w : FVec Ideal S128 .f32) (b : Fin 8) (h : Fin 4) (f : Fin 128 → EReal)
    (ho : ∀ e, o (ix3 b h e) = f e) (e : Fin 128) :
    mulf (mulf o (broadcastInDim S8x4x128 ![0, 1, 2] bcast_S8x4x1_S8x4x128_0_1_2 (Host.rsqrt (addf (Host.divf (broadcastInDim S8x4x1 ![0, 1] bcast_S8x4_S8x4x1_0_1
        (Host.reduceAdd (mulf o o) (constant (F := Ideal) S_ .f32 0x00000000#32) reducesTo_S8x4x128_S8x4_d2 h_S_)) (broadcastInDim S8x4x1 ![] bcast_S_S8x4x1 (constant (F := Ideal) S_ .f32 0x43000000#32)))
        (broadcastInDim S8x4x1 ![] bcast_S_S8x4x1 (constant (F := Ideal) S_ .f32 0x358637BD#32))))))
      (broadcastInDim S8x4x128 ![0, 1, 2] bcast_S1x1x128_S8x4x128_0_1_2 (broadcastInDim S1x1x128 ![2] bcast_S128_S1x1x128_2 w)) (ix3 b h e)
    = rms 0x43000000#32 0x358637BD#32 f (fun e => w (ix1 e)) e := by
  have hsum : Host.reduceAdd (mulf o o) (constant (F := Ideal) S_ .f32 0x00000000#32) reducesTo_S8x4x128_S8x4_d2 h_S_ (ix2 b h) = ∑ k, f k * f k := by
    refine (Ideal.hostReduceAdd_r3_a2 _ _ _ _).trans ?_
    refine (congrArg (· + _) (show _ = (0 : EReal) by show Ideal.ofBits .f32 0x00000000#32 = 0; simp [Ideal.ofBits, Ideal.ieee])).trans ?_
    rw [zero_add]
    refine Finset.sum_congr rfl fun k _ => ?_
    show o (ix3 b h k) * o (ix3 b h k) = _
    rw [ho]
  have hfac : broadcastInDim S8x4x128 ![0, 1, 2] bcast_S8x4x1_S8x4x128_0_1_2 (Host.rsqrt (addf (Host.divf (broadcastInDim S8x4x1 ![0, 1] bcast_S8x4_S8x4x1_0_1
        (Host.reduceAdd (mulf o o) (constant (F := Ideal) S_ .f32 0x00000000#32) reducesTo_S8x4x128_S8x4_d2 h_S_)) (broadcastInDim S8x4x1 ![] bcast_S_S8x4x1 (constant (F := Ideal) S_ .f32 0x43000000#32)))
        (broadcastInDim S8x4x1 ![] bcast_S_S8x4x1 (constant (F := Ideal) S_ .f32 0x358637BD#32)))) (ix3 b h e) = rmsFac 0x43000000#32 0x358637BD#32 f := by
    refine (broadcastInDim_apply _ _ _ _ (ix3 b h 0) (fun a => match a with
      | ⟨0, _⟩ => rfl
      | ⟨1, _⟩ => rfl
      | ⟨2, _⟩ => rfl)).trans ?_
    unfold rmsFac
    refine congrArg (fun z : EReal => Ideal.rsqrt (Ideal.div z _ + _)) ?_
    exact (broadcastInDim_apply _ _ _ _ (ix2 b h) (fun a => match a with
      | ⟨0, _⟩ => rfl
      | ⟨1, _⟩ => rfl)).trans hsum
  have hw : broadcastInDim S8x4x128 ![0, 1, 2] bcast_S1x1x128_S8x4x128_0_1_2 (broadcastInDim S1x1x128 ![2] bcast_S128_S1x1x128_2 w) (ix3 b h e) = w (ix1 e) := by
    refine (broadcastInDim_apply _ _ _ _ (ix3 0 0 e) fun a => ?_).trans (broadcastInDim_apply _ _ _ _ (ix1 e) fun a => ?_)
    · match a with
      | ⟨0, _⟩ => rfl
      | ⟨1, _⟩ => rfl
      | ⟨2, _⟩ => rfl
    · match a with
      | ⟨0, _⟩ => rfl
  exact congr (congrArg (fun a b : EReal => a * b) (congr (congrArg (fun a b : EReal => a * b) (ho e)) hfac)) hw

/-- Keys over the value lanes. -/
theorem alongKeys (x : FVec Ideal S8x4x128 .f32) (b : Fin 8) (h : Fin 4) (d e : Fin 128) :
    broadcastInDim S8x4x128x128 ![0, 1, 2, 3] bcast_S8x4x128x1_S8x4x128x128_0_1_2_3 (broadcastInDim S8x4x128x1 ![0, 1, 2] bcast_S8x4x128_S8x4x128x1_0_1_2 x) (ix4 b h d e) = x (ix3 b h d) := by
  refine (broadcastInDim_apply _ _ _ _ (ix4 b h d 0) fun a => ?_).trans (broadcastInDim_apply _ _ _ _ (ix3 b h d) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- Values over the key lanes. -/
theorem alongValues (x : FVec Ideal S8x4x128 .f32) (b : Fin 8) (h : Fin 4) (d e : Fin 128) :
    broadcastInDim S8x4x128x128 ![0, 1, 2, 3] bcast_S8x4x1x128_S8x4x128x128_0_1_2_3 (broadcastInDim S8x4x1x128 ![0, 1, 3] bcast_S8x4x128_S8x4x1x128_0_1_3 x) (ix4 b h d e) = x (ix3 b h e) := by
  refine (broadcastInDim_apply _ _ _ _ (ix4 b h 0 e) fun a => ?_).trans (broadcastInDim_apply _ _ _ _ (ix3 b h e) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A head table over the sequences. -/
theorem overSeqs (x : FVec Ideal S4x128 .f32) (b : Fin 8) (h : Fin 4) (d : Fin 128) :
    broadcastInDim S8x4x128 ![0, 1, 2] bcast_S1x4x128_S8x4x128_0_1_2 (broadcastInDim S1x4x128 ![1, 2] bcast_S4x128_S1x4x128_1_2 x) (ix3 b h d) = x (ix2 h d) := by
  refine (broadcastInDim_apply _ _ _ _ (ix3 0 h d) fun a => ?_).trans (broadcastInDim_apply _ _ _ _ (ix2 h d) fun a => ?_)
  · match a with
    | ⟨0, _⟩ => rfl
    | ⟨1, _⟩ => rfl
    | ⟨2, _⟩ => rfl
  · match a with
    | ⟨0, _⟩ => rfl
    | ⟨1, _⟩ => rfl

variable (I : Inp) (hI : I.Fine) (n : ℕ) (hn : n < 2048) (s : State Ideal) (hs : Held I n s)

include hs in
/-- The row that comes in. -/
theorem b3_val (b : Fin 8) (k : Fin 1024) : b3 n s (ix2 b k) = I.x (ix3 b ⟨n, hn⟩ k) := by
  refine (shapeCast_apply (s := S1x8x1024) (b2 n s) shapeCasts_S1x8x1024_S8x1024 (ix2 b k) (ix3 0 b k) (by
    rw [Shape.rowMajor_val_two, Shape.rowMajor_val_three]
    show (0 * 8 + b.val) * 1024 + k.val = b.val * 1024 + k.val
    omega)).trans ?_
  refine (Host.dynamicSlice_apply _ _ _ _).trans ((congrArg s.main_v20_0 (?_ : _ = ix3 ⟨n, hn⟩ b k)).trans (hs.x _ _ _))
  funext a
  apply Fin.ext
  match a with
  | ⟨0, _⟩ => exact (congrArg (· + 0) (Host.clampedStart_of_le _ _ _ n (toInt_small n hn) (by show n + 1 ≤ 2048; omega))).trans (Nat.add_zero _)
  | ⟨1, _⟩ => exact (congrArg (· + b.val) (Host.clampedStart_of_le _ _ _ 0 rfl (by show 0 + 8 ≤ 8; omega))).trans (Nat.zero_add _)
  | ⟨2, _⟩ => exact (congrArg (· + k.val) (Host.clampedStart_of_le _ _ _ 0 rfl (by show 0 + 1024 ≤ 1024; omega))).trans (Nat.zero_add _)

include hn in
/-- The row's number. -/
theorem b45_val (y : S_.Idx) : b45 n s y = (((n : ℕ) : ℝ) : EReal) := by
  have h5 : b5 n s y = BitVec.ofNat 32 n := by
    refine (shapeCast_apply (s := S1) (b4 n s) shapeCasts_S1_S_ y (ix1 0) (by
      have h0 : (S_.rowMajor y).val < 1 := (S_.rowMajor y).isLt
      rw [Shape.rowMajor_val_one]
      show 0 = _
      omega)).trans ?_
    refine (Host.dynamicSlice_apply _ _ _ _).trans ((congrArg (K_main_v17 (F := Ideal)) (?_ : _ = ix1 ⟨n, hn⟩)).trans ?_)
    · funext a
      apply Fin.ext
      match a with
      | ⟨0, _⟩ => exact (congrArg (· + 0) (Host.clampedStart_of_le _ _ _ n (toInt_small n hn) (by show n + 1 ≤ 2048; omega))).trans (Nat.add_zero _)
    · show 0#32 + BitVec.ofNat 32 n = _
      exact BitVec.zero_add _
  show (((b5 n s y).toInt : ℝ) : EReal) = _
  rw [h5, toInt_small n hn]
  norm_num

include hn in
/-- The rotary angles. -/
theorem b47_val (i : Fin 64) : b47 n s (ix1 i) = ((ang n i.val : ℝ) : EReal) := by
  have hi : ((BitVec.ofNat 32 i.val).toInt : ℝ) = (i.val : ℝ) := by rw [toInt_small i.val (by omega)]; norm_num
  have hp : Ideal.pow (Ideal.ofBits .f32 0x461C4000#32) (Ideal.div (-(((BitVec.ofNat 32 i.val).toInt : ℝ) : EReal)) (Ideal.ofBits .f32 0x42800000#32))
      = ((Real.rpow 10000 (-(i.val : ℝ) * (1 / 64)) : ℝ) : EReal) := by
    rw [hi, lit64_val, lit10000_val, Ideal.div_coe (by norm_num), ← EReal.coe_neg, ← EReal.coe_mul]
    rfl
  have h46 : b46 n s (ix1 i) = (((n : ℕ) : ℝ) : EReal) := (broadcastInDim_apply _ _ _ _ (Shape.Idx.first h_S_) (fun a => a.elim0)).trans (b45_val n hn s _)
  unfold ang
  rw [EReal.coe_mul]
  exact congr (congrArg (fun a b : EReal => a * b) h46) hp

include hs in
/-- The projected row. -/
theorem b27_val (b : Fin 8) (c : Fin 4096) : b27 n s (ix2 b c) = proj I b ⟨n, hn⟩ c := by
  refine (dotGeneral_plain_apply none (b22 n s) (b23 n s) b c).trans ?_
  unfold proj
  refine Finset.sum_congr rfl fun k _ => ?_
  have h23 : b23 n s (ix2 k c) = I.wi (ix3 0 k c) :=
    (shapeCast_apply (s := S1x1024x4096) _ _ _ (ix3 0 k c) (by
      rw [Shape.rowMajor_val_two, Shape.rowMajor_val_three]
      show (0 * 1024 + k.val) * 4096 + c.val = k.val * 4096 + c.val
      omega)).trans (hs.wi k c)
  have h3 := b3_val I n hn s hs b
  have hsum : b9 n s (ix1 b) = ∑ k, I.x (ix3 b ⟨n, hn⟩ k) * I.x (ix3 b ⟨n, hn⟩ k) := by
    refine (Ideal.hostReduceAdd_r2_a1 _ _ _ _).trans ?_
    refine (congrArg (· + _) (show _ = (0 : EReal) by show Ideal.ofBits .f32 0x00000000#32 = 0; simp [Ideal.ofBits, Ideal.ieee])).trans ?_
    rw [zero_add]
    refine Finset.sum_congr rfl fun k _ => ?_
    show b3 n s (ix2 b k) * b3 n s (ix2 b k) = _
    rw [h3]
  have h18 : b18 n s (ix2 b k) = rmsFac 0x44800000#32 0x358637BD#32 (fun k => I.x (ix3 b ⟨n, hn⟩ k)) := by
    refine (broadcastInDim_apply _ _ _ _ (ix2 b 0) (fun a => match a with
      | ⟨0, _⟩ => rfl
      | ⟨1, _⟩ => rfl)).trans ?_
    unfold rmsFac
    refine congrArg (fun z : EReal => Ideal.rsqrt (Ideal.div z _ + _)) ?_
    exact (broadcastInDim_apply _ _ _ _ (ix1 b) (fun a => match a with
      | ⟨0, _⟩ => rfl)).trans hsum
  have h21 : b21 n s (ix2 b k) = I.nw (ix2 0 k) := by
    refine (broadcastInDim_apply _ _ _ _ (ix2 0 k) (fun a => match a with
      | ⟨0, _⟩ => rfl
      | ⟨1, _⟩ => rfl)).trans ?_
    refine (broadcastInDim_apply _ _ _ _ (ix1 k) (fun a => match a with
      | ⟨0, _⟩ => rfl)).trans ?_
    exact (shapeCast_apply (s := S1x1024) _ _ _ (ix2 0 k) (by
      rw [Shape.rowMajor_val_two, Shape.rowMajor_val_one]
      show 0 * 1024 + k.val = k.val
      omega)).trans (hs.nw k)
  refine congr (congrArg (fun a b : EReal => a * b) ?_) h23
  unfold rms
  exact congr (congrArg (fun a b : EReal => a * b) (congr (congrArg (fun a b : EReal => a * b) (h3 k)) h18)) h21

include hI hn hs in
/-- The retention queries of the projected row. -/
theorem b28_val (b : Fin 8) (h : Fin 4) (d : Fin 128) : b28 n s (ix2 b (lane h d)) = ((pr I b (cix 0 (by norm_num) h) n d : ℝ) : EReal) := by
  refine (extractStridedSlice_apply (s := S8x4096) (t := S8x512) ![0, 0] (b27 n s) slices_S8x4096_S8x512_0_0 (ix2 b (lane h d)) (ix2 b ⟨128 * (0 + h.val) + d.val, by omega⟩) (fun a => match a with
    | ⟨0, _⟩ => (Nat.zero_add _).symm
    | ⟨1, _⟩ => by show 128 * (0 + h.val) + d.val = 0 + (128 * h.val + d.val); omega)).trans ?_
  exact (b27_val I n hn s hs b _).trans (proj_eq I hI b ⟨n, hn⟩ (cix 0 (by norm_num) h) d)

include hI hn hs in
/-- The retention keys of the projected row. -/
theorem b29_val (b : Fin 8) (h : Fin 4) (d : Fin 128) : b29 n s (ix2 b (lane h d)) = ((pr I b (cix 4 (by norm_num) h) n d : ℝ) : EReal) := by
  refine (extractStridedSlice_apply (s := S8x4096) (t := S8x512) ![0, 512] (b27 n s) slices_S8x4096_S8x512_0_512 (ix2 b (lane h d)) (ix2 b ⟨128 * (4 + h.val) + d.val, by omega⟩) (fun a => match a with
    | ⟨0, _⟩ => (Nat.zero_add _).symm
    | ⟨1, _⟩ => by show 128 * (4 + h.val) + d.val = 512 + (128 * h.val + d.val); omega)).trans ?_
  exact (b27_val I n hn s hs b _).trans (proj_eq I hI b ⟨n, hn⟩ (cix 4 (by norm_num) h) d)

include hI hn hs in
/-- The retention values of the projected row. -/
theorem b30_val (b : Fin 8) (h : Fin 4) (d : Fin 128) : b30 n s (ix2 b (lane h d)) = ((pr I b (cix 8 (by norm_num) h) n d : ℝ) : EReal) := by
  refine (extractStridedSlice_apply (s := S8x4096) (t := S8x512) ![0, 1024] (b27 n s) slices_S8x4096_S8x512_0_1024 (ix2 b (lane h d)) (ix2 b ⟨128 * (8 + h.val) + d.val, by omega⟩) (fun a => match a with
    | ⟨0, _⟩ => (Nat.zero_add _).symm
    | ⟨1, _⟩ => by show 128 * (8 + h.val) + d.val = 1024 + (128 * h.val + d.val); omega)).trans ?_
  exact (b27_val I n hn s hs b _).trans (proj_eq I hI b ⟨n, hn⟩ (cix 8 (by norm_num) h) d)

include hI hn hs in
/-- The retention gates of the projected row. -/
theorem b31_val (b : Fin 8) (h : Fin 4) (d : Fin 128) : b31 n s (ix2 b (lane h d)) = ((pr I b (cix 12 (by norm_num) h) n d : ℝ) : EReal) := by
  refine (extractStridedSlice_apply (s := S8x4096) (t := S8x512) ![0, 1536] (b27 n s) slices_S8x4096_S8x512_0_1536 (ix2 b (lane h d)) (ix2 b ⟨128 * (12 + h.val) + d.val, by omega⟩) (fun a => match a with
    | ⟨0, _⟩ => (Nat.zero_add _).symm
    | ⟨1, _⟩ => by show 128 * (12 + h.val) + d.val = 1536 + (128 * h.val + d.val); omega)).trans ?_
  exact (b27_val I n hn s hs b _).trans (proj_eq I hI b ⟨n, hn⟩ (cix 12 (by norm_num) h) d)

include hI hn hs in
/-- The gated queries of the projected row. -/
theorem b32_val (b : Fin 8) (h : Fin 4) (d : Fin 128) : b32 n s (ix2 b (lane h d)) = ((pr I b (cix 16 (by norm_num) h) n d : ℝ) : EReal) := by
  refine (extractStridedSlice_apply (s := S8x4096) (t := S8x512) ![0, 2048] (b27 n s) slices_S8x4096_S8x512_0_2048 (ix2 b (lane h d)) (ix2 b ⟨128 * (16 + h.val) + d.val, by omega⟩) (fun a => match a with
    | ⟨0, _⟩ => (Nat.zero_add _).symm
    | ⟨1, _⟩ => by show 128 * (16 + h.val) + d.val = 2048 + (128 * h.val + d.val); omega)).trans ?_
  exact (b27_val I n hn s hs b _).trans (proj_eq I hI b ⟨n, hn⟩ (cix 16 (by norm_num) h) d)

include hI hn hs in
/-- The forget gates of the projected row. -/
theorem b33_val (b : Fin 8) (h : Fin 4) (d : Fin 128) : b33 n s (ix2 b (lane h d)) = ((pr I b (cix 20 (by norm_num) h) n d : ℝ) : EReal) := by
  refine (extractStridedSlice_apply (s := S8x4096) (t := S8x512) ![0, 2560] (b27 n s) slices_S8x4096_S8x512_0_2560 (ix2 b (lane h d)) (ix2 b ⟨128 * (20 + h.val) + d.val, by omega⟩) (fun a => match a with
    | ⟨0, _⟩ => (Nat.zero_add _).symm
    | ⟨1, _⟩ => by show 128 * (20 + h.val) + d.val = 2560 + (128 * h.val + d.val); omega)).trans ?_
  exact (b27_val I n hn s hs b _).trans (proj_eq I hI b ⟨n, hn⟩ (cix 20 (by norm_num) h) d)

include hI hn hs in
/-- The gated values of the projected row. -/
theorem b34_val (b : Fin 8) (h : Fin 4) (d : Fin 128) : b34 n s (ix2 b (lane h d)) = ((pr I b (cix 24 (by norm_num) h) n d : ℝ) : EReal) := by
  refine (extractStridedSlice_apply (s := S8x4096) (t := S8x512) ![0, 3072] (b27 n s) slices_S8x4096_S8x512_0_3072 (ix2 b (lane h d)) (ix2 b ⟨128 * (24 + h.val) + d.val, by omega⟩) (fun a => match a with
    | ⟨0, _⟩ => (Nat.zero_add _).symm
    | ⟨1, _⟩ => by show 128 * (24 + h.val) + d.val = 3072 + (128 * h.val + d.val); omega)).trans ?_
  exact (b27_val I n hn s hs b _).trans (proj_eq I hI b ⟨n, hn⟩ (cix 24 (by norm_num) h) d)

include hI hn hs in
/-- The output gates of the projected row. -/
theorem b35_val (b : Fin 8) (h : Fin 4) (d : Fin 128) : b35 n s (ix2 b (lane h d)) = ((pr I b (cix 28 (by norm_num) h) n d : ℝ) : EReal) := by
  refine (extractStridedSlice_apply (s := S8x4096) (t := S8x512) ![0, 3584] (b27 n s) slices_S8x4096_S8x512_0_3584 (ix2 b (lane h d)) (ix2 b ⟨128 * (28 + h.val) + d.val, by omega⟩) (fun a => match a with
    | ⟨0, _⟩ => (Nat.zero_add _).symm
    | ⟨1, _⟩ => by show 128 * (28 + h.val) + d.val = 3584 + (128 * h.val + d.val); omega)).trans ?_
  exact (b27_val I n hn s hs b _).trans (proj_eq I hI b ⟨n, hn⟩ (cix 28 (by norm_num) h) d)

include hI hn hs in
/-- The turned retention queries. -/
theorem b64_val (b : Fin 8) (h : Fin 4) (d : Fin 128) : b64 n s (ix3 b h d) = ((qR I b h n d : ℝ) : EReal) :=
  turn_val (b36 n s) (b48 n s) (b50 n s) (pr I b (cix 0 (by norm_num) h) n) n b h
    (fun d => (heads _ _ b h d).trans (b28_val I hI n hn s hs b h d)) (fun i => congrArg Ideal.cos (b47_val n hn s i))
    (fun i => congrArg Ideal.sin (b47_val n hn s i)) d

include hI hn hs in
/-- The turned and scaled retention keys. -/
theorem b96_val (b : Fin 8) (h : Fin 4) (d : Fin 128) : b96 n s (ix3 b h d) = ((kR I b h n d * sc : ℝ) : EReal) := by
  rw [EReal.coe_mul]
  refine congr (congrArg (fun a b : EReal => a * b) ?_) sc_val
  exact turn_val (b65 n s) (b77 n s) (b79 n s) (pr I b (cix 4 (by norm_num) h) n) n b h
    (fun d => (heads _ _ b h d).trans (b29_val I hI n hn s hs b h d)) (fun i => congrArg Ideal.cos (b47_val n hn s i))
    (fun i => congrArg Ideal.sin (b47_val n hn s i)) d

/-- The decays. -/
theorem b109_val (b : Fin 8) (h : Fin 4) (d : Fin 128) : b109 n s (ix3 b h d) = ((gam h : ℝ) : EReal) := by
  refine (broadcastInDim_apply _ _ _ _ (ix3 0 h 0) (fun a => match a with
    | ⟨0, _⟩ => rfl
    | ⟨1, _⟩ => rfl
    | ⟨2, _⟩ => rfl)).trans ?_
  refine (broadcastInDim_apply _ _ _ _ (ix1 h) (fun a => match a with
    | ⟨0, _⟩ => rfl)).trans ?_
  show Ideal.ofBits .f32 0x3F800000#32 - Ideal.pow (Ideal.ofBits .f32 0x40000000#32) (Ideal.ofBits .f32 0xC0A00000#32 - (((BitVec.ofNat 32 h.val).toInt : ℝ) : EReal)) = _
  have hh : ((BitVec.ofNat 32 h.val).toInt : ℝ) = (h.val : ℝ) := by rw [toInt_small h.val (by omega)]; norm_num
  rw [hh, one_val, lit2_val, litm5_val, ← EReal.coe_sub]
  unfold gam
  rw [EReal.coe_sub]
  rfl

/-- A row through its logistic gate. -/
theorem silu_val (v : EReal) (r : ℝ) (hv : v = (r : EReal)) :
    v * Ideal.div (Ideal.ofBits .f32 0x3F800000#32) (Ideal.ofBits .f32 0x3F800000#32 + Ideal.exp (-v)) = ((r * sgr r : ℝ) : EReal) := by
  rw [hv, sgr_val, ← EReal.coe_mul]

include hI hn hs in
/-- The gated queries. -/
theorem b122_val (b : Fin 8) (h : Fin 4) (d : Fin 128) : b122 n s (ix3 b h d) = ((qG I b h n d : ℝ) : EReal) := by
  unfold qG
  rw [EReal.coe_mul]
  refine congr (congrArg (fun a b : EReal => a * b) ?_) sc_val
  exact (heads _ _ b h d).trans (silu_val (b32 n s (ix2 b (lane h d))) _ (b32_val I hI n hn s hs b h d))

include hI hn hs in
/-- The forget gates. -/
theorem b141_val (b : Fin 8) (h : Fin 4) (d : Fin 128) : b141 n s (ix3 b h d) = ((fG I b h n d : ℝ) : EReal) := by
  have hl : b123 n s (ix2 h d) = ((lbr I (lane h d) : ℝ) : EReal) :=
    (shapeCast_apply (s := S512) _ _ _ (ix1 (lane h d)) (by
      rw [Shape.rowMajor_val_two, Shape.rowMajor_val_one]
      show 128 * h.val + d.val = h.val * 128 + d.val
      omega)).trans (hs.lb _)
  have h1 : b126 n s (ix2 h d) = ((1 - lbr I (lane h d) : ℝ) : EReal) := by
    rw [EReal.coe_sub]
    exact congr (congrArg (fun a b : EReal => a - b) one_val) hl
  have h127 : b127 n s (ix3 b h d) = ((pr I b (cix 20 (by norm_num) h) n d : ℝ) : EReal) := (heads _ _ b h d).trans (b33_val I hI n hn s hs b h d)
  have h135 : b135 n s (ix3 b h d) = ((sgr (pr I b (cix 20 (by norm_num) h) n d) : ℝ) : EReal) := by
    refine Eq.trans ?_ (sgr_val _)
    exact congrArg (fun v : EReal => Ideal.div (Ideal.ofBits .f32 0x3F800000#32) (Ideal.ofBits .f32 0x3F800000#32 + Ideal.exp (-v))) h127
  unfold fG
  rw [EReal.coe_add, EReal.coe_mul]
  exact congr (congrArg (fun a b : EReal => a + b) ((overSeqs (b123 n s) b h d).trans hl))
    (congr (congrArg (fun a b : EReal => a * b) ((overSeqs (b126 n s) b h d).trans h1)) h135)

include hI hn hs in
/-- The retention states after the trip. -/
theorem b151_val (b : Fin 8) (h : Fin 4) (d e : Fin 128) : b151 n s (ix4 b h d e) = ((SR I b h (n + 1) e d : ℝ) : EReal) := by
  have hv : b97 n s (ix3 b h e) = ((vR I b h n e : ℝ) : EReal) := (heads _ _ b h e).trans (b30_val I hI n hn s hs b h e)
  have hr : SR I b h (n + 1) e d = gam h * SR I b h n e d + (kR I b h n d * sc) * vR I b h n e := by
    show Real.exp (Real.log (gam h)) * SR I b h n e d + vR I b h n e * (kR I b h n d * sc) = _
    rw [Real.exp_log (gam_pos h)]
    ring
  rw [hr, EReal.coe_add, EReal.coe_mul, EReal.coe_mul (kR I b h n d * sc)]
  exact congr (congrArg (fun a b : EReal => a + b) (congr (congrArg (fun a b : EReal => a * b) ((alongKeys (b109 n s) b h d e).trans (b109_val n s b h d))) (hs.sr b h d e)))
    (congr (congrArg (fun a b : EReal => a * b) ((alongKeys (b96 n s) b h d e).trans (b96_val I hI n hn s hs b h d))) ((alongValues (b97 n s) b h d e).trans hv))

include hI hn hs in
/-- The gated states after the trip. -/
theorem b164_val (b : Fin 8) (h : Fin 4) (d e : Fin 128) : b164 n s (ix4 b h d e) = ((SG I b h (n + 1) e d : ℝ) : EReal) := by
  have hv : b142 n s (ix3 b h e) = ((vG I b h n e : ℝ) : EReal) := (heads _ _ b h e).trans (b34_val I hI n hn s hs b h e)
  have hk : b155 n s (ix3 b h d) = ((1 - fG I b h n d : ℝ) : EReal) := by
    rw [EReal.coe_sub]
    exact congr (congrArg (fun a b : EReal => a - b) one_val) (b141_val I hI n hn s hs b h d)
  have hr : SG I b h (n + 1) e d = fG I b h n d * SG I b h n e d + (1 - fG I b h n d) * vG I b h n e := by
    show Real.exp (Real.log (fG I b h n d)) * SG I b h n e d + vG I b h n e * (1 - fG I b h n d) = _
    rw [Real.exp_log (fG_pos I b h n d)]
    ring
  rw [hr, EReal.coe_add, EReal.coe_mul, EReal.coe_mul (1 - fG I b h n d)]
  exact congr (congrArg (fun a b : EReal => a + b) (congr (congrArg (fun a b : EReal => a * b) ((alongKeys (b141 n s) b h d e).trans (b141_val I hI n hn s hs b h d))) (hs.sg b h d e)))
    (congr (congrArg (fun a b : EReal => a * b) ((alongKeys (b155 n s) b h d e).trans hk)) ((alongValues (b142 n s) b h d e).trans hv))

include hI hn hs in
/-- The retention heads' outputs. -/
theorem b152_val (b : Fin 8) (h : Fin 4) (e : Fin 128) : b152 n s (ix3 b h e) = ((∑ d, qR I b h n d * SR I b h (n + 1) e d : ℝ) : EReal) := by
  refine (readState (b64 n s) (b151 n s) b h e).trans ?_
  rw [← coe_sum]
  refine Finset.sum_congr rfl fun d _ => ?_
  rw [b64_val I hI n hn s hs, b151_val I hI n hn s hs, EReal.coe_mul]

include hI hn hs in
/-- The gated heads' outputs. -/
theorem b165_val (b : Fin 8) (h : Fin 4) (e : Fin 128) : b165 n s (ix3 b h e) = ((∑ d, qG I b h n d * SG I b h (n + 1) e d : ℝ) : EReal) := by
  refine (readState (b122 n s) (b164 n s) b h e).trans ?_
  rw [← coe_sum]
  refine Finset.sum_congr rfl fun d _ => ?_
  rw [b122_val I hI n hn s hs, b164_val I hI n hn s hs, EReal.coe_mul]

include hI hn hs in
/-- The retention heads' rows. -/
theorem b193_val (b : Fin 8) (h : Fin 4) (e : Fin 128) : b193 n s (ix2 b (lane h e)) = hdR I b h n e := by
  refine (lanes _ _ b h e).trans ?_
  have hw : (fun e : Fin 128 => b24 n s (ix1 e)) = fun e => I.rw (ix2 0 e) := funext fun e =>
    (shapeCast_apply (s := S1x128) _ _ _ (ix2 0 e) (by
      rw [Shape.rowMajor_val_two, Shape.rowMajor_val_one]
      show 0 * 128 + e.val = e.val
      omega)).trans (hs.rw e)
  have hg : b175 n s (ix3 b h e) = ((gt I b (cix 12 (by norm_num) h) n e : ℝ) : EReal) :=
    (heads _ _ b h e).trans (silu_val (b31 n s (ix2 b (lane h e))) _ (b31_val I hI n hn s hs b h e))
  unfold hdR hd
  rw [← hw]
  exact congr (congrArg (fun a b : EReal => a * b) (norm_val (b152 n s) (b24 n s) b h _ (fun e => b152_val I hI n hn s hs b h e) e)) hg

include hI hn hs in
/-- The gated heads' rows. -/
theorem b221_val (b : Fin 8) (h : Fin 4) (e : Fin 128) : b221 n s (ix2 b (lane h e)) = hdG I b h n e := by
  refine (lanes _ _ b h e).trans ?_
  have hw : (fun e : Fin 128 => b25 n s (ix1 e)) = fun e => I.hw (ix2 0 e) := funext fun e =>
    (shapeCast_apply (s := S1x128) _ _ _ (ix2 0 e) (by
      rw [Shape.rowMajor_val_two, Shape.rowMajor_val_one]
      show 0 * 128 + e.val = e.val
      omega)).trans (hs.hw e)
  have hg : b203 n s (ix3 b h e) = ((gt I b (cix 28 (by norm_num) h) n e : ℝ) : EReal) :=
    (heads _ _ b h e).trans (silu_val (b35 n s (ix2 b (lane h e))) _ (b35_val I hI n hn s hs b h e))
  unfold hdG hd
  rw [← hw]
  exact congr (congrArg (fun a b : EReal => a * b) (norm_val (b165 n s) (b25 n s) b h _ (fun e => b165_val I hI n hn s hs b h e) e)) hg

include hI hn hs in
/-- The eight heads side by side. -/
theorem b222_val (b : Fin 8) (k : Fin 1024) : b222 n s (ix2 b k) = hdA I b n k := by
  unfold hdA
  by_cases hk : k.val < 512
  · rw [dif_pos hk]
    refine (concatenate_pair_apply_left (t := S8x1024) (s₁ := S8x512) (s₂ := S8x512) 1 _ _ _ _ rfl (ix2 b (lane ⟨k.val / 128, by omega⟩ ⟨k.val % 128, Nat.mod_lt _ (by norm_num)⟩)) (fun a => match a with
      | ⟨0, _⟩ => rfl
      | ⟨1, _⟩ => by show 128 * (k.val / 128) + k.val % 128 = k.val; omega)).trans ?_
    exact b193_val I hI n hn s hs b _ _
  · rw [dif_neg hk]
    refine (concatenate_pair_apply_right (t := S8x1024) (s₁ := S8x512) (s₂ := S8x512) 1 _ _ _ _ rfl rfl (ix2 b (lane ⟨k.val / 128 - 4, by omega⟩ ⟨k.val % 128, Nat.mod_lt _ (by norm_num)⟩)) (fun a => match a with
      | ⟨0, _⟩ => fun _ => rfl
      | ⟨1, _⟩ => fun hne => absurd rfl hne) (by show 128 * (k.val / 128 - 4) + k.val % 128 + 512 = k.val; omega)).trans ?_
    exact b221_val I hI n hn s hs b _ _

include hI hs in
/-- The row that comes out. -/
theorem b224_val (b : Fin 8) (c : Fin 1024) : b224 n s (ix2 b c) = yrow I b ⟨n, hn⟩ c := by
  unfold yrow
  refine congr (congrArg (fun a b : EReal => a + b) (b3_val I n hn s hs b c)) ?_
  refine (dotGeneral_plain_apply none (b222 n s) (b26 n s) b c).trans (Finset.sum_congr rfl fun k _ => ?_)
  have h26 : b26 n s (ix2 k c) = I.wo (ix3 0 k c) :=
    (shapeCast_apply (s := S1x1024x1024) _ _ _ (ix3 0 k c) (by
      rw [Shape.rowMajor_val_two, Shape.rowMajor_val_three]
      show (0 * 1024 + k.val) * 1024 + c.val = k.val * 1024 + c.val
      omega)).trans (hs.wo k c)
  rw [b222_val I hI n hn s hs, h26]

include hI hs hn in
/-- The rows out after the trip. -/
theorem b228_val (t : Fin 2048) (b : Fin 8) (c : Fin 1024) (ht : t.val < n + 1) : b228 n s (ix3 t b c) = yrow I b t c := by
  have h0 : Host.clampedStart S2048x8x1024 S1x8x1024 rfl (fun k => (((![(constantI S_ 32 (BitVec.ofNat 32 n) : (⟨S_, .i32⟩ : BufTy).Contents (Elt Ideal)), (b226 n s), (b227 n s)] : Fin 3 → (⟨S_, .i32⟩ : BufTy).Contents (Elt Ideal))) k (Shape.Idx.first h_S_)).toInt) 0 = n :=
    Host.clampedStart_of_le _ _ _ n (toInt_small n hn) (by show n + 1 ≤ 2048; omega)
  have h1 : Host.clampedStart S2048x8x1024 S1x8x1024 rfl (fun k => (((![(constantI S_ 32 (BitVec.ofNat 32 n) : (⟨S_, .i32⟩ : BufTy).Contents (Elt Ideal)), (b226 n s), (b227 n s)] : Fin 3 → (⟨S_, .i32⟩ : BufTy).Contents (Elt Ideal))) k (Shape.Idx.first h_S_)).toInt) 1 = 0 :=
    Host.clampedStart_of_le _ _ _ 0 rfl (by show 0 + 8 ≤ 8; omega)
  have h2 : Host.clampedStart S2048x8x1024 S1x8x1024 rfl (fun k => (((![(constantI S_ 32 (BitVec.ofNat 32 n) : (⟨S_, .i32⟩ : BufTy).Contents (Elt Ideal)), (b226 n s), (b227 n s)] : Fin 3 → (⟨S_, .i32⟩ : BufTy).Contents (Elt Ideal))) k (Shape.Idx.first h_S_)).toInt) 2 = 0 :=
    Host.clampedStart_of_le _ _ _ 0 rfl (by show 0 + 1024 ≤ 1024; omega)
  refine (Host.dynamicUpdateSlice_apply _ _ _ _ _).trans ?_
  by_cases htn : t.val = n
  · rw [dif_pos (fun a => match a with
      | ⟨0, _⟩ => ⟨h0.le.trans htn.ge, lt_of_lt_of_eq (by show t.val < n + 1; omega) (congrArg (· + 1) h0.symm)⟩
      | ⟨1, _⟩ => ⟨h1.le.trans (Nat.zero_le _), lt_of_lt_of_eq (by show b.val < 0 + 8; omega) (congrArg (· + 8) h1.symm)⟩
      | ⟨2, _⟩ => ⟨h2.le.trans (Nat.zero_le _), lt_of_lt_of_eq (by show c.val < 0 + 1024; omega) (congrArg (· + 1024) h2.symm)⟩)]
    refine (broadcastInDim_apply _ _ _ _ (ix2 b c) (fun a => ?_)).trans ((b224_val I hI n hn s hs b c).trans ?_)
    · match a with
      | ⟨0, _⟩ => exact (congrArg (b.val - ·) h1).symm
      | ⟨1, _⟩ => exact (congrArg (c.val - ·) h2).symm
    · exact congrArg (fun t => yrow I b t c) (Fin.ext htn.symm)
  · rw [dif_neg (fun hall => htn (Nat.le_antisymm (by omega) (h0.ge.trans (hall 0).1)))]
    exact hs.ys t b c (by omega)

include hI hn hs in
/-- One trip of the scan. -/
theorem held_succ : Held I (n + 1) (step n s) where
  x := hs.x
  nw := hs.nw
  wi := hs.wi
  rw := hs.rw
  hw := hs.hw
  wo := hs.wo
  lb := hs.lb
  sr := fun b h d e => b151_val I hI n hn s hs b h d e
  sg := fun b h d e => b164_val I hI n hn s hs b h d e
  ys := fun t b c ht => b228_val I hI n hn s hs t b c ht

/-- A fold over two positions. -/
theorem foldOverPair (N : ℕ) (hN : N = 2) (h0 : 0 < N) (h1 : 1 < N) (g : EReal → Fin N → EReal) (v : EReal) :
    (List.finRange N).foldl g v = g (g v ⟨0, h0⟩) ⟨1, h1⟩ := by
  subst hN
  rfl

/-- A window whose first position is padding. -/
theorem pairStep (v : EReal) (hv : v = 0) {q0 q1 : Prop} {d0 : Decidable q0} {d1 : Decidable q1} (A : q0 → EReal) (B : q1 → EReal) (n0 : ¬q0) (p1 : q1) :
    (v + @dite _ q0 d0 A fun _ => v) + (@dite _ q1 d1 B fun _ => v) = B p1 := by
  rw [dif_neg n0, dif_pos p1, hv, zero_add, zero_add]

/-- The running sum's first row is the first row. -/
theorem cumFirst (x : FVec Ideal S2x512 .f32) (v : S_.Idx → EReal) (hv : ∀ y, v y = 0) (i : Fin 512) :
    Host.reduceWindowAdd (F := Ideal) (φ := .f32) ![2, 1] ![1, 1] ![1, 0] ![0, 0] x v reduceWindows_S2x512_S2x512_w2s1p1_0_w1s1p0_0 h_S_ (ix2 0 i) = x (ix2 0 i) := by
  show Host.reduceWindow (fun a b : EReal => a + b) ![2, 1] ![1, 1] ![1, 0] ![0, 0] x (fun _ : S_.Idx => v (Shape.Idx.first h_S_)) reduceWindows_S2x512_S2x512_w2s1p1_0_w1s1p0_0 h_S_ (ix2 0 i) = _
  unfold Host.reduceWindow
  refine (foldOverPair (Shape.numel ⟨2, ![2, 1]⟩) rfl (by decide) (by decide) _ _).trans ?_
  have c0 : (Shape.rowMajor ⟨2, ![2, 1]⟩).symm ⟨0, by decide⟩ = ix2 (0 : Fin 2) (0 : Fin 1) := (Equiv.symm_apply_eq _).mpr (Fin.ext (by rw [Shape.rowMajor_val_two]; rfl))
  have c1 : (Shape.rowMajor ⟨2, ![2, 1]⟩).symm ⟨1, by decide⟩ = ix2 (1 : Fin 2) (0 : Fin 1) := (Equiv.symm_apply_eq _).mpr (Fin.ext (by rw [Shape.rowMajor_val_two]; rfl))
  have e0 : (((Shape.rowMajor ⟨2, ![2, 1]⟩).symm ⟨0, by decide⟩) 0).val = 0 := by rw [c0]; rfl
  have e1 : (((Shape.rowMajor ⟨2, ![2, 1]⟩).symm ⟨1, by decide⟩) 0).val = 1 := by rw [c1]; rfl
  have e2 : (((Shape.rowMajor ⟨2, ![2, 1]⟩).symm ⟨1, by decide⟩) 1).val = 0 := by rw [c1]; rfl
  refine (pairStep (v (Shape.Idx.first h_S_)) (hv _) _ _ ?_ ?_).trans (congrArg x (?_ : _ = ix2 0 i))
  · intro h
    have h' : 1 ≤ 0 * 1 + (((Shape.rowMajor ⟨2, ![2, 1]⟩).symm ⟨0, by decide⟩) 0).val := (h 0).1
    omega
  · intro a
    match a with
    | ⟨0, _⟩ =>
      show 1 ≤ 0 * 1 + (((Shape.rowMajor ⟨2, ![2, 1]⟩).symm ⟨1, by decide⟩) 0).val ∧ 0 * 1 + (((Shape.rowMajor ⟨2, ![2, 1]⟩).symm ⟨1, by decide⟩) 0).val - 1 < 2
      omega
    | ⟨1, _⟩ =>
      show 0 ≤ i.val * 1 + (((Shape.rowMajor ⟨2, ![2, 1]⟩).symm ⟨1, by decide⟩) 1).val ∧ i.val * 1 + (((Shape.rowMajor ⟨2, ![2, 1]⟩).symm ⟨1, by decide⟩) 1).val - 0 < 512
      omega
  · funext a
    apply Fin.ext
    match a with
    | ⟨0, _⟩ =>
      show 0 * 1 + (((Shape.rowMajor ⟨2, ![2, 1]⟩).symm ⟨1, by decide⟩) 0).val - 1 = 0
      omega
    | ⟨1, _⟩ =>
      show i.val * 1 + (((Shape.rowMajor ⟨2, ![2, 1]⟩).symm ⟨1, by decide⟩) 1).val - 0 = i.val
      omega

/-- The maximum of two rows. -/
theorem maxTwo (x : FVec Ideal S2x512 .f32) (i : Fin 512) :
    Host.reduce (FloatOps.maximumf (F := Ideal) (φ := .f32)) x (constant (F := Ideal) S_ .f32 0xFF800000#32) reducesTo_S2x512_S512_d0 h_S_ (ix1 i) = max (x (ix2 0 i)) (x (ix2 1 i)) := by
  have hr : S2x512.Reduces [0] S512 := ⟨reducesTo_S2x512_S512_d0.1, Nat.one_pos, reducesTo_S2x512_S512_d0.2⟩
  have hl (k : Fin 2) : hr.lift (ix1 i) k = ix2 k i := by
    funext b; match b with
    | ⟨0, _⟩ => rfl
    | ⟨1, _⟩ => rfl
  have hb : Ideal.ofBits .f32 0xFF800000#32 = (⊥ : EReal) := by simp [Ideal.ofBits, Ideal.ieee]
  have hu : (Finset.univ : Finset (Fin 2)) = insert 0 {1} := by decide
  have hf (z : EReal) (hz : z = ⊥) (f : Fin 2 → EReal) : (Finset.univ : Finset (Fin 2)).fold max z f = max (f 0) (f 1) := by
    rw [hu, Finset.fold_insert (by decide), Finset.fold_singleton, hz, max_bot_right]
  have hm (hφ : FKind.Formats .f32) (ha : 0xFF800000#32 = FKind.maximumf.neutral .f32 hφ) :
      multiReduction .maximumf [0] S512 x 0xFF800000#32 hr hφ ha (ix1 i) = max (x (ix2 0 i)) (x (ix2 1 i)) := by
    rw [Ideal.multiReduction_maximumf_single]
    refine (hf _ hb (fun k : Fin 2 => x (hr.lift (ix1 i) k))).trans ?_
    rw [hl, hl]
  exact (congrFun (hostReduce_maximumf_eq_multiReduction x 0xFF800000#32 reducesTo_S2x512_S512_d0 h_S_ hr (.inl rfl) rfl) (ix1 i)).trans (hm _ _)

/-- The gates' lower bounds from real logits. -/
theorem lb_val (I : Inp) (hI : I.Fine) (a0 : (⟨S8x2048x1024, .f32⟩ : BufTy).Contents (Elt Ideal)) (i : Fin 512) :
    A_main_v14 (F := Ideal) a0 I.lb (ix1 i) = ((lbr I i : ℝ) : EReal) := by
  refine (shapeCast_apply (s := S1x512) _ _ _ (ix2 0 i) (by
    rw [Shape.rowMajor_val_two, Shape.rowMajor_val_one]
    show 0 * 512 + i.val = i.val
    omega)).trans ?_
  refine (extractStridedSlice_apply (s := S2x512) (t := S1x512) ![0, 0] _ slices_S2x512_S1x512_0_0 (ix2 0 i) (ix2 0 i) (fun a => match a with
    | ⟨0, _⟩ => (Nat.zero_add _).symm
    | ⟨1, _⟩ => (Nat.zero_add _).symm)).trans ?_
  refine (cumFirst (A_main_v11 (F := Ideal) a0 I.lb) _ (fun y => by show Ideal.ofBits .f32 0x00000000#32 = 0; simp [Ideal.ofBits, Ideal.ieee]) i).trans ?_
  have hx (k : Fin 2) : I.lb (ix2 k i) = ((lg I k i : ℝ) : EReal) := lg_eq I hI k i
  have row (x : FVec Ideal S512 .f32) (k : Fin 2) : broadcastInDim S2x512 ![0, 1] bcast_S1x512_S2x512_0_1 (broadcastInDim S1x512 ![1] bcast_S512_S1x512_1 x) (ix2 k i) = x (ix1 i) := by
    refine (broadcastInDim_apply _ _ _ _ (ix2 0 i) fun a => ?_).trans (broadcastInDim_apply _ _ _ _ (ix1 i) fun a => ?_)
    · match a with
      | ⟨0, _⟩ => rfl
      | ⟨1, _⟩ => rfl
    · match a with
      | ⟨0, _⟩ => rfl
  have h3 : A_main_v3 (F := Ideal) a0 I.lb (ix1 i) = ((max (lg I 0 i) (lg I 1 i) : ℝ) : EReal) := by
    have hb : Ideal.ofBits .f32 0xFF800000#32 = (⊥ : EReal) := by simp [Ideal.ofBits, Ideal.ieee]
    show max (Ideal.ofBits .f32 0xFF800000#32) (A_main_v1 (F := Ideal) a0 I.lb (ix1 i)) = _
    rw [hb, max_bot_left]
    refine (maxTwo I.lb i).trans ?_
    rw [hx, hx]
    exact (EReal.coe_strictMono.monotone.map_max).symm
  have h7 (k : Fin 2) : A_main_v7 (F := Ideal) a0 I.lb (ix2 k i) = ((Real.exp (lg I k i - max (lg I 0 i) (lg I 1 i)) : ℝ) : EReal) := by
    show Ideal.exp (I.lb (ix2 k i) - A_main_v5 (F := Ideal) a0 I.lb (ix2 k i)) = _
    have h5 : A_main_v5 (F := Ideal) a0 I.lb (ix2 k i) = ((max (lg I 0 i) (lg I 1 i) : ℝ) : EReal) := (row _ k).trans h3
    rw [hx, h5, ← EReal.coe_sub, Ideal.exp_coe]
  have h8 : A_main_v8 (F := Ideal) a0 I.lb (ix1 i) = ((Real.exp (lg I 0 i - max (lg I 0 i) (lg I 1 i)) + Real.exp (lg I 1 i - max (lg I 0 i) (lg I 1 i)) : ℝ) : EReal) := by
    refine (Ideal.hostReduceAdd_r2_a0 _ _ _ _).trans ?_
    refine (congrArg (· + _) (show _ = (0 : EReal) by show Ideal.ofBits .f32 0x00000000#32 = 0; simp [Ideal.ofBits, Ideal.ieee])).trans ?_
    rw [zero_add, EReal.coe_add]
    exact (Fin.sum_univ_two (fun k : Fin 2 => A_main_v7 (F := Ideal) a0 I.lb (ix2 k i))).trans (congr (congrArg (fun a b : EReal => a + b) (h7 0)) (h7 1))
  have hpos : Real.exp (lg I 0 i - max (lg I 0 i) (lg I 1 i)) + Real.exp (lg I 1 i - max (lg I 0 i) (lg I 1 i)) ≠ 0 := by positivity
  show Ideal.div (A_main_v7 (F := Ideal) a0 I.lb (ix2 0 i)) (A_main_v10 (F := Ideal) a0 I.lb (ix2 0 i)) = _
  have h10 : A_main_v10 (F := Ideal) a0 I.lb (ix2 0 i) = ((Real.exp (lg I 0 i - max (lg I 0 i) (lg I 1 i)) + Real.exp (lg I 1 i - max (lg I 0 i) (lg I 1 i)) : ℝ) : EReal) := (row _ 0).trans h8
  rw [h10, h7, Ideal.div_coe hpos, ← EReal.coe_mul]
  rfl

/-- The scan before its first trip. -/
theorem held_init (I : Inp) (hI : I.Fine) : Held I 0 (init (F := Ideal) I.nw I.wi I.rw I.hw I.wo I.x I.lb) where
  x := fun t b k => transpose_apply (s := S8x2048x1024) (t := S2048x8x1024) [1, 0, 2] I.x transposes_S8x2048x1024_S2048x8x1024_1_0_2 (ix3 t b k) (ix3 b t k) (fun a => match a with
    | ⟨0, _⟩ => rfl
    | ⟨1, _⟩ => rfl
    | ⟨2, _⟩ => rfl)
  nw := fun _ => rfl
  wi := fun _ _ => rfl
  rw := fun _ => rfl
  hw := fun _ => rfl
  wo := fun _ _ => rfl
  lb := fun i => lb_val I hI I.x i
  sr := fun b h d e => by show Ideal.ofBits .f32 0x00000000#32 = ((0 : ℝ) : EReal); simp [Ideal.ofBits, Ideal.ieee]
  sg := fun b h d e => by show Ideal.ofBits .f32 0x00000000#32 = ((0 : ℝ) : EReal); simp [Ideal.ofBits, Ideal.ieee]
  ys := fun t b c ht => absurd ht (Nat.not_lt_zero _)

/-- The states of the scan. -/
def states (s : State Ideal) : ℕ → State Ideal
  | 0 => s
  | n + 1 => step n (states s n)

/-- The scan holds the layer's numbers after every trip. -/
theorem held (I : Inp) (hI : I.Fine) : ∀ n, n ≤ 2048 → Held I n (states (init (F := Ideal) I.nw I.wi I.rw I.hw I.wo I.x I.lb) n)
  | 0, _ => held_init I hI
  | n + 1, hn => held_succ I hI n hn _ (held I hI n (by omega))

/-- The rows that come out of the scan. -/
theorem rows_val (I : Inp) (s : State Ideal) (hs : Held I 2048 s) (b : Fin 8) (t : Fin 2048) (c : Fin 1024) : R_main_v21 s (ix3 b t c) = yrow I b t c :=
  (transpose_apply (s := S2048x8x1024) (t := S8x2048x1024) [1, 0, 2] s.main_v20_11 transposes_S2048x8x1024_S8x2048x1024_1_0_2 (ix3 b t c) (ix3 t b c) (fun a => match a with
    | ⟨0, _⟩ => rfl
    | ⟨1, _⟩ => rfl
    | ⟨2, _⟩ => rfl)).trans (hs.ys t b c t.isLt)

end Cert.Proof.PromptReference

end
-- ==== Proof.PromptValue.lean ====
/-
  The mixing layer's value claim: from finite weights the call's rows and states are the reference's.
-/
module

public import proofs.«01_k».proof.Proof.Frames
public import proofs.«01_k».proof.Proof.PromptKernel
public import proofs.«01_k».proof.Proof.PromptReference

@[expose] public section

set_option synthInstance.maxSize 4096

noncomputable section

open Idealize.ShloMosaic hiding ix1 ix2 ix3 ix4 eq_ix2 eq_ix3 eq_ix4
open Idealize.ShloMosaic.TcCoe Idealize.SL.Sem Idealize.ShloMosaic.ValueIdx Idealize.ShloMosaic.StableHlo
open scoped BigOperators

namespace Cert.Proof.PromptValue

open Cert.Proof.Base Cert.Proof.Prompt Cert.Proof.PromptArray

/-- A value below infinity in size is a real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨x.toReal, (EReal.coe_toReal hlt.1.ne ?_).symm⟩
  intro hb
  rw [hb] at hlt
  simp at hlt

/-- An array whose every entry passes the test for being finite holds reals. -/
theorem reals_of_test {s : Shape} (hb : (⟨0, ![]⟩ : Shape).BroadcastsInDim s (![] : Fin 0 → Fin s.rank)) (x : FVec Ideal s .f32)
    (h : cmpf .olt (Host.absf x) (broadcastInDim s ![] hb (constant (F := Ideal) (⟨0, ![]⟩ : Shape) .f32 0x7F800000#32)) = fun _ => 1#1) (i : s.Idx) : ∃ r : ℝ, x i = r :=
  real_of_lt (x i) (congrFun h i)

/-- Inputs that meet the precondition have finite weights. -/
theorem fine (m : (ℓ : Loc Cert.PromptIdeal.nD Cert.PromptIdeal.τ Cert.PromptIdeal.sig) → Buf (Elt Ideal) ℓ) (h : Cert.Pre_PromptIdeal_finite m) (c : Dev Cert.PromptIdeal.nD) : (inp m c).Fine where
  nw := reals_of_test _ _ (h c).1
  wi := reals_of_test _ _ (h c).2.1
  lb := reals_of_test _ _ (h c).2.2

/-- From finite weights the call's rows and states are the reference's. -/
theorem algebraic : Cert.algebraic_PromptIdeal_PromptRefIdeal_pre_finite := by
  intro m ρ m' ρ' hpre hagree
  refine ⟨fun c => (Cert.PromptIdeal.Gen.dats m 0 c).arrAt 9 Cert.PromptIdeal.cfg0.N, fun c => (Cert.PromptIdeal.Gen.dats m 0 c).arrAt 10 Cert.PromptIdeal.cfg0.N,
    fun c => (Cert.PromptIdeal.Gen.dats m 0 c).arrAt 11 Cert.PromptIdeal.cfg0.N, Cert.PromptIdeal.Value.run_blocks (F := Ideal) m ρ, ?_⟩
  have hheld (c : Dev Cert.PromptRefIdeal.nD) : PromptReference.Held (inp m c) 2048 (PromptReference.states (Cert.PromptRefIdeal.StepRun2.initState m' c) 2048) := by
    obtain ⟨h0, h1, h2, h3, h4, h5, h6⟩ := hagree c
    have e : Cert.PromptRefIdeal.StepRun2.initState m' c
        = Cert.PromptRefIdeal.Step.init (F := Ideal) (inp m c).nw (inp m c).wi (inp m c).rw (inp m c).hw (inp m c).wo (inp m c).x (inp m c).lb := by
      show Cert.PromptRefIdeal.Step.init (F := Ideal) _ _ _ _ _ _ _ = _
      rw [h0, h1, h2, h3, h4, h5, h6]
      rfl
    rw [e]
    exact PromptReference.held (inp m c) (fine m hpre c) 2048 le_rfl
  refine (θ_run _ _ _).mono (fun _ h c => ⟨(h c).1.trans ?_, (h c).2.1.trans ?_, (h c).2.2.1.trans ?_, (h c).2.2.2⟩)
    (Cert.PromptRefIdeal.StepRun2.run_iter (F := Ideal) m' ρ' (fun c n => PromptReference.states (Cert.PromptRefIdeal.StepRun2.initState m' c) n) (fun _ => rfl) (fun _ _ => rfl))
  · funext i
    rw [eq_ix3 i]
    exact (PromptReference.rows_val (inp m c) _ (hheld c) _ _ _).trans (PromptKernel.rows_apply m c (fine m hpre c) _ _ _).symm
  · funext i
    rw [eq_ix4 i]
    exact ((hheld c).sr _ _ _ _).trans (PromptKernel.ret_apply m c (fine m hpre c) _ _ _ _).symm
  · funext i
    rw [eq_ix4 i]
    exact ((hheld c).sg _ _ _ _).trans (PromptKernel.gat_apply m c (fine m hpre c) _ _ _ _).symm

end Cert.Proof.PromptValue

end
-- ==== Proof.lean ====
module

public import proofs.«01_k».proof.Defs
public import proofs.«01_k».proof.Proof.Frames
public import proofs.«01_k».proof.Proof.FfnReference
public import proofs.«01_k».proof.Proof.FsReference
public import proofs.«01_k».proof.Proof.PromptValue

@[expose] public section

noncomputable section

namespace Cert.Proof

/-- Every claim of the certificate. -/
theorem claim : Cert.Claim :=
  ⟨Cert.Prompt.Gen.facts, Cert.PromptIdeal.Gen.facts, Cert.PromptRefIdeal.Gen.facts, Cert.Ffn.Gen.facts, Cert.FfnIdeal.Gen.facts, Cert.FfnRefIdeal.Gen.facts, Cert.Fs.Gen.facts, Cert.FsIdeal.Gen.facts, Cert.FsRefIdeal.Gen.facts, preFacts,
    quiescent_Prompt,
    quiescent_PromptIdeal,
    quiescent_PromptIdeal_pre_finite,
    quiescent_PromptRefIdeal,
    quiescent_PromptRefIdeal_pre_finite,
    quiescent_Ffn,
    quiescent_FfnIdeal,
    quiescent_FfnRefIdeal,
    quiescent_Fs,
    quiescent_FsIdeal,
    quiescent_FsRefIdeal,
    preserves_Prompt_PromptIdeal,
    PromptValue.algebraic,
    preserves_Ffn_FfnIdeal,
    Ffn.algebraic,
    preserves_Fs_FsIdeal,
    Fs.algebraic⟩

end Cert.Proof

end
